-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_not_negative [hPre_scales_not_negative : Cert.Pre_scales_not_negative.Facts] (m : (ℓ : Loc Cert.KernelIdeal.nD Cert.KernelIdeal.τ Cert.KernelIdeal.sig) → Buf (Elt Ideal) ℓ) : Prop :=
  ∀ c : Dev Cert.KernelIdeal.nD,
    (Cert.Pre_scales_not_negative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_not_negative [hPre_scales_not_negative : Cert.Pre_scales_not_negative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_not_negative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_not_negative [hKernelIdeal : Cert.KernelIdeal.Facts] [hPre_scales_not_negative : Cert.Pre_scales_not_negative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_not_negative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_not_negative [hReferenceIdeal : Cert.ReferenceIdeal.Facts] [hPre_scales_not_negative : Cert.Pre_scales_not_negative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_not_negative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_scales_not_negative [hKernelIdeal : Cert.KernelIdeal.Facts] [hReferenceIdeal : Cert.ReferenceIdeal.Facts] [hPre_scales_not_negative : Cert.Pre_scales_not_negative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_not_negative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_not_negative : Cert.Pre_scales_not_negative.Facts),
    quiescent_Kernel (hKernel := hKernel)
    ∧ quiescent_KernelIdeal (hKernelIdeal := hKernelIdeal)
    ∧ quiescent_KernelIdeal_pre_scales_not_negative (hKernelIdeal := hKernelIdeal) (hPre_scales_not_negative := hPre_scales_not_negative)
    ∧ quiescent_ReferenceIdeal (hReferenceIdeal := hReferenceIdeal)
    ∧ quiescent_ReferenceIdeal_pre_scales_not_negative (hReferenceIdeal := hReferenceIdeal) (hPre_scales_not_negative := hPre_scales_not_negative)
    ∧ preserves_Kernel_KernelIdeal
    ∧ algebraic_KernelIdeal_ReferenceIdeal_pre_scales_not_negative (hKernelIdeal := hKernelIdeal) (hReferenceIdeal := hReferenceIdeal) (hPre_scales_not_negative := hPre_scales_not_negative)
-- ==== Pre_scales_not_negative.lean ====
abbrev S4x16384x2048 : Shape := ⟨3, ![4, 16384, 2048]⟩
abbrev S4x16384x256 : Shape := ⟨3, ![4, 16384, 256]⟩
abbrev S16 : Shape := ⟨1, ![16]⟩
abbrev S2 : Shape := ⟨1, ![2]⟩
abbrev S2x8 : Shape := ⟨2, ![2, 8]⟩
abbrev S2x1 : Shape := ⟨2, ![2, 1]⟩
abbrev S_ : Shape := ⟨0, ![]⟩

class Facts : Prop where
  shapeCasts_S16_S2x8 : S16.ShapeCasts S2x8
  bcast_S2_S2x1_0 : S2.BroadcastsInDim S2x1 (![0] : Fin 1 → Fin S2x1.rank)
  bcast_S2x1_S2x8_0_1 : S2x1.BroadcastsInDim S2x8 (![0, 1] : Fin 2 → Fin S2x8.rank)
  bcast_S_S2x8 : S_.BroadcastsInDim S2x8 (![] : Fin 0 → Fin S2x8.rank)
  reducesTo_S2x8_S_d0_1 : S2x8.ReducesTo [0, 1] S_
  h_S_ : 0 < S_.numel

variable [Facts]

def fn {F : FTy → Type} [FloatOps F] (main_arg0 : FVec F S4x16384x2048 .fp8e4m3) (main_arg1 : FVec F S4x16384x256 .fp8e4m3) (main_arg2 : FVec F S4x16384x256 .fp8e4m3) (main_arg3 : FVec F S16 .f32) (main_arg4 : FVec F S2 .f32) (main_arg5 : FVec F S2 .f32) : IVec S_ 1 :=
  let main_v0 : FVec F S2x8 .f32 := shapeCast S2x8 main_arg3 shapeCasts_S16_S2x8
  let main_v1 : FVec F S2x1 .f32 := broadcastInDim S2x1 ![0] bcast_S2_S2x1_0 main_arg4
  let main_v2 : FVec F S2x8 .f32 := broadcastInDim S2x8 ![0, 1] bcast_S2x1_S2x8_0_1 main_v1
  let main_v3 : FVec F S2x8 .f32 := mulf main_v0 main_v2
  let main_cst : FVec F S_ .f32 := constant S_ .f32 0x00000000#32
  let main_v4 : FVec F S2x8 .f32 := broadcastInDim S2x8 ![] bcast_S_S2x8 main_cst
  let main_v5 : IVec S2x8 1 := cmpf .oge main_v3 main_v4
  let main_c : IVec S_ 1 := constantI S_ 1 1#1
  let main_v6 : IVec S_ 1 := (fun x v => Host.reduce IntOp.andi x v reducesTo_S2x8_S_d0_1 h_S_) main_v5 main_c
  main_v6
-- ==== Kernel.lean ====
abbrev S4x16384x2048 : Shape := ⟨3, ![4, 16384, 2048]⟩
abbrev S4x16384x256 : Shape := ⟨3, ![4, 16384, 256]⟩
abbrev S16 : Shape := ⟨1, ![16]⟩
abbrev S2 : Shape := ⟨1, ![2]⟩
abbrev S4x256x16384 : Shape := ⟨3, ![4, 256, 16384]⟩
abbrev S16x128 : Shape := ⟨2, ![16, 128]⟩
abbrev S2048 : Shape := ⟨1, ![2048]⟩
abbrev S1x2048 : Shape := ⟨2, ![1, 2048]⟩
abbrev S2x128 : Shape := ⟨2, ![2, 128]⟩
abbrev S256 : Shape := ⟨1, ![256]⟩
abbrev S1x256 : Shape := ⟨2, ![1, 256]⟩
abbrev S1x256x1024 : Shape := ⟨3, ![1, 256, 1024]⟩
abbrev S1x16384x128 : Shape := ⟨3, ![1, 16384, 128]⟩
abbrev S1x128x16384 : Shape := ⟨3, ![1, 128, 16384]⟩
abbrev S1x1024 : Shape := ⟨2, ![1, 1024]⟩
abbrev S1x128 : Shape := ⟨2, ![1, 128]⟩
abbrev S4096x256 : Shape := ⟨2, ![4096, 256]⟩
abbrev S128x256 : Shape := ⟨2, ![128, 256]⟩
abbrev S256x256 : Shape := ⟨2, ![256, 256]⟩
abbrev S1x256x128 : Shape := ⟨3, ![1, 256, 128]⟩
abbrev S256x128 : Shape := ⟨2, ![256, 128]⟩
abbrev S8x256 : Shape := ⟨2, ![8, 256]⟩
abbrev S1x128x256 : Shape := ⟨3, ![1, 128, 256]⟩
abbrev S1x1 : Shape := ⟨2, ![1, 1]⟩

abbrev nBuf : Space → Nat
  | .hbm => 17
  | .vmem => 16
  | .smem => 0
  | _ => 0

abbrev bufTy : (tb : Table) → Fin (tcTables nBuf tb) → BufTy
  | .hbm, ⟨0, _⟩ => ⟨S4x16384x2048, .fp8e4m3⟩
  | .hbm, ⟨1, _⟩ => ⟨S4x16384x256, .fp8e4m3⟩
  | .hbm, ⟨2, _⟩ => ⟨S4x16384x256, .fp8e4m3⟩
  | .hbm, ⟨3, _⟩ => ⟨S16, .f32⟩
  | .hbm, ⟨4, _⟩ => ⟨S2, .f32⟩
  | .hbm, ⟨5, _⟩ => ⟨S2, .f32⟩
  | .hbm, ⟨6, _⟩ => ⟨S4x256x16384, .fp8e4m3⟩
  | .hbm, ⟨7, _⟩ => ⟨S16x128, .f32⟩
  | .hbm, ⟨8, _⟩ => ⟨S2048, .f32⟩
  | .hbm, ⟨9, _⟩ => ⟨S1x2048, .f32⟩
  | .hbm, ⟨10, _⟩ => ⟨S2x128, .f32⟩
  | .hbm, ⟨11, _⟩ => ⟨S256, .f32⟩
  | .hbm, ⟨12, _⟩ => ⟨S1x256, .f32⟩
  | .hbm, ⟨13, _⟩ => ⟨S2x128, .f32⟩
  | .hbm, ⟨14, _⟩ => ⟨S256, .f32⟩
  | .hbm, ⟨15, _⟩ => ⟨S1x256, .f32⟩
  | .hbm, ⟨16, _⟩ => ⟨S4x16384x2048, .bf16⟩
  | .local _ .vmem, ⟨0, _⟩ => ⟨S1x256x1024, .fp8e4m3⟩
  | .local _ .vmem, ⟨1, _⟩ => ⟨S1x256x1024, .fp8e4m3⟩
  | .local _ .vmem, ⟨2, _⟩ => ⟨S1x16384x128, .fp8e4m3⟩
  | .local _ .vmem, ⟨3, _⟩ => ⟨S1x16384x128, .fp8e4m3⟩
  | .local _ .vmem, ⟨4, _⟩ => ⟨S1x128x16384, .fp8e4m3⟩
  | .local _ .vmem, ⟨5, _⟩ => ⟨S1x128x16384, .fp8e4m3⟩
  | .local _ .vmem, ⟨6, _⟩ => ⟨S1x1024, .f32⟩
  | .local _ .vmem, ⟨7, _⟩ => ⟨S1x1024, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x256x1024, .bf16⟩
  | .local _ .vmem, ⟨13, _⟩ => ⟨S1x256x1024, .bf16⟩
  | .local _ .vmem, ⟨14, _⟩ => ⟨S4096x256, .f32⟩
  | .local _ .vmem, ⟨15, _⟩ => ⟨S128x256, .f32⟩
  | _, _ => ⟨S4x16384x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 64], ![false, false, false]⟩

def k0_mult1 (i : grid0.Coords) : BitVec 32 :=
  let arg2 : BitVec 32 := BitVec.ofNat 32 (i 2).val
  let c256_i32 : BitVec 32 := 256#32
  let v0 : BitVec 32 := Scalar.muli arg2 c256_i32
  v0
def k0_off1 (i : grid0.Coords) : Fin 3 → Nat :=
  let c0_14 : Index := 0#32
  let arg2 : BitVec 32 := BitVec.ofNat 32 (i 2).val
  let c256_i32 : BitVec 32 := 256#32
  let v0 : BitVec 32 := Scalar.muli arg2 c256_i32
  let v37 : BitVec 32 := v0
  let v38 : Index := Scalar.indexCast v37
  let c0_15 : Index := 0#32
  ![0, v38.toNat, 0]
def k0_mult2 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
def k0_off2 (i : grid0.Coords) : Fin 3 → Nat :=
  let c0_17 : Index := 0#32
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  let v42 : BitVec 32 := v6
  let v43 : Index := Scalar.indexCast v42
  let c0_18 : Index := 0#32
  ![0, v43.toNat, 0]
@[reducible] def k0_t1_loop (i : grid0.Coords) : Scf.Loop 32 :=
  let c0_i32_24 : BitVec 32 := 0#32
  let arg2 : BitVec 32 := BitVec.ofNat 32 (i 2).val
  let c15_i32 : BitVec 32 := 15#32
  let v1 : BitVec 32 := Scalar.minsi arg2 c15_i32
  let v118 : BitVec 32 := Scalar.subi v1 c0_i32_24
  let c1_i32 : BitVec 32 := 1#32
  let v120 : BitVec 32 := Scalar.divsi v118 c1_i32
  let v121 : BitVec 32 := Scalar.muli v120 c1_i32
  let v122 : BitVec 32 := Scalar.addi c0_i32_24 v121
  let c1_i32_25 : BitVec 32 := 1#32
  ⟨c0_i32_24, v122, c1_i32_25⟩
def k0_mult3 (i : grid0.Coords) (k0_t1 : Fin (k0_t1_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_24 : BitVec 32 := 0#32
  let c1_i32_25 : BitVec 32 := 1#32
  let arg12 : BitVec 32 := Scf.iv c0_i32_24 c1_i32_25 k0_t1
  let c256_i32_436 : BitVec 32 := 256#32
  let v1913 : BitVec 32 := Scalar.muli arg12 c256_i32_436
  let v1914 : BitVec 32 := Scalar.addi v3 v1913
  v1914
def k0_off3 (i : grid0.Coords) (k0_t1 : Fin (k0_t1_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_24 : BitVec 32 := 0#32
  let c1_i32_25 : BitVec 32 := 1#32
  let arg12 : BitVec 32 := Scf.iv c0_i32_24 c1_i32_25 k0_t1
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult4 (i : grid0.Coords) (k0_t1 : Fin (k0_t1_loop i).trips) : BitVec 32 :=
  let c0_i32_24 : BitVec 32 := 0#32
  let c1_i32_25 : BitVec 32 := 1#32
  let arg12 : BitVec 32 := Scf.iv c0_i32_24 c1_i32_25 k0_t1
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off4 (i : grid0.Coords) (k0_t1 : Fin (k0_t1_loop i).trips) : Fin 2 → Nat :=
  let c0_i32_24 : BitVec 32 := 0#32
  let c1_i32_25 : BitVec 32 := 1#32
  let arg12 : BitVec 32 := Scf.iv c0_i32_24 c1_i32_25 k0_t1
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
@[reducible] def k0_t2_loop (i : grid0.Coords) : Scf.Loop 32 :=
  let c0_i32_24 : BitVec 32 := 0#32
  let arg2 : BitVec 32 := BitVec.ofNat 32 (i 2).val
  let c15_i32 : BitVec 32 := 15#32
  let v1 : BitVec 32 := Scalar.minsi arg2 c15_i32
  let v118 : BitVec 32 := Scalar.subi v1 c0_i32_24
  let c1_i32 : BitVec 32 := 1#32
  let v120 : BitVec 32 := Scalar.divsi v118 c1_i32
  let v121 : BitVec 32 := Scalar.muli v120 c1_i32
  let v122 : BitVec 32 := Scalar.addi c0_i32_24 v121
  let v119 : BitVec 32 := Scalar.addi c0_i32_24 v118
  let c1_i32_26 : BitVec 32 := 1#32
  ⟨v122, v119, c1_i32_26⟩
def k0_mult5 (i : grid0.Coords) (k0_t2 : Fin (k0_t2_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_24 : BitVec 32 := 0#32
  let v118 : BitVec 32 := Scalar.subi v1 c0_i32_24
  let c1_i32 : BitVec 32 := 1#32
  let v120 : BitVec 32 := Scalar.divsi v118 c1_i32
  let v121 : BitVec 32 := Scalar.muli v120 c1_i32
  let v122 : BitVec 32 := Scalar.addi c0_i32_24 v121
  let c1_i32_26 : BitVec 32 := 1#32
  let arg12 : BitVec 32 := Scf.iv v122 c1_i32_26 k0_t2
  let c256_i32_436 : BitVec 32 := 256#32
  let v1913 : BitVec 32 := Scalar.muli arg12 c256_i32_436
  let v1914 : BitVec 32 := Scalar.addi v3 v1913
  v1914
def k0_off5 (i : grid0.Coords) (k0_t2 : Fin (k0_t2_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_24 : BitVec 32 := 0#32
  let v118 : BitVec 32 := Scalar.subi v1 c0_i32_24
  let c1_i32 : BitVec 32 := 1#32
  let v120 : BitVec 32 := Scalar.divsi v118 c1_i32
  let v121 : BitVec 32 := Scalar.muli v120 c1_i32
  let v122 : BitVec 32 := Scalar.addi c0_i32_24 v121
  let c1_i32_26 : BitVec 32 := 1#32
  let arg12 : BitVec 32 := Scf.iv v122 c1_i32_26 k0_t2
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult6 (i : grid0.Coords) (k0_t2 : Fin (k0_t2_loop i).trips) : BitVec 32 :=
  let c0_i32_24 : BitVec 32 := 0#32
  let arg2 : BitVec 32 := BitVec.ofNat 32 (i 2).val
  let c15_i32 : BitVec 32 := 15#32
  let v1 : BitVec 32 := Scalar.minsi arg2 c15_i32
  let v118 : BitVec 32 := Scalar.subi v1 c0_i32_24
  let c1_i32 : BitVec 32 := 1#32
  let v120 : BitVec 32 := Scalar.divsi v118 c1_i32
  let v121 : BitVec 32 := Scalar.muli v120 c1_i32
  let v122 : BitVec 32 := Scalar.addi c0_i32_24 v121
  let c1_i32_26 : BitVec 32 := 1#32
  let arg12 : BitVec 32 := Scf.iv v122 c1_i32_26 k0_t2
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off6 (i : grid0.Coords) (k0_t2 : Fin (k0_t2_loop i).trips) : Fin 2 → Nat :=
  let c0_i32_24 : BitVec 32 := 0#32
  let arg2 : BitVec 32 := BitVec.ofNat 32 (i 2).val
  let c15_i32 : BitVec 32 := 15#32
  let v1 : BitVec 32 := Scalar.minsi arg2 c15_i32
  let v118 : BitVec 32 := Scalar.subi v1 c0_i32_24
  let c1_i32 : BitVec 32 := 1#32
  let v120 : BitVec 32 := Scalar.divsi v118 c1_i32
  let v121 : BitVec 32 := Scalar.muli v120 c1_i32
  let v122 : BitVec 32 := Scalar.addi c0_i32_24 v121
  let c1_i32_26 : BitVec 32 := 1#32
  let arg12 : BitVec 32 := Scf.iv v122 c1_i32_26 k0_t2
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
def k0_mult7 (i : grid0.Coords) : BitVec 32 :=
  let arg2 : BitVec 32 := BitVec.ofNat 32 (i 2).val
  let c256_i32 : BitVec 32 := 256#32
  let v0 : BitVec 32 := Scalar.muli arg2 c256_i32
  v0
def k0_off7 (i : grid0.Coords) : Fin 3 → Nat :=
  let c0_36 : Index := 0#32
  let c0_37 : Index := 0#32
  let arg2 : BitVec 32 := BitVec.ofNat 32 (i 2).val
  let c256_i32 : BitVec 32 := 256#32
  let v0 : BitVec 32 := Scalar.muli arg2 c256_i32
  let v211 : BitVec 32 := v0
  let v212 : Index := Scalar.indexCast v211
  ![0, 0, v212.toNat]
def k0_mult8 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
def k0_off8 (i : grid0.Coords) : Fin 3 → Nat :=
  let c0_41 : Index := 0#32
  let c0_42 : Index := 0#32
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  let v221 : BitVec 32 := v6
  let v222 : Index := Scalar.indexCast v221
  ![0, 0, v222.toNat]
@[reducible] def k0_t3_loop (i : grid0.Coords) : Scf.Loop 32 :=
  let c0_i32_46 : BitVec 32 := 0#32
  let arg2 : BitVec 32 := BitVec.ofNat 32 (i 2).val
  let c15_i32 : BitVec 32 := 15#32
  let v1 : BitVec 32 := Scalar.minsi arg2 c15_i32
  let v230 : BitVec 32 := Scalar.subi v1 c0_i32_46
  let c1_i32_47 : BitVec 32 := 1#32
  let v232 : BitVec 32 := Scalar.divsi v230 c1_i32_47
  let v233 : BitVec 32 := Scalar.muli v232 c1_i32_47
  let v234 : BitVec 32 := Scalar.addi c0_i32_46 v233
  let c1_i32_48 : BitVec 32 := 1#32
  ⟨c0_i32_46, v234, c1_i32_48⟩
def k0_mult9 (i : grid0.Coords) (k0_t3 : Fin (k0_t3_loop i).trips) : BitVec 32 :=
  let c0_i32_46 : BitVec 32 := 0#32
  let c1_i32_48 : BitVec 32 := 1#32
  let arg12 : BitVec 32 := Scf.iv c0_i32_46 c1_i32_48 k0_t3
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off9 (i : grid0.Coords) (k0_t3 : Fin (k0_t3_loop i).trips) : Fin 2 → Nat :=
  let c0_i32_46 : BitVec 32 := 0#32
  let c1_i32_48 : BitVec 32 := 1#32
  let arg12 : BitVec 32 := Scf.iv c0_i32_46 c1_i32_48 k0_t3
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult10 (i : grid0.Coords) (k0_t3 : Fin (k0_t3_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_46 : BitVec 32 := 0#32
  let c1_i32_48 : BitVec 32 := 1#32
  let arg12 : BitVec 32 := Scf.iv c0_i32_46 c1_i32_48 k0_t3
  let c256_i32_441 : BitVec 32 := 256#32
  let v1924 : BitVec 32 := Scalar.muli arg12 c256_i32_441
  let v1925 : BitVec 32 := Scalar.addi v3 v1924
  v1925
def k0_off10 (i : grid0.Coords) (k0_t3 : Fin (k0_t3_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_46 : BitVec 32 := 0#32
  let c1_i32_48 : BitVec 32 := 1#32
  let arg12 : BitVec 32 := Scf.iv c0_i32_46 c1_i32_48 k0_t3
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
@[reducible] def k0_t4_loop (i : grid0.Coords) : Scf.Loop 32 :=
  let c0_i32_46 : BitVec 32 := 0#32
  let arg2 : BitVec 32 := BitVec.ofNat 32 (i 2).val
  let c15_i32 : BitVec 32 := 15#32
  let v1 : BitVec 32 := Scalar.minsi arg2 c15_i32
  let v230 : BitVec 32 := Scalar.subi v1 c0_i32_46
  let c1_i32_47 : BitVec 32 := 1#32
  let v232 : BitVec 32 := Scalar.divsi v230 c1_i32_47
  let v233 : BitVec 32 := Scalar.muli v232 c1_i32_47
  let v234 : BitVec 32 := Scalar.addi c0_i32_46 v233
  let v231 : BitVec 32 := Scalar.addi c0_i32_46 v230
  let c1_i32_49 : BitVec 32 := 1#32
  ⟨v234, v231, c1_i32_49⟩
def k0_mult11 (i : grid0.Coords) (k0_t4 : Fin (k0_t4_loop i).trips) : BitVec 32 :=
  let c0_i32_46 : BitVec 32 := 0#32
  let arg2 : BitVec 32 := BitVec.ofNat 32 (i 2).val
  let c15_i32 : BitVec 32 := 15#32
  let v1 : BitVec 32 := Scalar.minsi arg2 c15_i32
  let v230 : BitVec 32 := Scalar.subi v1 c0_i32_46
  let c1_i32_47 : BitVec 32 := 1#32
  let v232 : BitVec 32 := Scalar.divsi v230 c1_i32_47
  let v233 : BitVec 32 := Scalar.muli v232 c1_i32_47
  let v234 : BitVec 32 := Scalar.addi c0_i32_46 v233
  let c1_i32_49 : BitVec 32 := 1#32
  let arg12 : BitVec 32 := Scf.iv v234 c1_i32_49 k0_t4
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off11 (i : grid0.Coords) (k0_t4 : Fin (k0_t4_loop i).trips) : Fin 2 → Nat :=
  let c0_i32_46 : BitVec 32 := 0#32
  let arg2 : BitVec 32 := BitVec.ofNat 32 (i 2).val
  let c15_i32 : BitVec 32 := 15#32
  let v1 : BitVec 32 := Scalar.minsi arg2 c15_i32
  let v230 : BitVec 32 := Scalar.subi v1 c0_i32_46
  let c1_i32_47 : BitVec 32 := 1#32
  let v232 : BitVec 32 := Scalar.divsi v230 c1_i32_47
  let v233 : BitVec 32 := Scalar.muli v232 c1_i32_47
  let v234 : BitVec 32 := Scalar.addi c0_i32_46 v233
  let c1_i32_49 : BitVec 32 := 1#32
  let arg12 : BitVec 32 := Scf.iv v234 c1_i32_49 k0_t4
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult12 (i : grid0.Coords) (k0_t4 : Fin (k0_t4_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_46 : BitVec 32 := 0#32
  let v230 : BitVec 32 := Scalar.subi v1 c0_i32_46
  let c1_i32_47 : BitVec 32 := 1#32
  let v232 : BitVec 32 := Scalar.divsi v230 c1_i32_47
  let v233 : BitVec 32 := Scalar.muli v232 c1_i32_47
  let v234 : BitVec 32 := Scalar.addi c0_i32_46 v233
  let c1_i32_49 : BitVec 32 := 1#32
  let arg12 : BitVec 32 := Scf.iv v234 c1_i32_49 k0_t4
  let c256_i32_441 : BitVec 32 := 256#32
  let v1924 : BitVec 32 := Scalar.muli arg12 c256_i32_441
  let v1925 : BitVec 32 := Scalar.addi v3 v1924
  v1925
def k0_off12 (i : grid0.Coords) (k0_t4 : Fin (k0_t4_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_46 : BitVec 32 := 0#32
  let v230 : BitVec 32 := Scalar.subi v1 c0_i32_46
  let c1_i32_47 : BitVec 32 := 1#32
  let v232 : BitVec 32 := Scalar.divsi v230 c1_i32_47
  let v233 : BitVec 32 := Scalar.muli v232 c1_i32_47
  let v234 : BitVec 32 := Scalar.addi c0_i32_46 v233
  let c1_i32_49 : BitVec 32 := 1#32
  let arg12 : BitVec 32 := Scf.iv v234 c1_i32_49 k0_t4
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
def k0_mult13 (i : grid0.Coords) : BitVec 32 :=
  let arg2 : BitVec 32 := BitVec.ofNat 32 (i 2).val
  let c256_i32 : BitVec 32 := 256#32
  let v0 : BitVec 32 := Scalar.muli arg2 c256_i32
  v0
def k0_mult14 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
@[reducible] def k0_t5_loop (i : grid0.Coords) : Scf.Loop 32 :=
  let c0_i32_77 : BitVec 32 := 0#32
  let arg2 : BitVec 32 := BitVec.ofNat 32 (i 2).val
  let c15_i32 : BitVec 32 := 15#32
  let v1 : BitVec 32 := Scalar.minsi arg2 c15_i32
  let v355 : BitVec 32 := Scalar.subi v1 c0_i32_77
  let c1_i32_78 : BitVec 32 := 1#32
  let v357 : BitVec 32 := Scalar.divsi v355 c1_i32_78
  let v358 : BitVec 32 := Scalar.muli v357 c1_i32_78
  let v359 : BitVec 32 := Scalar.addi c0_i32_77 v358
  let c1_i32_79 : BitVec 32 := 1#32
  ⟨c0_i32_77, v359, c1_i32_79⟩
def k0_mult15 (i : grid0.Coords) (k0_t5 : Fin (k0_t5_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_77 : BitVec 32 := 0#32
  let c1_i32_79 : BitVec 32 := 1#32
  let arg12 : BitVec 32 := Scf.iv c0_i32_77 c1_i32_79 k0_t5
  let c256_i32_436 : BitVec 32 := 256#32
  let v1913 : BitVec 32 := Scalar.muli arg12 c256_i32_436
  let v1914 : BitVec 32 := Scalar.addi v3 v1913
  v1914
def k0_off13 (i : grid0.Coords) (k0_t5 : Fin (k0_t5_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_77 : BitVec 32 := 0#32
  let c1_i32_79 : BitVec 32 := 1#32
  let arg12 : BitVec 32 := Scf.iv c0_i32_77 c1_i32_79 k0_t5
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult16 (i : grid0.Coords) (k0_t5 : Fin (k0_t5_loop i).trips) : BitVec 32 :=
  let c0_i32_77 : BitVec 32 := 0#32
  let c1_i32_79 : BitVec 32 := 1#32
  let arg12 : BitVec 32 := Scf.iv c0_i32_77 c1_i32_79 k0_t5
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off14 (i : grid0.Coords) (k0_t5 : Fin (k0_t5_loop i).trips) : Fin 2 → Nat :=
  let c0_i32_77 : BitVec 32 := 0#32
  let c1_i32_79 : BitVec 32 := 1#32
  let arg12 : BitVec 32 := Scf.iv c0_i32_77 c1_i32_79 k0_t5
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
@[reducible] def k0_t6_loop (i : grid0.Coords) : Scf.Loop 32 :=
  let c0_i32_77 : BitVec 32 := 0#32
  let arg2 : BitVec 32 := BitVec.ofNat 32 (i 2).val
  let c15_i32 : BitVec 32 := 15#32
  let v1 : BitVec 32 := Scalar.minsi arg2 c15_i32
  let v355 : BitVec 32 := Scalar.subi v1 c0_i32_77
  let c1_i32_78 : BitVec 32 := 1#32
  let v357 : BitVec 32 := Scalar.divsi v355 c1_i32_78
  let v358 : BitVec 32 := Scalar.muli v357 c1_i32_78
  let v359 : BitVec 32 := Scalar.addi c0_i32_77 v358
  let v356 : BitVec 32 := Scalar.addi c0_i32_77 v355
  let c1_i32_80 : BitVec 32 := 1#32
  ⟨v359, v356, c1_i32_80⟩
def k0_mult17 (i : grid0.Coords) (k0_t6 : Fin (k0_t6_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_77 : BitVec 32 := 0#32
  let v355 : BitVec 32 := Scalar.subi v1 c0_i32_77
  let c1_i32_78 : BitVec 32 := 1#32
  let v357 : BitVec 32 := Scalar.divsi v355 c1_i32_78
  let v358 : BitVec 32 := Scalar.muli v357 c1_i32_78
  let v359 : BitVec 32 := Scalar.addi c0_i32_77 v358
  let c1_i32_80 : BitVec 32 := 1#32
  let arg12 : BitVec 32 := Scf.iv v359 c1_i32_80 k0_t6
  let c256_i32_436 : BitVec 32 := 256#32
  let v1913 : BitVec 32 := Scalar.muli arg12 c256_i32_436
  let v1914 : BitVec 32 := Scalar.addi v3 v1913
  v1914
def k0_off15 (i : grid0.Coords) (k0_t6 : Fin (k0_t6_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_77 : BitVec 32 := 0#32
  let v355 : BitVec 32 := Scalar.subi v1 c0_i32_77
  let c1_i32_78 : BitVec 32 := 1#32
  let v357 : BitVec 32 := Scalar.divsi v355 c1_i32_78
  let v358 : BitVec 32 := Scalar.muli v357 c1_i32_78
  let v359 : BitVec 32 := Scalar.addi c0_i32_77 v358
  let c1_i32_80 : BitVec 32 := 1#32
  let arg12 : BitVec 32 := Scf.iv v359 c1_i32_80 k0_t6
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult18 (i : grid0.Coords) (k0_t6 : Fin (k0_t6_loop i).trips) : BitVec 32 :=
  let c0_i32_77 : BitVec 32 := 0#32
  let arg2 : BitVec 32 := BitVec.ofNat 32 (i 2).val
  let c15_i32 : BitVec 32 := 15#32
  let v1 : BitVec 32 := Scalar.minsi arg2 c15_i32
  let v355 : BitVec 32 := Scalar.subi v1 c0_i32_77
  let c1_i32_78 : BitVec 32 := 1#32
  let v357 : BitVec 32 := Scalar.divsi v355 c1_i32_78
  let v358 : BitVec 32 := Scalar.muli v357 c1_i32_78
  let v359 : BitVec 32 := Scalar.addi c0_i32_77 v358
  let c1_i32_80 : BitVec 32 := 1#32
  let arg12 : BitVec 32 := Scf.iv v359 c1_i32_80 k0_t6
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off16 (i : grid0.Coords) (k0_t6 : Fin (k0_t6_loop i).trips) : Fin 2 → Nat :=
  let c0_i32_77 : BitVec 32 := 0#32
  let arg2 : BitVec 32 := BitVec.ofNat 32 (i 2).val
  let c15_i32 : BitVec 32 := 15#32
  let v1 : BitVec 32 := Scalar.minsi arg2 c15_i32
  let v355 : BitVec 32 := Scalar.subi v1 c0_i32_77
  let c1_i32_78 : BitVec 32 := 1#32
  let v357 : BitVec 32 := Scalar.divsi v355 c1_i32_78
  let v358 : BitVec 32 := Scalar.muli v357 c1_i32_78
  let v359 : BitVec 32 := Scalar.addi c0_i32_77 v358
  let c1_i32_80 : BitVec 32 := 1#32
  let arg12 : BitVec 32 := Scf.iv v359 c1_i32_80 k0_t6
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
def k0_mult19 (i : grid0.Coords) : BitVec 32 :=
  let arg2 : BitVec 32 := BitVec.ofNat 32 (i 2).val
  let c256_i32 : BitVec 32 := 256#32
  let v0 : BitVec 32 := Scalar.muli arg2 c256_i32
  v0
def k0_mult20 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
@[reducible] def k0_t7_loop (i : grid0.Coords) : Scf.Loop 32 :=
  let c0_i32_100 : BitVec 32 := 0#32
  let arg2 : BitVec 32 := BitVec.ofNat 32 (i 2).val
  let c15_i32 : BitVec 32 := 15#32
  let v1 : BitVec 32 := Scalar.minsi arg2 c15_i32
  let v467 : BitVec 32 := Scalar.subi v1 c0_i32_100
  let c1_i32_101 : BitVec 32 := 1#32
  let v469 : BitVec 32 := Scalar.divsi v467 c1_i32_101
  let v470 : BitVec 32 := Scalar.muli v469 c1_i32_101
  let v471 : BitVec 32 := Scalar.addi c0_i32_100 v470
  let c1_i32_102 : BitVec 32 := 1#32
  ⟨c0_i32_100, v471, c1_i32_102⟩
def k0_mult21 (i : grid0.Coords) (k0_t7 : Fin (k0_t7_loop i).trips) : BitVec 32 :=
  let c0_i32_100 : BitVec 32 := 0#32
  let c1_i32_102 : BitVec 32 := 1#32
  let arg12 : BitVec 32 := Scf.iv c0_i32_100 c1_i32_102 k0_t7
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off17 (i : grid0.Coords) (k0_t7 : Fin (k0_t7_loop i).trips) : Fin 2 → Nat :=
  let c0_i32_100 : BitVec 32 := 0#32
  let c1_i32_102 : BitVec 32 := 1#32
  let arg12 : BitVec 32 := Scf.iv c0_i32_100 c1_i32_102 k0_t7
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult22 (i : grid0.Coords) (k0_t7 : Fin (k0_t7_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_100 : BitVec 32 := 0#32
  let c1_i32_102 : BitVec 32 := 1#32
  let arg12 : BitVec 32 := Scf.iv c0_i32_100 c1_i32_102 k0_t7
  let c256_i32_441 : BitVec 32 := 256#32
  let v1924 : BitVec 32 := Scalar.muli arg12 c256_i32_441
  let v1925 : BitVec 32 := Scalar.addi v3 v1924
  v1925
def k0_off18 (i : grid0.Coords) (k0_t7 : Fin (k0_t7_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_100 : BitVec 32 := 0#32
  let c1_i32_102 : BitVec 32 := 1#32
  let arg12 : BitVec 32 := Scf.iv c0_i32_100 c1_i32_102 k0_t7
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
@[reducible] def k0_t8_loop (i : grid0.Coords) : Scf.Loop 32 :=
  let c0_i32_100 : BitVec 32 := 0#32
  let arg2 : BitVec 32 := BitVec.ofNat 32 (i 2).val
  let c15_i32 : BitVec 32 := 15#32
  let v1 : BitVec 32 := Scalar.minsi arg2 c15_i32
  let v467 : BitVec 32 := Scalar.subi v1 c0_i32_100
  let c1_i32_101 : BitVec 32 := 1#32
  let v469 : BitVec 32 := Scalar.divsi v467 c1_i32_101
  let v470 : BitVec 32 := Scalar.muli v469 c1_i32_101
  let v471 : BitVec 32 := Scalar.addi c0_i32_100 v470
  let v468 : BitVec 32 := Scalar.addi c0_i32_100 v467
  let c1_i32_103 : BitVec 32 := 1#32
  ⟨v471, v468, c1_i32_103⟩
def k0_mult23 (i : grid0.Coords) (k0_t8 : Fin (k0_t8_loop i).trips) : BitVec 32 :=
  let c0_i32_100 : BitVec 32 := 0#32
  let arg2 : BitVec 32 := BitVec.ofNat 32 (i 2).val
  let c15_i32 : BitVec 32 := 15#32
  let v1 : BitVec 32 := Scalar.minsi arg2 c15_i32
  let v467 : BitVec 32 := Scalar.subi v1 c0_i32_100
  let c1_i32_101 : BitVec 32 := 1#32
  let v469 : BitVec 32 := Scalar.divsi v467 c1_i32_101
  let v470 : BitVec 32 := Scalar.muli v469 c1_i32_101
  let v471 : BitVec 32 := Scalar.addi c0_i32_100 v470
  let c1_i32_103 : BitVec 32 := 1#32
  let arg12 : BitVec 32 := Scf.iv v471 c1_i32_103 k0_t8
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off19 (i : grid0.Coords) (k0_t8 : Fin (k0_t8_loop i).trips) : Fin 2 → Nat :=
  let c0_i32_100 : BitVec 32 := 0#32
  let arg2 : BitVec 32 := BitVec.ofNat 32 (i 2).val
  let c15_i32 : BitVec 32 := 15#32
  let v1 : BitVec 32 := Scalar.minsi arg2 c15_i32
  let v467 : BitVec 32 := Scalar.subi v1 c0_i32_100
  let c1_i32_101 : BitVec 32 := 1#32
  let v469 : BitVec 32 := Scalar.divsi v467 c1_i32_101
  let v470 : BitVec 32 := Scalar.muli v469 c1_i32_101
  let v471 : BitVec 32 := Scalar.addi c0_i32_100 v470
  let c1_i32_103 : BitVec 32 := 1#32
  let arg12 : BitVec 32 := Scf.iv v471 c1_i32_103 k0_t8
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult24 (i : grid0.Coords) (k0_t8 : Fin (k0_t8_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_100 : BitVec 32 := 0#32
  let v467 : BitVec 32 := Scalar.subi v1 c0_i32_100
  let c1_i32_101 : BitVec 32 := 1#32
  let v469 : BitVec 32 := Scalar.divsi v467 c1_i32_101
  let v470 : BitVec 32 := Scalar.muli v469 c1_i32_101
  let v471 : BitVec 32 := Scalar.addi c0_i32_100 v470
  let c1_i32_103 : BitVec 32 := 1#32
  let arg12 : BitVec 32 := Scf.iv v471 c1_i32_103 k0_t8
  let c256_i32_441 : BitVec 32 := 256#32
  let v1924 : BitVec 32 := Scalar.muli arg12 c256_i32_441
  let v1925 : BitVec 32 := Scalar.addi v3 v1924
  v1925
def k0_off20 (i : grid0.Coords) (k0_t8 : Fin (k0_t8_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_100 : BitVec 32 := 0#32
  let v467 : BitVec 32 := Scalar.subi v1 c0_i32_100
  let c1_i32_101 : BitVec 32 := 1#32
  let v469 : BitVec 32 := Scalar.divsi v467 c1_i32_101
  let v470 : BitVec 32 := Scalar.muli v469 c1_i32_101
  let v471 : BitVec 32 := Scalar.addi c0_i32_100 v470
  let c1_i32_103 : BitVec 32 := 1#32
  let arg12 : BitVec 32 := Scf.iv v471 c1_i32_103 k0_t8
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
def k0_mult25 (i : grid0.Coords) : BitVec 32 :=
  let arg2 : BitVec 32 := BitVec.ofNat 32 (i 2).val
  let c256_i32 : BitVec 32 := 256#32
  let v0 : BitVec 32 := Scalar.muli arg2 c256_i32
  v0
def k0_mult26 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
@[reducible] def k0_t9_loop (i : grid0.Coords) : Scf.Loop 32 :=
  let c0_i32_131 : BitVec 32 := 0#32
  let arg2 : BitVec 32 := BitVec.ofNat 32 (i 2).val
  let c15_i32 : BitVec 32 := 15#32
  let v1 : BitVec 32 := Scalar.minsi arg2 c15_i32
  let v592 : BitVec 32 := Scalar.subi v1 c0_i32_131
  let c1_i32_132 : BitVec 32 := 1#32
  let v594 : BitVec 32 := Scalar.divsi v592 c1_i32_132
  let v595 : BitVec 32 := Scalar.muli v594 c1_i32_132
  let v596 : BitVec 32 := Scalar.addi c0_i32_131 v595
  let c1_i32_133 : BitVec 32 := 1#32
  ⟨c0_i32_131, v596, c1_i32_133⟩
def k0_mult27 (i : grid0.Coords) (k0_t9 : Fin (k0_t9_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_131 : BitVec 32 := 0#32
  let c1_i32_133 : BitVec 32 := 1#32
  let arg12 : BitVec 32 := Scf.iv c0_i32_131 c1_i32_133 k0_t9
  let c256_i32_436 : BitVec 32 := 256#32
  let v1913 : BitVec 32 := Scalar.muli arg12 c256_i32_436
  let v1914 : BitVec 32 := Scalar.addi v3 v1913
  v1914
def k0_off21 (i : grid0.Coords) (k0_t9 : Fin (k0_t9_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_131 : BitVec 32 := 0#32
  let c1_i32_133 : BitVec 32 := 1#32
  let arg12 : BitVec 32 := Scf.iv c0_i32_131 c1_i32_133 k0_t9
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult28 (i : grid0.Coords) (k0_t9 : Fin (k0_t9_loop i).trips) : BitVec 32 :=
  let c0_i32_131 : BitVec 32 := 0#32
  let c1_i32_133 : BitVec 32 := 1#32
  let arg12 : BitVec 32 := Scf.iv c0_i32_131 c1_i32_133 k0_t9
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off22 (i : grid0.Coords) (k0_t9 : Fin (k0_t9_loop i).trips) : Fin 2 → Nat :=
  let c0_i32_131 : BitVec 32 := 0#32
  let c1_i32_133 : BitVec 32 := 1#32
  let arg12 : BitVec 32 := Scf.iv c0_i32_131 c1_i32_133 k0_t9
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
@[reducible] def k0_t10_loop (i : grid0.Coords) : Scf.Loop 32 :=
  let c0_i32_131 : BitVec 32 := 0#32
  let arg2 : BitVec 32 := BitVec.ofNat 32 (i 2).val
  let c15_i32 : BitVec 32 := 15#32
  let v1 : BitVec 32 := Scalar.minsi arg2 c15_i32
  let v592 : BitVec 32 := Scalar.subi v1 c0_i32_131
  let c1_i32_132 : BitVec 32 := 1#32
  let v594 : BitVec 32 := Scalar.divsi v592 c1_i32_132
  let v595 : BitVec 32 := Scalar.muli v594 c1_i32_132
  let v596 : BitVec 32 := Scalar.addi c0_i32_131 v595
  let v593 : BitVec 32 := Scalar.addi c0_i32_131 v592
  let c1_i32_134 : BitVec 32 := 1#32
  ⟨v596, v593, c1_i32_134⟩
def k0_mult29 (i : grid0.Coords) (k0_t10 : Fin (k0_t10_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_131 : BitVec 32 := 0#32
  let v592 : BitVec 32 := Scalar.subi v1 c0_i32_131
  let c1_i32_132 : BitVec 32 := 1#32
  let v594 : BitVec 32 := Scalar.divsi v592 c1_i32_132
  let v595 : BitVec 32 := Scalar.muli v594 c1_i32_132
  let v596 : BitVec 32 := Scalar.addi c0_i32_131 v595
  let c1_i32_134 : BitVec 32 := 1#32
  let arg12 : BitVec 32 := Scf.iv v596 c1_i32_134 k0_t10
  let c256_i32_436 : BitVec 32 := 256#32
  let v1913 : BitVec 32 := Scalar.muli arg12 c256_i32_436
  let v1914 : BitVec 32 := Scalar.addi v3 v1913
  v1914
def k0_off23 (i : grid0.Coords) (k0_t10 : Fin (k0_t10_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_131 : BitVec 32 := 0#32
  let v592 : BitVec 32 := Scalar.subi v1 c0_i32_131
  let c1_i32_132 : BitVec 32 := 1#32
  let v594 : BitVec 32 := Scalar.divsi v592 c1_i32_132
  let v595 : BitVec 32 := Scalar.muli v594 c1_i32_132
  let v596 : BitVec 32 := Scalar.addi c0_i32_131 v595
  let c1_i32_134 : BitVec 32 := 1#32
  let arg12 : BitVec 32 := Scf.iv v596 c1_i32_134 k0_t10
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult30 (i : grid0.Coords) (k0_t10 : Fin (k0_t10_loop i).trips) : BitVec 32 :=
  let c0_i32_131 : BitVec 32 := 0#32
  let arg2 : BitVec 32 := BitVec.ofNat 32 (i 2).val
  let c15_i32 : BitVec 32 := 15#32
  let v1 : BitVec 32 := Scalar.minsi arg2 c15_i32
  let v592 : BitVec 32 := Scalar.subi v1 c0_i32_131
  let c1_i32_132 : BitVec 32 := 1#32
  let v594 : BitVec 32 := Scalar.divsi v592 c1_i32_132
  let v595 : BitVec 32 := Scalar.muli v594 c1_i32_132
  let v596 : BitVec 32 := Scalar.addi c0_i32_131 v595
  let c1_i32_134 : BitVec 32 := 1#32
  let arg12 : BitVec 32 := Scf.iv v596 c1_i32_134 k0_t10
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off24 (i : grid0.Coords) (k0_t10 : Fin (k0_t10_loop i).trips) : Fin 2 → Nat :=
  let c0_i32_131 : BitVec 32 := 0#32
  let arg2 : BitVec 32 := BitVec.ofNat 32 (i 2).val
  let c15_i32 : BitVec 32 := 15#32
  let v1 : BitVec 32 := Scalar.minsi arg2 c15_i32
  let v592 : BitVec 32 := Scalar.subi v1 c0_i32_131
  let c1_i32_132 : BitVec 32 := 1#32
  let v594 : BitVec 32 := Scalar.divsi v592 c1_i32_132
  let v595 : BitVec 32 := Scalar.muli v594 c1_i32_132
  let v596 : BitVec 32 := Scalar.addi c0_i32_131 v595
  let c1_i32_134 : BitVec 32 := 1#32
  let arg12 : BitVec 32 := Scf.iv v596 c1_i32_134 k0_t10
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
def k0_mult31 (i : grid0.Coords) : BitVec 32 :=
  let arg2 : BitVec 32 := BitVec.ofNat 32 (i 2).val
  let c256_i32 : BitVec 32 := 256#32
  let v0 : BitVec 32 := Scalar.muli arg2 c256_i32
  v0
def k0_mult32 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
@[reducible] def k0_t11_loop (i : grid0.Coords) : Scf.Loop 32 :=
  let c0_i32_154 : BitVec 32 := 0#32
  let arg2 : BitVec 32 := BitVec.ofNat 32 (i 2).val
  let c15_i32 : BitVec 32 := 15#32
  let v1 : BitVec 32 := Scalar.minsi arg2 c15_i32
  let v704 : BitVec 32 := Scalar.subi v1 c0_i32_154
  let c1_i32_155 : BitVec 32 := 1#32
  let v706 : BitVec 32 := Scalar.divsi v704 c1_i32_155
  let v707 : BitVec 32 := Scalar.muli v706 c1_i32_155
  let v708 : BitVec 32 := Scalar.addi c0_i32_154 v707
  let c1_i32_156 : BitVec 32 := 1#32
  ⟨c0_i32_154, v708, c1_i32_156⟩
def k0_mult33 (i : grid0.Coords) (k0_t11 : Fin (k0_t11_loop i).trips) : BitVec 32 :=
  let c0_i32_154 : BitVec 32 := 0#32
  let c1_i32_156 : BitVec 32 := 1#32
  let arg12 : BitVec 32 := Scf.iv c0_i32_154 c1_i32_156 k0_t11
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off25 (i : grid0.Coords) (k0_t11 : Fin (k0_t11_loop i).trips) : Fin 2 → Nat :=
  let c0_i32_154 : BitVec 32 := 0#32
  let c1_i32_156 : BitVec 32 := 1#32
  let arg12 : BitVec 32 := Scf.iv c0_i32_154 c1_i32_156 k0_t11
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult34 (i : grid0.Coords) (k0_t11 : Fin (k0_t11_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_154 : BitVec 32 := 0#32
  let c1_i32_156 : BitVec 32 := 1#32
  let arg12 : BitVec 32 := Scf.iv c0_i32_154 c1_i32_156 k0_t11
  let c256_i32_441 : BitVec 32 := 256#32
  let v1924 : BitVec 32 := Scalar.muli arg12 c256_i32_441
  let v1925 : BitVec 32 := Scalar.addi v3 v1924
  v1925
def k0_off26 (i : grid0.Coords) (k0_t11 : Fin (k0_t11_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_154 : BitVec 32 := 0#32
  let c1_i32_156 : BitVec 32 := 1#32
  let arg12 : BitVec 32 := Scf.iv c0_i32_154 c1_i32_156 k0_t11
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
@[reducible] def k0_t12_loop (i : grid0.Coords) : Scf.Loop 32 :=
  let c0_i32_154 : BitVec 32 := 0#32
  let arg2 : BitVec 32 := BitVec.ofNat 32 (i 2).val
  let c15_i32 : BitVec 32 := 15#32
  let v1 : BitVec 32 := Scalar.minsi arg2 c15_i32
  let v704 : BitVec 32 := Scalar.subi v1 c0_i32_154
  let c1_i32_155 : BitVec 32 := 1#32
  let v706 : BitVec 32 := Scalar.divsi v704 c1_i32_155
  let v707 : BitVec 32 := Scalar.muli v706 c1_i32_155
  let v708 : BitVec 32 := Scalar.addi c0_i32_154 v707
  let v705 : BitVec 32 := Scalar.addi c0_i32_154 v704
  let c1_i32_157 : BitVec 32 := 1#32
  ⟨v708, v705, c1_i32_157⟩
def k0_mult35 (i : grid0.Coords) (k0_t12 : Fin (k0_t12_loop i).trips) : BitVec 32 :=
  let c0_i32_154 : BitVec 32 := 0#32
  let arg2 : BitVec 32 := BitVec.ofNat 32 (i 2).val
  let c15_i32 : BitVec 32 := 15#32
  let v1 : BitVec 32 := Scalar.minsi arg2 c15_i32
  let v704 : BitVec 32 := Scalar.subi v1 c0_i32_154
  let c1_i32_155 : BitVec 32 := 1#32
  let v706 : BitVec 32 := Scalar.divsi v704 c1_i32_155
  let v707 : BitVec 32 := Scalar.muli v706 c1_i32_155
  let v708 : BitVec 32 := Scalar.addi c0_i32_154 v707
  let c1_i32_157 : BitVec 32 := 1#32
  let arg12 : BitVec 32 := Scf.iv v708 c1_i32_157 k0_t12
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off27 (i : grid0.Coords) (k0_t12 : Fin (k0_t12_loop i).trips) : Fin 2 → Nat :=
  let c0_i32_154 : BitVec 32 := 0#32
  let arg2 : BitVec 32 := BitVec.ofNat 32 (i 2).val
  let c15_i32 : BitVec 32 := 15#32
  let v1 : BitVec 32 := Scalar.minsi arg2 c15_i32
  let v704 : BitVec 32 := Scalar.subi v1 c0_i32_154
  let c1_i32_155 : BitVec 32 := 1#32
  let v706 : BitVec 32 := Scalar.divsi v704 c1_i32_155
  let v707 : BitVec 32 := Scalar.muli v706 c1_i32_155
  let v708 : BitVec 32 := Scalar.addi c0_i32_154 v707
  let c1_i32_157 : BitVec 32 := 1#32
  let arg12 : BitVec 32 := Scf.iv v708 c1_i32_157 k0_t12
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult36 (i : grid0.Coords) (k0_t12 : Fin (k0_t12_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_154 : BitVec 32 := 0#32
  let v704 : BitVec 32 := Scalar.subi v1 c0_i32_154
  let c1_i32_155 : BitVec 32 := 1#32
  let v706 : BitVec 32 := Scalar.divsi v704 c1_i32_155
  let v707 : BitVec 32 := Scalar.muli v706 c1_i32_155
  let v708 : BitVec 32 := Scalar.addi c0_i32_154 v707
  let c1_i32_157 : BitVec 32 := 1#32
  let arg12 : BitVec 32 := Scf.iv v708 c1_i32_157 k0_t12
  let c256_i32_441 : BitVec 32 := 256#32
  let v1924 : BitVec 32 := Scalar.muli arg12 c256_i32_441
  let v1925 : BitVec 32 := Scalar.addi v3 v1924
  v1925
def k0_off28 (i : grid0.Coords) (k0_t12 : Fin (k0_t12_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_154 : BitVec 32 := 0#32
  let v704 : BitVec 32 := Scalar.subi v1 c0_i32_154
  let c1_i32_155 : BitVec 32 := 1#32
  let v706 : BitVec 32 := Scalar.divsi v704 c1_i32_155
  let v707 : BitVec 32 := Scalar.muli v706 c1_i32_155
  let v708 : BitVec 32 := Scalar.addi c0_i32_154 v707
  let c1_i32_157 : BitVec 32 := 1#32
  let arg12 : BitVec 32 := Scf.iv v708 c1_i32_157 k0_t12
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
def k0_mult37 (i : grid0.Coords) : BitVec 32 :=
  let arg2 : BitVec 32 := BitVec.ofNat 32 (i 2).val
  let c256_i32 : BitVec 32 := 256#32
  let v0 : BitVec 32 := Scalar.muli arg2 c256_i32
  v0
def k0_mult38 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
@[reducible] def k0_t13_loop (i : grid0.Coords) : Scf.Loop 32 :=
  let c0_i32_185 : BitVec 32 := 0#32
  let arg2 : BitVec 32 := BitVec.ofNat 32 (i 2).val
  let c15_i32 : BitVec 32 := 15#32
  let v1 : BitVec 32 := Scalar.minsi arg2 c15_i32
  let v829 : BitVec 32 := Scalar.subi v1 c0_i32_185
  let c1_i32_186 : BitVec 32 := 1#32
  let v831 : BitVec 32 := Scalar.divsi v829 c1_i32_186
  let v832 : BitVec 32 := Scalar.muli v831 c1_i32_186
  let v833 : BitVec 32 := Scalar.addi c0_i32_185 v832
  let c1_i32_187 : BitVec 32 := 1#32
  ⟨c0_i32_185, v833, c1_i32_187⟩
def k0_mult39 (i : grid0.Coords) (k0_t13 : Fin (k0_t13_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_185 : BitVec 32 := 0#32
  let c1_i32_187 : BitVec 32 := 1#32
  let arg12 : BitVec 32 := Scf.iv c0_i32_185 c1_i32_187 k0_t13
  let c256_i32_436 : BitVec 32 := 256#32
  let v1913 : BitVec 32 := Scalar.muli arg12 c256_i32_436
  let v1914 : BitVec 32 := Scalar.addi v3 v1913
  v1914
def k0_off29 (i : grid0.Coords) (k0_t13 : Fin (k0_t13_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_185 : BitVec 32 := 0#32
  let c1_i32_187 : BitVec 32 := 1#32
  let arg12 : BitVec 32 := Scf.iv c0_i32_185 c1_i32_187 k0_t13
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult40 (i : grid0.Coords) (k0_t13 : Fin (k0_t13_loop i).trips) : BitVec 32 :=
  let c0_i32_185 : BitVec 32 := 0#32
  let c1_i32_187 : BitVec 32 := 1#32
  let arg12 : BitVec 32 := Scf.iv c0_i32_185 c1_i32_187 k0_t13
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off30 (i : grid0.Coords) (k0_t13 : Fin (k0_t13_loop i).trips) : Fin 2 → Nat :=
  let c0_i32_185 : BitVec 32 := 0#32
  let c1_i32_187 : BitVec 32 := 1#32
  let arg12 : BitVec 32 := Scf.iv c0_i32_185 c1_i32_187 k0_t13
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
@[reducible] def k0_t14_loop (i : grid0.Coords) : Scf.Loop 32 :=
  let c0_i32_185 : BitVec 32 := 0#32
  let arg2 : BitVec 32 := BitVec.ofNat 32 (i 2).val
  let c15_i32 : BitVec 32 := 15#32
  let v1 : BitVec 32 := Scalar.minsi arg2 c15_i32
  let v829 : BitVec 32 := Scalar.subi v1 c0_i32_185
  let c1_i32_186 : BitVec 32 := 1#32
  let v831 : BitVec 32 := Scalar.divsi v829 c1_i32_186
  let v832 : BitVec 32 := Scalar.muli v831 c1_i32_186
  let v833 : BitVec 32 := Scalar.addi c0_i32_185 v832
  let v830 : BitVec 32 := Scalar.addi c0_i32_185 v829
  let c1_i32_188 : BitVec 32 := 1#32
  ⟨v833, v830, c1_i32_188⟩
def k0_mult41 (i : grid0.Coords) (k0_t14 : Fin (k0_t14_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_185 : BitVec 32 := 0#32
  let v829 : BitVec 32 := Scalar.subi v1 c0_i32_185
  let c1_i32_186 : BitVec 32 := 1#32
  let v831 : BitVec 32 := Scalar.divsi v829 c1_i32_186
  let v832 : BitVec 32 := Scalar.muli v831 c1_i32_186
  let v833 : BitVec 32 := Scalar.addi c0_i32_185 v832
  let c1_i32_188 : BitVec 32 := 1#32
  let arg12 : BitVec 32 := Scf.iv v833 c1_i32_188 k0_t14
  let c256_i32_436 : BitVec 32 := 256#32
  let v1913 : BitVec 32 := Scalar.muli arg12 c256_i32_436
  let v1914 : BitVec 32 := Scalar.addi v3 v1913
  v1914
def k0_off31 (i : grid0.Coords) (k0_t14 : Fin (k0_t14_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_185 : BitVec 32 := 0#32
  let v829 : BitVec 32 := Scalar.subi v1 c0_i32_185
  let c1_i32_186 : BitVec 32 := 1#32
  let v831 : BitVec 32 := Scalar.divsi v829 c1_i32_186
  let v832 : BitVec 32 := Scalar.muli v831 c1_i32_186
  let v833 : BitVec 32 := Scalar.addi c0_i32_185 v832
  let c1_i32_188 : BitVec 32 := 1#32
  let arg12 : BitVec 32 := Scf.iv v833 c1_i32_188 k0_t14
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult42 (i : grid0.Coords) (k0_t14 : Fin (k0_t14_loop i).trips) : BitVec 32 :=
  let c0_i32_185 : BitVec 32 := 0#32
  let arg2 : BitVec 32 := BitVec.ofNat 32 (i 2).val
  let c15_i32 : BitVec 32 := 15#32
  let v1 : BitVec 32 := Scalar.minsi arg2 c15_i32
  let v829 : BitVec 32 := Scalar.subi v1 c0_i32_185
  let c1_i32_186 : BitVec 32 := 1#32
  let v831 : BitVec 32 := Scalar.divsi v829 c1_i32_186
  let v832 : BitVec 32 := Scalar.muli v831 c1_i32_186
  let v833 : BitVec 32 := Scalar.addi c0_i32_185 v832
  let c1_i32_188 : BitVec 32 := 1#32
  let arg12 : BitVec 32 := Scf.iv v833 c1_i32_188 k0_t14
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off32 (i : grid0.Coords) (k0_t14 : Fin (k0_t14_loop i).trips) : Fin 2 → Nat :=
  let c0_i32_185 : BitVec 32 := 0#32
  let arg2 : BitVec 32 := BitVec.ofNat 32 (i 2).val
  let c15_i32 : BitVec 32 := 15#32
  let v1 : BitVec 32 := Scalar.minsi arg2 c15_i32
  let v829 : BitVec 32 := Scalar.subi v1 c0_i32_185
  let c1_i32_186 : BitVec 32 := 1#32
  let v831 : BitVec 32 := Scalar.divsi v829 c1_i32_186
  let v832 : BitVec 32 := Scalar.muli v831 c1_i32_186
  let v833 : BitVec 32 := Scalar.addi c0_i32_185 v832
  let c1_i32_188 : BitVec 32 := 1#32
  let arg12 : BitVec 32 := Scf.iv v833 c1_i32_188 k0_t14
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
def k0_mult43 (i : grid0.Coords) : BitVec 32 :=
  let arg2 : BitVec 32 := BitVec.ofNat 32 (i 2).val
  let c256_i32 : BitVec 32 := 256#32
  let v0 : BitVec 32 := Scalar.muli arg2 c256_i32
  v0
def k0_mult44 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
@[reducible] def k0_t15_loop (i : grid0.Coords) : Scf.Loop 32 :=
  let c0_i32_208 : BitVec 32 := 0#32
  let arg2 : BitVec 32 := BitVec.ofNat 32 (i 2).val
  let c15_i32 : BitVec 32 := 15#32
  let v1 : BitVec 32 := Scalar.minsi arg2 c15_i32
  let v941 : BitVec 32 := Scalar.subi v1 c0_i32_208
  let c1_i32_209 : BitVec 32 := 1#32
  let v943 : BitVec 32 := Scalar.divsi v941 c1_i32_209
  let v944 : BitVec 32 := Scalar.muli v943 c1_i32_209
  let v945 : BitVec 32 := Scalar.addi c0_i32_208 v944
  let c1_i32_210 : BitVec 32 := 1#32
  ⟨c0_i32_208, v945, c1_i32_210⟩
def k0_mult45 (i : grid0.Coords) (k0_t15 : Fin (k0_t15_loop i).trips) : BitVec 32 :=
  let c0_i32_208 : BitVec 32 := 0#32
  let c1_i32_210 : BitVec 32 := 1#32
  let arg12 : BitVec 32 := Scf.iv c0_i32_208 c1_i32_210 k0_t15
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off33 (i : grid0.Coords) (k0_t15 : Fin (k0_t15_loop i).trips) : Fin 2 → Nat :=
  let c0_i32_208 : BitVec 32 := 0#32
  let c1_i32_210 : BitVec 32 := 1#32
  let arg12 : BitVec 32 := Scf.iv c0_i32_208 c1_i32_210 k0_t15
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult46 (i : grid0.Coords) (k0_t15 : Fin (k0_t15_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_208 : BitVec 32 := 0#32
  let c1_i32_210 : BitVec 32 := 1#32
  let arg12 : BitVec 32 := Scf.iv c0_i32_208 c1_i32_210 k0_t15
  let c256_i32_441 : BitVec 32 := 256#32
  let v1924 : BitVec 32 := Scalar.muli arg12 c256_i32_441
  let v1925 : BitVec 32 := Scalar.addi v3 v1924
  v1925
def k0_off34 (i : grid0.Coords) (k0_t15 : Fin (k0_t15_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_208 : BitVec 32 := 0#32
  let c1_i32_210 : BitVec 32 := 1#32
  let arg12 : BitVec 32 := Scf.iv c0_i32_208 c1_i32_210 k0_t15
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
@[reducible] def k0_t16_loop (i : grid0.Coords) : Scf.Loop 32 :=
  let c0_i32_208 : BitVec 32 := 0#32
  let arg2 : BitVec 32 := BitVec.ofNat 32 (i 2).val
  let c15_i32 : BitVec 32 := 15#32
  let v1 : BitVec 32 := Scalar.minsi arg2 c15_i32
  let v941 : BitVec 32 := Scalar.subi v1 c0_i32_208
  let c1_i32_209 : BitVec 32 := 1#32
  let v943 : BitVec 32 := Scalar.divsi v941 c1_i32_209
  let v944 : BitVec 32 := Scalar.muli v943 c1_i32_209
  let v945 : BitVec 32 := Scalar.addi c0_i32_208 v944
  let v942 : BitVec 32 := Scalar.addi c0_i32_208 v941
  let c1_i32_211 : BitVec 32 := 1#32
  ⟨v945, v942, c1_i32_211⟩
def k0_mult47 (i : grid0.Coords) (k0_t16 : Fin (k0_t16_loop i).trips) : BitVec 32 :=
  let c0_i32_208 : BitVec 32 := 0#32
  let arg2 : BitVec 32 := BitVec.ofNat 32 (i 2).val
  let c15_i32 : BitVec 32 := 15#32
  let v1 : BitVec 32 := Scalar.minsi arg2 c15_i32
  let v941 : BitVec 32 := Scalar.subi v1 c0_i32_208
  let c1_i32_209 : BitVec 32 := 1#32
  let v943 : BitVec 32 := Scalar.divsi v941 c1_i32_209
  let v944 : BitVec 32 := Scalar.muli v943 c1_i32_209
  let v945 : BitVec 32 := Scalar.addi c0_i32_208 v944
  let c1_i32_211 : BitVec 32 := 1#32
  let arg12 : BitVec 32 := Scf.iv v945 c1_i32_211 k0_t16
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off35 (i : grid0.Coords) (k0_t16 : Fin (k0_t16_loop i).trips) : Fin 2 → Nat :=
  let c0_i32_208 : BitVec 32 := 0#32
  let arg2 : BitVec 32 := BitVec.ofNat 32 (i 2).val
  let c15_i32 : BitVec 32 := 15#32
  let v1 : BitVec 32 := Scalar.minsi arg2 c15_i32
  let v941 : BitVec 32 := Scalar.subi v1 c0_i32_208
  let c1_i32_209 : BitVec 32 := 1#32
  let v943 : BitVec 32 := Scalar.divsi v941 c1_i32_209
  let v944 : BitVec 32 := Scalar.muli v943 c1_i32_209
  let v945 : BitVec 32 := Scalar.addi c0_i32_208 v944
  let c1_i32_211 : BitVec 32 := 1#32
  let arg12 : BitVec 32 := Scf.iv v945 c1_i32_211 k0_t16
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult48 (i : grid0.Coords) (k0_t16 : Fin (k0_t16_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_208 : BitVec 32 := 0#32
  let v941 : BitVec 32 := Scalar.subi v1 c0_i32_208
  let c1_i32_209 : BitVec 32 := 1#32
  let v943 : BitVec 32 := Scalar.divsi v941 c1_i32_209
  let v944 : BitVec 32 := Scalar.muli v943 c1_i32_209
  let v945 : BitVec 32 := Scalar.addi c0_i32_208 v944
  let c1_i32_211 : BitVec 32 := 1#32
  let arg12 : BitVec 32 := Scf.iv v945 c1_i32_211 k0_t16
  let c256_i32_441 : BitVec 32 := 256#32
  let v1924 : BitVec 32 := Scalar.muli arg12 c256_i32_441
  let v1925 : BitVec 32 := Scalar.addi v3 v1924
  v1925
def k0_off36 (i : grid0.Coords) (k0_t16 : Fin (k0_t16_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_208 : BitVec 32 := 0#32
  let v941 : BitVec 32 := Scalar.subi v1 c0_i32_208
  let c1_i32_209 : BitVec 32 := 1#32
  let v943 : BitVec 32 := Scalar.divsi v941 c1_i32_209
  let v944 : BitVec 32 := Scalar.muli v943 c1_i32_209
  let v945 : BitVec 32 := Scalar.addi c0_i32_208 v944
  let c1_i32_211 : BitVec 32 := 1#32
  let arg12 : BitVec 32 := Scf.iv v945 c1_i32_211 k0_t16
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
def k0_mult49 (i : grid0.Coords) : BitVec 32 :=
  let arg2 : BitVec 32 := BitVec.ofNat 32 (i 2).val
  let c256_i32 : BitVec 32 := 256#32
  let v0 : BitVec 32 := Scalar.muli arg2 c256_i32
  v0
def k0_mult50 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
@[reducible] def k0_t17_loop (i : grid0.Coords) : Scf.Loop 32 :=
  let c0_i32_239 : BitVec 32 := 0#32
  let arg2 : BitVec 32 := BitVec.ofNat 32 (i 2).val
  let c15_i32 : BitVec 32 := 15#32
  let v1 : BitVec 32 := Scalar.minsi arg2 c15_i32
  let v1066 : BitVec 32 := Scalar.subi v1 c0_i32_239
  let c1_i32_240 : BitVec 32 := 1#32
  let v1068 : BitVec 32 := Scalar.divsi v1066 c1_i32_240
  let v1069 : BitVec 32 := Scalar.muli v1068 c1_i32_240
  let v1070 : BitVec 32 := Scalar.addi c0_i32_239 v1069
  let c1_i32_241 : BitVec 32 := 1#32
  ⟨c0_i32_239, v1070, c1_i32_241⟩
def k0_mult51 (i : grid0.Coords) (k0_t17 : Fin (k0_t17_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_239 : BitVec 32 := 0#32
  let c1_i32_241 : BitVec 32 := 1#32
  let arg12 : BitVec 32 := Scf.iv c0_i32_239 c1_i32_241 k0_t17
  let c256_i32_436 : BitVec 32 := 256#32
  let v1913 : BitVec 32 := Scalar.muli arg12 c256_i32_436
  let v1914 : BitVec 32 := Scalar.addi v3 v1913
  v1914
def k0_off37 (i : grid0.Coords) (k0_t17 : Fin (k0_t17_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_239 : BitVec 32 := 0#32
  let c1_i32_241 : BitVec 32 := 1#32
  let arg12 : BitVec 32 := Scf.iv c0_i32_239 c1_i32_241 k0_t17
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult52 (i : grid0.Coords) (k0_t17 : Fin (k0_t17_loop i).trips) : BitVec 32 :=
  let c0_i32_239 : BitVec 32 := 0#32
  let c1_i32_241 : BitVec 32 := 1#32
  let arg12 : BitVec 32 := Scf.iv c0_i32_239 c1_i32_241 k0_t17
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off38 (i : grid0.Coords) (k0_t17 : Fin (k0_t17_loop i).trips) : Fin 2 → Nat :=
  let c0_i32_239 : BitVec 32 := 0#32
  let c1_i32_241 : BitVec 32 := 1#32
  let arg12 : BitVec 32 := Scf.iv c0_i32_239 c1_i32_241 k0_t17
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
@[reducible] def k0_t18_loop (i : grid0.Coords) : Scf.Loop 32 :=
  let c0_i32_239 : BitVec 32 := 0#32
  let arg2 : BitVec 32 := BitVec.ofNat 32 (i 2).val
  let c15_i32 : BitVec 32 := 15#32
  let v1 : BitVec 32 := Scalar.minsi arg2 c15_i32
  let v1066 : BitVec 32 := Scalar.subi v1 c0_i32_239
  let c1_i32_240 : BitVec 32 := 1#32
  let v1068 : BitVec 32 := Scalar.divsi v1066 c1_i32_240
  let v1069 : BitVec 32 := Scalar.muli v1068 c1_i32_240
  let v1070 : BitVec 32 := Scalar.addi c0_i32_239 v1069
  let v1067 : BitVec 32 := Scalar.addi c0_i32_239 v1066
  let c1_i32_242 : BitVec 32 := 1#32
  ⟨v1070, v1067, c1_i32_242⟩
def k0_mult53 (i : grid0.Coords) (k0_t18 : Fin (k0_t18_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_239 : BitVec 32 := 0#32
  let v1066 : BitVec 32 := Scalar.subi v1 c0_i32_239
  let c1_i32_240 : BitVec 32 := 1#32
  let v1068 : BitVec 32 := Scalar.divsi v1066 c1_i32_240
  let v1069 : BitVec 32 := Scalar.muli v1068 c1_i32_240
  let v1070 : BitVec 32 := Scalar.addi c0_i32_239 v1069
  let c1_i32_242 : BitVec 32 := 1#32
  let arg12 : BitVec 32 := Scf.iv v1070 c1_i32_242 k0_t18
  let c256_i32_436 : BitVec 32 := 256#32
  let v1913 : BitVec 32 := Scalar.muli arg12 c256_i32_436
  let v1914 : BitVec 32 := Scalar.addi v3 v1913
  v1914
def k0_off39 (i : grid0.Coords) (k0_t18 : Fin (k0_t18_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_239 : BitVec 32 := 0#32
  let v1066 : BitVec 32 := Scalar.subi v1 c0_i32_239
  let c1_i32_240 : BitVec 32 := 1#32
  let v1068 : BitVec 32 := Scalar.divsi v1066 c1_i32_240
  let v1069 : BitVec 32 := Scalar.muli v1068 c1_i32_240
  let v1070 : BitVec 32 := Scalar.addi c0_i32_239 v1069
  let c1_i32_242 : BitVec 32 := 1#32
  let arg12 : BitVec 32 := Scf.iv v1070 c1_i32_242 k0_t18
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult54 (i : grid0.Coords) (k0_t18 : Fin (k0_t18_loop i).trips) : BitVec 32 :=
  let c0_i32_239 : BitVec 32 := 0#32
  let arg2 : BitVec 32 := BitVec.ofNat 32 (i 2).val
  let c15_i32 : BitVec 32 := 15#32
  let v1 : BitVec 32 := Scalar.minsi arg2 c15_i32
  let v1066 : BitVec 32 := Scalar.subi v1 c0_i32_239
  let c1_i32_240 : BitVec 32 := 1#32
  let v1068 : BitVec 32 := Scalar.divsi v1066 c1_i32_240
  let v1069 : BitVec 32 := Scalar.muli v1068 c1_i32_240
  let v1070 : BitVec 32 := Scalar.addi c0_i32_239 v1069
  let c1_i32_242 : BitVec 32 := 1#32
  let arg12 : BitVec 32 := Scf.iv v1070 c1_i32_242 k0_t18
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off40 (i : grid0.Coords) (k0_t18 : Fin (k0_t18_loop i).trips) : Fin 2 → Nat :=
  let c0_i32_239 : BitVec 32 := 0#32
  let arg2 : BitVec 32 := BitVec.ofNat 32 (i 2).val
  let c15_i32 : BitVec 32 := 15#32
  let v1 : BitVec 32 := Scalar.minsi arg2 c15_i32
  let v1066 : BitVec 32 := Scalar.subi v1 c0_i32_239
  let c1_i32_240 : BitVec 32 := 1#32
  let v1068 : BitVec 32 := Scalar.divsi v1066 c1_i32_240
  let v1069 : BitVec 32 := Scalar.muli v1068 c1_i32_240
  let v1070 : BitVec 32 := Scalar.addi c0_i32_239 v1069
  let c1_i32_242 : BitVec 32 := 1#32
  let arg12 : BitVec 32 := Scf.iv v1070 c1_i32_242 k0_t18
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
def k0_mult55 (i : grid0.Coords) : BitVec 32 :=
  let arg2 : BitVec 32 := BitVec.ofNat 32 (i 2).val
  let c256_i32 : BitVec 32 := 256#32
  let v0 : BitVec 32 := Scalar.muli arg2 c256_i32
  v0
def k0_mult56 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
@[reducible] def k0_t19_loop (i : grid0.Coords) : Scf.Loop 32 :=
  let c0_i32_262 : BitVec 32 := 0#32
  let arg2 : BitVec 32 := BitVec.ofNat 32 (i 2).val
  let c15_i32 : BitVec 32 := 15#32
  let v1 : BitVec 32 := Scalar.minsi arg2 c15_i32
  let v1178 : BitVec 32 := Scalar.subi v1 c0_i32_262
  let c1_i32_263 : BitVec 32 := 1#32
  let v1180 : BitVec 32 := Scalar.divsi v1178 c1_i32_263
  let v1181 : BitVec 32 := Scalar.muli v1180 c1_i32_263
  let v1182 : BitVec 32 := Scalar.addi c0_i32_262 v1181
  let c1_i32_264 : BitVec 32 := 1#32
  ⟨c0_i32_262, v1182, c1_i32_264⟩
def k0_mult57 (i : grid0.Coords) (k0_t19 : Fin (k0_t19_loop i).trips) : BitVec 32 :=
  let c0_i32_262 : BitVec 32 := 0#32
  let c1_i32_264 : BitVec 32 := 1#32
  let arg12 : BitVec 32 := Scf.iv c0_i32_262 c1_i32_264 k0_t19
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off41 (i : grid0.Coords) (k0_t19 : Fin (k0_t19_loop i).trips) : Fin 2 → Nat :=
  let c0_i32_262 : BitVec 32 := 0#32
  let c1_i32_264 : BitVec 32 := 1#32
  let arg12 : BitVec 32 := Scf.iv c0_i32_262 c1_i32_264 k0_t19
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult58 (i : grid0.Coords) (k0_t19 : Fin (k0_t19_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_262 : BitVec 32 := 0#32
  let c1_i32_264 : BitVec 32 := 1#32
  let arg12 : BitVec 32 := Scf.iv c0_i32_262 c1_i32_264 k0_t19
  let c256_i32_441 : BitVec 32 := 256#32
  let v1924 : BitVec 32 := Scalar.muli arg12 c256_i32_441
  let v1925 : BitVec 32 := Scalar.addi v3 v1924
  v1925
def k0_off42 (i : grid0.Coords) (k0_t19 : Fin (k0_t19_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_262 : BitVec 32 := 0#32
  let c1_i32_264 : BitVec 32 := 1#32
  let arg12 : BitVec 32 := Scf.iv c0_i32_262 c1_i32_264 k0_t19
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
@[reducible] def k0_t20_loop (i : grid0.Coords) : Scf.Loop 32 :=
  let c0_i32_262 : BitVec 32 := 0#32
  let arg2 : BitVec 32 := BitVec.ofNat 32 (i 2).val
  let c15_i32 : BitVec 32 := 15#32
  let v1 : BitVec 32 := Scalar.minsi arg2 c15_i32
  let v1178 : BitVec 32 := Scalar.subi v1 c0_i32_262
  let c1_i32_263 : BitVec 32 := 1#32
  let v1180 : BitVec 32 := Scalar.divsi v1178 c1_i32_263
  let v1181 : BitVec 32 := Scalar.muli v1180 c1_i32_263
  let v1182 : BitVec 32 := Scalar.addi c0_i32_262 v1181
  let v1179 : BitVec 32 := Scalar.addi c0_i32_262 v1178
  let c1_i32_265 : BitVec 32 := 1#32
  ⟨v1182, v1179, c1_i32_265⟩
def k0_mult59 (i : grid0.Coords) (k0_t20 : Fin (k0_t20_loop i).trips) : BitVec 32 :=
  let c0_i32_262 : BitVec 32 := 0#32
  let arg2 : BitVec 32 := BitVec.ofNat 32 (i 2).val
  let c15_i32 : BitVec 32 := 15#32
  let v1 : BitVec 32 := Scalar.minsi arg2 c15_i32
  let v1178 : BitVec 32 := Scalar.subi v1 c0_i32_262
  let c1_i32_263 : BitVec 32 := 1#32
  let v1180 : BitVec 32 := Scalar.divsi v1178 c1_i32_263
  let v1181 : BitVec 32 := Scalar.muli v1180 c1_i32_263
  let v1182 : BitVec 32 := Scalar.addi c0_i32_262 v1181
  let c1_i32_265 : BitVec 32 := 1#32
  let arg12 : BitVec 32 := Scf.iv v1182 c1_i32_265 k0_t20
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off43 (i : grid0.Coords) (k0_t20 : Fin (k0_t20_loop i).trips) : Fin 2 → Nat :=
  let c0_i32_262 : BitVec 32 := 0#32
  let arg2 : BitVec 32 := BitVec.ofNat 32 (i 2).val
  let c15_i32 : BitVec 32 := 15#32
  let v1 : BitVec 32 := Scalar.minsi arg2 c15_i32
  let v1178 : BitVec 32 := Scalar.subi v1 c0_i32_262
  let c1_i32_263 : BitVec 32 := 1#32
  let v1180 : BitVec 32 := Scalar.divsi v1178 c1_i32_263
  let v1181 : BitVec 32 := Scalar.muli v1180 c1_i32_263
  let v1182 : BitVec 32 := Scalar.addi c0_i32_262 v1181
  let c1_i32_265 : BitVec 32 := 1#32
  let arg12 : BitVec 32 := Scf.iv v1182 c1_i32_265 k0_t20
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult60 (i : grid0.Coords) (k0_t20 : Fin (k0_t20_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_262 : BitVec 32 := 0#32
  let v1178 : BitVec 32 := Scalar.subi v1 c0_i32_262
  let c1_i32_263 : BitVec 32 := 1#32
  let v1180 : BitVec 32 := Scalar.divsi v1178 c1_i32_263
  let v1181 : BitVec 32 := Scalar.muli v1180 c1_i32_263
  let v1182 : BitVec 32 := Scalar.addi c0_i32_262 v1181
  let c1_i32_265 : BitVec 32 := 1#32
  let arg12 : BitVec 32 := Scf.iv v1182 c1_i32_265 k0_t20
  let c256_i32_441 : BitVec 32 := 256#32
  let v1924 : BitVec 32 := Scalar.muli arg12 c256_i32_441
  let v1925 : BitVec 32 := Scalar.addi v3 v1924
  v1925
def k0_off44 (i : grid0.Coords) (k0_t20 : Fin (k0_t20_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_262 : BitVec 32 := 0#32
  let v1178 : BitVec 32 := Scalar.subi v1 c0_i32_262
  let c1_i32_263 : BitVec 32 := 1#32
  let v1180 : BitVec 32 := Scalar.divsi v1178 c1_i32_263
  let v1181 : BitVec 32 := Scalar.muli v1180 c1_i32_263
  let v1182 : BitVec 32 := Scalar.addi c0_i32_262 v1181
  let c1_i32_265 : BitVec 32 := 1#32
  let arg12 : BitVec 32 := Scf.iv v1182 c1_i32_265 k0_t20
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
def k0_mult61 (i : grid0.Coords) : BitVec 32 :=
  let arg2 : BitVec 32 := BitVec.ofNat 32 (i 2).val
  let c256_i32 : BitVec 32 := 256#32
  let v0 : BitVec 32 := Scalar.muli arg2 c256_i32
  v0
def k0_mult62 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
@[reducible] def k0_t21_loop (i : grid0.Coords) : Scf.Loop 32 :=
  let c0_i32_293 : BitVec 32 := 0#32
  let arg2 : BitVec 32 := BitVec.ofNat 32 (i 2).val
  let c15_i32 : BitVec 32 := 15#32
  let v1 : BitVec 32 := Scalar.minsi arg2 c15_i32
  let v1303 : BitVec 32 := Scalar.subi v1 c0_i32_293
  let c1_i32_294 : BitVec 32 := 1#32
  let v1305 : BitVec 32 := Scalar.divsi v1303 c1_i32_294
  let v1306 : BitVec 32 := Scalar.muli v1305 c1_i32_294
  let v1307 : BitVec 32 := Scalar.addi c0_i32_293 v1306
  let c1_i32_295 : BitVec 32 := 1#32
  ⟨c0_i32_293, v1307, c1_i32_295⟩
def k0_mult63 (i : grid0.Coords) (k0_t21 : Fin (k0_t21_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_293 : BitVec 32 := 0#32
  let c1_i32_295 : BitVec 32 := 1#32
  let arg12 : BitVec 32 := Scf.iv c0_i32_293 c1_i32_295 k0_t21
  let c256_i32_436 : BitVec 32 := 256#32
  let v1913 : BitVec 32 := Scalar.muli arg12 c256_i32_436
  let v1914 : BitVec 32 := Scalar.addi v3 v1913
  v1914
def k0_off45 (i : grid0.Coords) (k0_t21 : Fin (k0_t21_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_293 : BitVec 32 := 0#32
  let c1_i32_295 : BitVec 32 := 1#32
  let arg12 : BitVec 32 := Scf.iv c0_i32_293 c1_i32_295 k0_t21
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult64 (i : grid0.Coords) (k0_t21 : Fin (k0_t21_loop i).trips) : BitVec 32 :=
  let c0_i32_293 : BitVec 32 := 0#32
  let c1_i32_295 : BitVec 32 := 1#32
  let arg12 : BitVec 32 := Scf.iv c0_i32_293 c1_i32_295 k0_t21
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off46 (i : grid0.Coords) (k0_t21 : Fin (k0_t21_loop i).trips) : Fin 2 → Nat :=
  let c0_i32_293 : BitVec 32 := 0#32
  let c1_i32_295 : BitVec 32 := 1#32
  let arg12 : BitVec 32 := Scf.iv c0_i32_293 c1_i32_295 k0_t21
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
@[reducible] def k0_t22_loop (i : grid0.Coords) : Scf.Loop 32 :=
  let c0_i32_293 : BitVec 32 := 0#32
  let arg2 : BitVec 32 := BitVec.ofNat 32 (i 2).val
  let c15_i32 : BitVec 32 := 15#32
  let v1 : BitVec 32 := Scalar.minsi arg2 c15_i32
  let v1303 : BitVec 32 := Scalar.subi v1 c0_i32_293
  let c1_i32_294 : BitVec 32 := 1#32
  let v1305 : BitVec 32 := Scalar.divsi v1303 c1_i32_294
  let v1306 : BitVec 32 := Scalar.muli v1305 c1_i32_294
  let v1307 : BitVec 32 := Scalar.addi c0_i32_293 v1306
  let v1304 : BitVec 32 := Scalar.addi c0_i32_293 v1303
  let c1_i32_296 : BitVec 32 := 1#32
  ⟨v1307, v1304, c1_i32_296⟩
def k0_mult65 (i : grid0.Coords) (k0_t22 : Fin (k0_t22_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_293 : BitVec 32 := 0#32
  let v1303 : BitVec 32 := Scalar.subi v1 c0_i32_293
  let c1_i32_294 : BitVec 32 := 1#32
  let v1305 : BitVec 32 := Scalar.divsi v1303 c1_i32_294
  let v1306 : BitVec 32 := Scalar.muli v1305 c1_i32_294
  let v1307 : BitVec 32 := Scalar.addi c0_i32_293 v1306
  let c1_i32_296 : BitVec 32 := 1#32
  let arg12 : BitVec 32 := Scf.iv v1307 c1_i32_296 k0_t22
  let c256_i32_436 : BitVec 32 := 256#32
  let v1913 : BitVec 32 := Scalar.muli arg12 c256_i32_436
  let v1914 : BitVec 32 := Scalar.addi v3 v1913
  v1914
def k0_off47 (i : grid0.Coords) (k0_t22 : Fin (k0_t22_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_293 : BitVec 32 := 0#32
  let v1303 : BitVec 32 := Scalar.subi v1 c0_i32_293
  let c1_i32_294 : BitVec 32 := 1#32
  let v1305 : BitVec 32 := Scalar.divsi v1303 c1_i32_294
  let v1306 : BitVec 32 := Scalar.muli v1305 c1_i32_294
  let v1307 : BitVec 32 := Scalar.addi c0_i32_293 v1306
  let c1_i32_296 : BitVec 32 := 1#32
  let arg12 : BitVec 32 := Scf.iv v1307 c1_i32_296 k0_t22
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult66 (i : grid0.Coords) (k0_t22 : Fin (k0_t22_loop i).trips) : BitVec 32 :=
  let c0_i32_293 : BitVec 32 := 0#32
  let arg2 : BitVec 32 := BitVec.ofNat 32 (i 2).val
  let c15_i32 : BitVec 32 := 15#32
  let v1 : BitVec 32 := Scalar.minsi arg2 c15_i32
  let v1303 : BitVec 32 := Scalar.subi v1 c0_i32_293
  let c1_i32_294 : BitVec 32 := 1#32
  let v1305 : BitVec 32 := Scalar.divsi v1303 c1_i32_294
  let v1306 : BitVec 32 := Scalar.muli v1305 c1_i32_294
  let v1307 : BitVec 32 := Scalar.addi c0_i32_293 v1306
  let c1_i32_296 : BitVec 32 := 1#32
  let arg12 : BitVec 32 := Scf.iv v1307 c1_i32_296 k0_t22
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off48 (i : grid0.Coords) (k0_t22 : Fin (k0_t22_loop i).trips) : Fin 2 → Nat :=
  let c0_i32_293 : BitVec 32 := 0#32
  let arg2 : BitVec 32 := BitVec.ofNat 32 (i 2).val
  let c15_i32 : BitVec 32 := 15#32
  let v1 : BitVec 32 := Scalar.minsi arg2 c15_i32
  let v1303 : BitVec 32 := Scalar.subi v1 c0_i32_293
  let c1_i32_294 : BitVec 32 := 1#32
  let v1305 : BitVec 32 := Scalar.divsi v1303 c1_i32_294
  let v1306 : BitVec 32 := Scalar.muli v1305 c1_i32_294
  let v1307 : BitVec 32 := Scalar.addi c0_i32_293 v1306
  let c1_i32_296 : BitVec 32 := 1#32
  let arg12 : BitVec 32 := Scf.iv v1307 c1_i32_296 k0_t22
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
def k0_mult67 (i : grid0.Coords) : BitVec 32 :=
  let arg2 : BitVec 32 := BitVec.ofNat 32 (i 2).val
  let c256_i32 : BitVec 32 := 256#32
  let v0 : BitVec 32 := Scalar.muli arg2 c256_i32
  v0
def k0_mult68 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
@[reducible] def k0_t23_loop (i : grid0.Coords) : Scf.Loop 32 :=
  let c0_i32_316 : BitVec 32 := 0#32
  let arg2 : BitVec 32 := BitVec.ofNat 32 (i 2).val
  let c15_i32 : BitVec 32 := 15#32
  let v1 : BitVec 32 := Scalar.minsi arg2 c15_i32
  let v1415 : BitVec 32 := Scalar.subi v1 c0_i32_316
  let c1_i32_317 : BitVec 32 := 1#32
  let v1417 : BitVec 32 := Scalar.divsi v1415 c1_i32_317
  let v1418 : BitVec 32 := Scalar.muli v1417 c1_i32_317
  let v1419 : BitVec 32 := Scalar.addi c0_i32_316 v1418
  let c1_i32_318 : BitVec 32 := 1#32
  ⟨c0_i32_316, v1419, c1_i32_318⟩
def k0_mult69 (i : grid0.Coords) (k0_t23 : Fin (k0_t23_loop i).trips) : BitVec 32 :=
  let c0_i32_316 : BitVec 32 := 0#32
  let c1_i32_318 : BitVec 32 := 1#32
  let arg12 : BitVec 32 := Scf.iv c0_i32_316 c1_i32_318 k0_t23
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off49 (i : grid0.Coords) (k0_t23 : Fin (k0_t23_loop i).trips) : Fin 2 → Nat :=
  let c0_i32_316 : BitVec 32 := 0#32
  let c1_i32_318 : BitVec 32 := 1#32
  let arg12 : BitVec 32 := Scf.iv c0_i32_316 c1_i32_318 k0_t23
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult70 (i : grid0.Coords) (k0_t23 : Fin (k0_t23_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_316 : BitVec 32 := 0#32
  let c1_i32_318 : BitVec 32 := 1#32
  let arg12 : BitVec 32 := Scf.iv c0_i32_316 c1_i32_318 k0_t23
  let c256_i32_441 : BitVec 32 := 256#32
  let v1924 : BitVec 32 := Scalar.muli arg12 c256_i32_441
  let v1925 : BitVec 32 := Scalar.addi v3 v1924
  v1925
def k0_off50 (i : grid0.Coords) (k0_t23 : Fin (k0_t23_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_316 : BitVec 32 := 0#32
  let c1_i32_318 : BitVec 32 := 1#32
  let arg12 : BitVec 32 := Scf.iv c0_i32_316 c1_i32_318 k0_t23
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
@[reducible] def k0_t24_loop (i : grid0.Coords) : Scf.Loop 32 :=
  let c0_i32_316 : BitVec 32 := 0#32
  let arg2 : BitVec 32 := BitVec.ofNat 32 (i 2).val
  let c15_i32 : BitVec 32 := 15#32
  let v1 : BitVec 32 := Scalar.minsi arg2 c15_i32
  let v1415 : BitVec 32 := Scalar.subi v1 c0_i32_316
  let c1_i32_317 : BitVec 32 := 1#32
  let v1417 : BitVec 32 := Scalar.divsi v1415 c1_i32_317
  let v1418 : BitVec 32 := Scalar.muli v1417 c1_i32_317
  let v1419 : BitVec 32 := Scalar.addi c0_i32_316 v1418
  let v1416 : BitVec 32 := Scalar.addi c0_i32_316 v1415
  let c1_i32_319 : BitVec 32 := 1#32
  ⟨v1419, v1416, c1_i32_319⟩
def k0_mult71 (i : grid0.Coords) (k0_t24 : Fin (k0_t24_loop i).trips) : BitVec 32 :=
  let c0_i32_316 : BitVec 32 := 0#32
  let arg2 : BitVec 32 := BitVec.ofNat 32 (i 2).val
  let c15_i32 : BitVec 32 := 15#32
  let v1 : BitVec 32 := Scalar.minsi arg2 c15_i32
  let v1415 : BitVec 32 := Scalar.subi v1 c0_i32_316
  let c1_i32_317 : BitVec 32 := 1#32
  let v1417 : BitVec 32 := Scalar.divsi v1415 c1_i32_317
  let v1418 : BitVec 32 := Scalar.muli v1417 c1_i32_317
  let v1419 : BitVec 32 := Scalar.addi c0_i32_316 v1418
  let c1_i32_319 : BitVec 32 := 1#32
  let arg12 : BitVec 32 := Scf.iv v1419 c1_i32_319 k0_t24
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off51 (i : grid0.Coords) (k0_t24 : Fin (k0_t24_loop i).trips) : Fin 2 → Nat :=
  let c0_i32_316 : BitVec 32 := 0#32
  let arg2 : BitVec 32 := BitVec.ofNat 32 (i 2).val
  let c15_i32 : BitVec 32 := 15#32
  let v1 : BitVec 32 := Scalar.minsi arg2 c15_i32
  let v1415 : BitVec 32 := Scalar.subi v1 c0_i32_316
  let c1_i32_317 : BitVec 32 := 1#32
  let v1417 : BitVec 32 := Scalar.divsi v1415 c1_i32_317
  let v1418 : BitVec 32 := Scalar.muli v1417 c1_i32_317
  let v1419 : BitVec 32 := Scalar.addi c0_i32_316 v1418
  let c1_i32_319 : BitVec 32 := 1#32
  let arg12 : BitVec 32 := Scf.iv v1419 c1_i32_319 k0_t24
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult72 (i : grid0.Coords) (k0_t24 : Fin (k0_t24_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_316 : BitVec 32 := 0#32
  let v1415 : BitVec 32 := Scalar.subi v1 c0_i32_316
  let c1_i32_317 : BitVec 32 := 1#32
  let v1417 : BitVec 32 := Scalar.divsi v1415 c1_i32_317
  let v1418 : BitVec 32 := Scalar.muli v1417 c1_i32_317
  let v1419 : BitVec 32 := Scalar.addi c0_i32_316 v1418
  let c1_i32_319 : BitVec 32 := 1#32
  let arg12 : BitVec 32 := Scf.iv v1419 c1_i32_319 k0_t24
  let c256_i32_441 : BitVec 32 := 256#32
  let v1924 : BitVec 32 := Scalar.muli arg12 c256_i32_441
  let v1925 : BitVec 32 := Scalar.addi v3 v1924
  v1925
def k0_off52 (i : grid0.Coords) (k0_t24 : Fin (k0_t24_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_316 : BitVec 32 := 0#32
  let v1415 : BitVec 32 := Scalar.subi v1 c0_i32_316
  let c1_i32_317 : BitVec 32 := 1#32
  let v1417 : BitVec 32 := Scalar.divsi v1415 c1_i32_317
  let v1418 : BitVec 32 := Scalar.muli v1417 c1_i32_317
  let v1419 : BitVec 32 := Scalar.addi c0_i32_316 v1418
  let c1_i32_319 : BitVec 32 := 1#32
  let arg12 : BitVec 32 := Scf.iv v1419 c1_i32_319 k0_t24
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
def k0_mult73 (i : grid0.Coords) : BitVec 32 :=
  let arg2 : BitVec 32 := BitVec.ofNat 32 (i 2).val
  let c256_i32 : BitVec 32 := 256#32
  let v0 : BitVec 32 := Scalar.muli arg2 c256_i32
  v0
def k0_mult74 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
@[reducible] def k0_t25_loop (i : grid0.Coords) : Scf.Loop 32 :=
  let c0_i32_347 : BitVec 32 := 0#32
  let arg2 : BitVec 32 := BitVec.ofNat 32 (i 2).val
  let c15_i32 : BitVec 32 := 15#32
  let v1 : BitVec 32 := Scalar.minsi arg2 c15_i32
  let v1540 : BitVec 32 := Scalar.subi v1 c0_i32_347
  let c1_i32_348 : BitVec 32 := 1#32
  let v1542 : BitVec 32 := Scalar.divsi v1540 c1_i32_348
  let v1543 : BitVec 32 := Scalar.muli v1542 c1_i32_348
  let v1544 : BitVec 32 := Scalar.addi c0_i32_347 v1543
  let c1_i32_349 : BitVec 32 := 1#32
  ⟨c0_i32_347, v1544, c1_i32_349⟩
def k0_mult75 (i : grid0.Coords) (k0_t25 : Fin (k0_t25_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_347 : BitVec 32 := 0#32
  let c1_i32_349 : BitVec 32 := 1#32
  let arg12 : BitVec 32 := Scf.iv c0_i32_347 c1_i32_349 k0_t25
  let c256_i32_436 : BitVec 32 := 256#32
  let v1913 : BitVec 32 := Scalar.muli arg12 c256_i32_436
  let v1914 : BitVec 32 := Scalar.addi v3 v1913
  v1914
def k0_off53 (i : grid0.Coords) (k0_t25 : Fin (k0_t25_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_347 : BitVec 32 := 0#32
  let c1_i32_349 : BitVec 32 := 1#32
  let arg12 : BitVec 32 := Scf.iv c0_i32_347 c1_i32_349 k0_t25
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult76 (i : grid0.Coords) (k0_t25 : Fin (k0_t25_loop i).trips) : BitVec 32 :=
  let c0_i32_347 : BitVec 32 := 0#32
  let c1_i32_349 : BitVec 32 := 1#32
  let arg12 : BitVec 32 := Scf.iv c0_i32_347 c1_i32_349 k0_t25
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off54 (i : grid0.Coords) (k0_t25 : Fin (k0_t25_loop i).trips) : Fin 2 → Nat :=
  let c0_i32_347 : BitVec 32 := 0#32
  let c1_i32_349 : BitVec 32 := 1#32
  let arg12 : BitVec 32 := Scf.iv c0_i32_347 c1_i32_349 k0_t25
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
@[reducible] def k0_t26_loop (i : grid0.Coords) : Scf.Loop 32 :=
  let c0_i32_347 : BitVec 32 := 0#32
  let arg2 : BitVec 32 := BitVec.ofNat 32 (i 2).val
  let c15_i32 : BitVec 32 := 15#32
  let v1 : BitVec 32 := Scalar.minsi arg2 c15_i32
  let v1540 : BitVec 32 := Scalar.subi v1 c0_i32_347
  let c1_i32_348 : BitVec 32 := 1#32
  let v1542 : BitVec 32 := Scalar.divsi v1540 c1_i32_348
  let v1543 : BitVec 32 := Scalar.muli v1542 c1_i32_348
  let v1544 : BitVec 32 := Scalar.addi c0_i32_347 v1543
  let v1541 : BitVec 32 := Scalar.addi c0_i32_347 v1540
  let c1_i32_350 : BitVec 32 := 1#32
  ⟨v1544, v1541, c1_i32_350⟩
def k0_mult77 (i : grid0.Coords) (k0_t26 : Fin (k0_t26_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_347 : BitVec 32 := 0#32
  let v1540 : BitVec 32 := Scalar.subi v1 c0_i32_347
  let c1_i32_348 : BitVec 32 := 1#32
  let v1542 : BitVec 32 := Scalar.divsi v1540 c1_i32_348
  let v1543 : BitVec 32 := Scalar.muli v1542 c1_i32_348
  let v1544 : BitVec 32 := Scalar.addi c0_i32_347 v1543
  let c1_i32_350 : BitVec 32 := 1#32
  let arg12 : BitVec 32 := Scf.iv v1544 c1_i32_350 k0_t26
  let c256_i32_436 : BitVec 32 := 256#32
  let v1913 : BitVec 32 := Scalar.muli arg12 c256_i32_436
  let v1914 : BitVec 32 := Scalar.addi v3 v1913
  v1914
def k0_off55 (i : grid0.Coords) (k0_t26 : Fin (k0_t26_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_347 : BitVec 32 := 0#32
  let v1540 : BitVec 32 := Scalar.subi v1 c0_i32_347
  let c1_i32_348 : BitVec 32 := 1#32
  let v1542 : BitVec 32 := Scalar.divsi v1540 c1_i32_348
  let v1543 : BitVec 32 := Scalar.muli v1542 c1_i32_348
  let v1544 : BitVec 32 := Scalar.addi c0_i32_347 v1543
  let c1_i32_350 : BitVec 32 := 1#32
  let arg12 : BitVec 32 := Scf.iv v1544 c1_i32_350 k0_t26
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult78 (i : grid0.Coords) (k0_t26 : Fin (k0_t26_loop i).trips) : BitVec 32 :=
  let c0_i32_347 : BitVec 32 := 0#32
  let arg2 : BitVec 32 := BitVec.ofNat 32 (i 2).val
  let c15_i32 : BitVec 32 := 15#32
  let v1 : BitVec 32 := Scalar.minsi arg2 c15_i32
  let v1540 : BitVec 32 := Scalar.subi v1 c0_i32_347
  let c1_i32_348 : BitVec 32 := 1#32
  let v1542 : BitVec 32 := Scalar.divsi v1540 c1_i32_348
  let v1543 : BitVec 32 := Scalar.muli v1542 c1_i32_348
  let v1544 : BitVec 32 := Scalar.addi c0_i32_347 v1543
  let c1_i32_350 : BitVec 32 := 1#32
  let arg12 : BitVec 32 := Scf.iv v1544 c1_i32_350 k0_t26
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off56 (i : grid0.Coords) (k0_t26 : Fin (k0_t26_loop i).trips) : Fin 2 → Nat :=
  let c0_i32_347 : BitVec 32 := 0#32
  let arg2 : BitVec 32 := BitVec.ofNat 32 (i 2).val
  let c15_i32 : BitVec 32 := 15#32
  let v1 : BitVec 32 := Scalar.minsi arg2 c15_i32
  let v1540 : BitVec 32 := Scalar.subi v1 c0_i32_347
  let c1_i32_348 : BitVec 32 := 1#32
  let v1542 : BitVec 32 := Scalar.divsi v1540 c1_i32_348
  let v1543 : BitVec 32 := Scalar.muli v1542 c1_i32_348
  let v1544 : BitVec 32 := Scalar.addi c0_i32_347 v1543
  let c1_i32_350 : BitVec 32 := 1#32
  let arg12 : BitVec 32 := Scf.iv v1544 c1_i32_350 k0_t26
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
def k0_mult79 (i : grid0.Coords) : BitVec 32 :=
  let arg2 : BitVec 32 := BitVec.ofNat 32 (i 2).val
  let c256_i32 : BitVec 32 := 256#32
  let v0 : BitVec 32 := Scalar.muli arg2 c256_i32
  v0
def k0_mult80 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
@[reducible] def k0_t27_loop (i : grid0.Coords) : Scf.Loop 32 :=
  let c0_i32_370 : BitVec 32 := 0#32
  let arg2 : BitVec 32 := BitVec.ofNat 32 (i 2).val
  let c15_i32 : BitVec 32 := 15#32
  let v1 : BitVec 32 := Scalar.minsi arg2 c15_i32
  let v1652 : BitVec 32 := Scalar.subi v1 c0_i32_370
  let c1_i32_371 : BitVec 32 := 1#32
  let v1654 : BitVec 32 := Scalar.divsi v1652 c1_i32_371
  let v1655 : BitVec 32 := Scalar.muli v1654 c1_i32_371
  let v1656 : BitVec 32 := Scalar.addi c0_i32_370 v1655
  let c1_i32_372 : BitVec 32 := 1#32
  ⟨c0_i32_370, v1656, c1_i32_372⟩
def k0_mult81 (i : grid0.Coords) (k0_t27 : Fin (k0_t27_loop i).trips) : BitVec 32 :=
  let c0_i32_370 : BitVec 32 := 0#32
  let c1_i32_372 : BitVec 32 := 1#32
  let arg12 : BitVec 32 := Scf.iv c0_i32_370 c1_i32_372 k0_t27
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off57 (i : grid0.Coords) (k0_t27 : Fin (k0_t27_loop i).trips) : Fin 2 → Nat :=
  let c0_i32_370 : BitVec 32 := 0#32
  let c1_i32_372 : BitVec 32 := 1#32
  let arg12 : BitVec 32 := Scf.iv c0_i32_370 c1_i32_372 k0_t27
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult82 (i : grid0.Coords) (k0_t27 : Fin (k0_t27_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_370 : BitVec 32 := 0#32
  let c1_i32_372 : BitVec 32 := 1#32
  let arg12 : BitVec 32 := Scf.iv c0_i32_370 c1_i32_372 k0_t27
  let c256_i32_441 : BitVec 32 := 256#32
  let v1924 : BitVec 32 := Scalar.muli arg12 c256_i32_441
  let v1925 : BitVec 32 := Scalar.addi v3 v1924
  v1925
def k0_off58 (i : grid0.Coords) (k0_t27 : Fin (k0_t27_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_370 : BitVec 32 := 0#32
  let c1_i32_372 : BitVec 32 := 1#32
  let arg12 : BitVec 32 := Scf.iv c0_i32_370 c1_i32_372 k0_t27
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
@[reducible] def k0_t28_loop (i : grid0.Coords) : Scf.Loop 32 :=
  let c0_i32_370 : BitVec 32 := 0#32
  let arg2 : BitVec 32 := BitVec.ofNat 32 (i 2).val
  let c15_i32 : BitVec 32 := 15#32
  let v1 : BitVec 32 := Scalar.minsi arg2 c15_i32
  let v1652 : BitVec 32 := Scalar.subi v1 c0_i32_370
  let c1_i32_371 : BitVec 32 := 1#32
  let v1654 : BitVec 32 := Scalar.divsi v1652 c1_i32_371
  let v1655 : BitVec 32 := Scalar.muli v1654 c1_i32_371
  let v1656 : BitVec 32 := Scalar.addi c0_i32_370 v1655
  let v1653 : BitVec 32 := Scalar.addi c0_i32_370 v1652
  let c1_i32_373 : BitVec 32 := 1#32
  ⟨v1656, v1653, c1_i32_373⟩
def k0_mult83 (i : grid0.Coords) (k0_t28 : Fin (k0_t28_loop i).trips) : BitVec 32 :=
  let c0_i32_370 : BitVec 32 := 0#32
  let arg2 : BitVec 32 := BitVec.ofNat 32 (i 2).val
  let c15_i32 : BitVec 32 := 15#32
  let v1 : BitVec 32 := Scalar.minsi arg2 c15_i32
  let v1652 : BitVec 32 := Scalar.subi v1 c0_i32_370
  let c1_i32_371 : BitVec 32 := 1#32
  let v1654 : BitVec 32 := Scalar.divsi v1652 c1_i32_371
  let v1655 : BitVec 32 := Scalar.muli v1654 c1_i32_371
  let v1656 : BitVec 32 := Scalar.addi c0_i32_370 v1655
  let c1_i32_373 : BitVec 32 := 1#32
  let arg12 : BitVec 32 := Scf.iv v1656 c1_i32_373 k0_t28
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off59 (i : grid0.Coords) (k0_t28 : Fin (k0_t28_loop i).trips) : Fin 2 → Nat :=
  let c0_i32_370 : BitVec 32 := 0#32
  let arg2 : BitVec 32 := BitVec.ofNat 32 (i 2).val
  let c15_i32 : BitVec 32 := 15#32
  let v1 : BitVec 32 := Scalar.minsi arg2 c15_i32
  let v1652 : BitVec 32 := Scalar.subi v1 c0_i32_370
  let c1_i32_371 : BitVec 32 := 1#32
  let v1654 : BitVec 32 := Scalar.divsi v1652 c1_i32_371
  let v1655 : BitVec 32 := Scalar.muli v1654 c1_i32_371
  let v1656 : BitVec 32 := Scalar.addi c0_i32_370 v1655
  let c1_i32_373 : BitVec 32 := 1#32
  let arg12 : BitVec 32 := Scf.iv v1656 c1_i32_373 k0_t28
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult84 (i : grid0.Coords) (k0_t28 : Fin (k0_t28_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_370 : BitVec 32 := 0#32
  let v1652 : BitVec 32 := Scalar.subi v1 c0_i32_370
  let c1_i32_371 : BitVec 32 := 1#32
  let v1654 : BitVec 32 := Scalar.divsi v1652 c1_i32_371
  let v1655 : BitVec 32 := Scalar.muli v1654 c1_i32_371
  let v1656 : BitVec 32 := Scalar.addi c0_i32_370 v1655
  let c1_i32_373 : BitVec 32 := 1#32
  let arg12 : BitVec 32 := Scf.iv v1656 c1_i32_373 k0_t28
  let c256_i32_441 : BitVec 32 := 256#32
  let v1924 : BitVec 32 := Scalar.muli arg12 c256_i32_441
  let v1925 : BitVec 32 := Scalar.addi v3 v1924
  v1925
def k0_off60 (i : grid0.Coords) (k0_t28 : Fin (k0_t28_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_370 : BitVec 32 := 0#32
  let v1652 : BitVec 32 := Scalar.subi v1 c0_i32_370
  let c1_i32_371 : BitVec 32 := 1#32
  let v1654 : BitVec 32 := Scalar.divsi v1652 c1_i32_371
  let v1655 : BitVec 32 := Scalar.muli v1654 c1_i32_371
  let v1656 : BitVec 32 := Scalar.addi c0_i32_370 v1655
  let c1_i32_373 : BitVec 32 := 1#32
  let arg12 : BitVec 32 := Scf.iv v1656 c1_i32_373 k0_t28
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
def k0_mult85 (i : grid0.Coords) : BitVec 32 :=
  let arg2 : BitVec 32 := BitVec.ofNat 32 (i 2).val
  let c256_i32 : BitVec 32 := 256#32
  let v0 : BitVec 32 := Scalar.muli arg2 c256_i32
  v0
def k0_mult86 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
@[reducible] def k0_t29_loop (i : grid0.Coords) : Scf.Loop 32 :=
  let c0_i32_401 : BitVec 32 := 0#32
  let arg2 : BitVec 32 := BitVec.ofNat 32 (i 2).val
  let c15_i32 : BitVec 32 := 15#32
  let v1 : BitVec 32 := Scalar.minsi arg2 c15_i32
  let v1777 : BitVec 32 := Scalar.subi v1 c0_i32_401
  let c1_i32_402 : BitVec 32 := 1#32
  let v1779 : BitVec 32 := Scalar.divsi v1777 c1_i32_402
  let v1780 : BitVec 32 := Scalar.muli v1779 c1_i32_402
  let v1781 : BitVec 32 := Scalar.addi c0_i32_401 v1780
  let c1_i32_403 : BitVec 32 := 1#32
  ⟨c0_i32_401, v1781, c1_i32_403⟩
def k0_mult87 (i : grid0.Coords) (k0_t29 : Fin (k0_t29_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_401 : BitVec 32 := 0#32
  let c1_i32_403 : BitVec 32 := 1#32
  let arg12 : BitVec 32 := Scf.iv c0_i32_401 c1_i32_403 k0_t29
  let c256_i32_436 : BitVec 32 := 256#32
  let v1913 : BitVec 32 := Scalar.muli arg12 c256_i32_436
  let v1914 : BitVec 32 := Scalar.addi v3 v1913
  v1914
def k0_off61 (i : grid0.Coords) (k0_t29 : Fin (k0_t29_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_401 : BitVec 32 := 0#32
  let c1_i32_403 : BitVec 32 := 1#32
  let arg12 : BitVec 32 := Scf.iv c0_i32_401 c1_i32_403 k0_t29
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult88 (i : grid0.Coords) (k0_t29 : Fin (k0_t29_loop i).trips) : BitVec 32 :=
  let c0_i32_401 : BitVec 32 := 0#32
  let c1_i32_403 : BitVec 32 := 1#32
  let arg12 : BitVec 32 := Scf.iv c0_i32_401 c1_i32_403 k0_t29
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off62 (i : grid0.Coords) (k0_t29 : Fin (k0_t29_loop i).trips) : Fin 2 → Nat :=
  let c0_i32_401 : BitVec 32 := 0#32
  let c1_i32_403 : BitVec 32 := 1#32
  let arg12 : BitVec 32 := Scf.iv c0_i32_401 c1_i32_403 k0_t29
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
@[reducible] def k0_t30_loop (i : grid0.Coords) : Scf.Loop 32 :=
  let c0_i32_401 : BitVec 32 := 0#32
  let arg2 : BitVec 32 := BitVec.ofNat 32 (i 2).val
  let c15_i32 : BitVec 32 := 15#32
  let v1 : BitVec 32 := Scalar.minsi arg2 c15_i32
  let v1777 : BitVec 32 := Scalar.subi v1 c0_i32_401
  let c1_i32_402 : BitVec 32 := 1#32
  let v1779 : BitVec 32 := Scalar.divsi v1777 c1_i32_402
  let v1780 : BitVec 32 := Scalar.muli v1779 c1_i32_402
  let v1781 : BitVec 32 := Scalar.addi c0_i32_401 v1780
  let v1778 : BitVec 32 := Scalar.addi c0_i32_401 v1777
  let c1_i32_404 : BitVec 32 := 1#32
  ⟨v1781, v1778, c1_i32_404⟩
def k0_mult89 (i : grid0.Coords) (k0_t30 : Fin (k0_t30_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_401 : BitVec 32 := 0#32
  let v1777 : BitVec 32 := Scalar.subi v1 c0_i32_401
  let c1_i32_402 : BitVec 32 := 1#32
  let v1779 : BitVec 32 := Scalar.divsi v1777 c1_i32_402
  let v1780 : BitVec 32 := Scalar.muli v1779 c1_i32_402
  let v1781 : BitVec 32 := Scalar.addi c0_i32_401 v1780
  let c1_i32_404 : BitVec 32 := 1#32
  let arg12 : BitVec 32 := Scf.iv v1781 c1_i32_404 k0_t30
  let c256_i32_436 : BitVec 32 := 256#32
  let v1913 : BitVec 32 := Scalar.muli arg12 c256_i32_436
  let v1914 : BitVec 32 := Scalar.addi v3 v1913
  v1914
def k0_off63 (i : grid0.Coords) (k0_t30 : Fin (k0_t30_loop i).trips) : Fin 3 → Nat :=
  let c0_437 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_401 : BitVec 32 := 0#32
  let v1777 : BitVec 32 := Scalar.subi v1 c0_i32_401
  let c1_i32_402 : BitVec 32 := 1#32
  let v1779 : BitVec 32 := Scalar.divsi v1777 c1_i32_402
  let v1780 : BitVec 32 := Scalar.muli v1779 c1_i32_402
  let v1781 : BitVec 32 := Scalar.addi c0_i32_401 v1780
  let c1_i32_404 : BitVec 32 := 1#32
  let arg12 : BitVec 32 := Scf.iv v1781 c1_i32_404 k0_t30
  let c256_i32_436 : BitVec 32 := 256#32
  let v1913 : BitVec 32 := Scalar.muli arg12 c256_i32_436
  let v1914 : BitVec 32 := Scalar.addi v3 v1913
  let v1915 : BitVec 32 := v1914
  let v1916 : Index := Scalar.indexCast v1915
  let c0_438 : Index := 0#32
  ![0, v1916.toNat, 0]
def k0_mult90 (i : grid0.Coords) (k0_t30 : Fin (k0_t30_loop i).trips) : BitVec 32 :=
  let c0_i32_401 : BitVec 32 := 0#32
  let arg2 : BitVec 32 := BitVec.ofNat 32 (i 2).val
  let c15_i32 : BitVec 32 := 15#32
  let v1 : BitVec 32 := Scalar.minsi arg2 c15_i32
  let v1777 : BitVec 32 := Scalar.subi v1 c0_i32_401
  let c1_i32_402 : BitVec 32 := 1#32
  let v1779 : BitVec 32 := Scalar.divsi v1777 c1_i32_402
  let v1780 : BitVec 32 := Scalar.muli v1779 c1_i32_402
  let v1781 : BitVec 32 := Scalar.addi c0_i32_401 v1780
  let c1_i32_404 : BitVec 32 := 1#32
  let arg12 : BitVec 32 := Scf.iv v1781 c1_i32_404 k0_t30
  let c1_i32_440 : BitVec 32 := 1#32
  let v1920 : BitVec 32 := Scalar.addi arg12 c1_i32_440
  let c256_i32_441 : BitVec 32 := 256#32
  let v1921 : BitVec 32 := Scalar.muli v1920 c256_i32_441
  v1921
def k0_off64 (i : grid0.Coords) (k0_t30 : Fin (k0_t30_loop i).trips) : Fin 2 → Nat :=
  let c0_i32_401 : BitVec 32 := 0#32
  let arg2 : BitVec 32 := BitVec.ofNat 32 (i 2).val
  let c15_i32 : BitVec 32 := 15#32
  let v1 : BitVec 32 := Scalar.minsi arg2 c15_i32
  let v1777 : BitVec 32 := Scalar.subi v1 c0_i32_401
  let c1_i32_402 : BitVec 32 := 1#32
  let v1779 : BitVec 32 := Scalar.divsi v1777 c1_i32_402
  let v1780 : BitVec 32 := Scalar.muli v1779 c1_i32_402
  let v1781 : BitVec 32 := Scalar.addi c0_i32_401 v1780
  let c1_i32_404 : BitVec 32 := 1#32
  let arg12 : BitVec 32 := Scf.iv v1781 c1_i32_404 k0_t30
  let c1_i32_440 : BitVec 32 := 1#32
  let v1920 : BitVec 32 := Scalar.addi arg12 c1_i32_440
  let c256_i32_441 : BitVec 32 := 256#32
  let v1921 : BitVec 32 := Scalar.muli v1920 c256_i32_441
  let v1922 : BitVec 32 := v1921
  let v1923 : Index := Scalar.indexCast v1922
  let c0_442 : Index := 0#32
  ![v1923.toNat, 0]
def k0_mult91 (i : grid0.Coords) : BitVec 32 :=
  let arg2 : BitVec 32 := BitVec.ofNat 32 (i 2).val
  let c256_i32 : BitVec 32 := 256#32
  let v0 : BitVec 32 := Scalar.muli arg2 c256_i32
  v0
def k0_mult92 (i : grid0.Coords) : BitVec 32 :=
  let arg2 : BitVec 32 := BitVec.ofNat 32 (i 2).val
  let c256_i32 : BitVec 32 := 256#32
  let v0 : BitVec 32 := Scalar.muli arg2 c256_i32
  let c4096_i32 : BitVec 32 := 4096#32
  let v5 : BitVec 32 := Scalar.subi v0 c4096_i32
  let c0_i32 : BitVec 32 := 0#32
  let v6 : BitVec 32 := Scalar.maxsi v5 c0_i32
  v6
@[reducible] def k0_t31_loop (i : grid0.Coords) : Scf.Loop 32 :=
  let c0_i32_424 : BitVec 32 := 0#32
  let arg2 : BitVec 32 := BitVec.ofNat 32 (i 2).val
  let c15_i32 : BitVec 32 := 15#32
  let v1 : BitVec 32 := Scalar.minsi arg2 c15_i32
  let v1889 : BitVec 32 := Scalar.subi v1 c0_i32_424
  let c1_i32_425 : BitVec 32 := 1#32
  let v1891 : BitVec 32 := Scalar.divsi v1889 c1_i32_425
  let v1892 : BitVec 32 := Scalar.muli v1891 c1_i32_425
  let v1893 : BitVec 32 := Scalar.addi c0_i32_424 v1892
  let c1_i32_426 : BitVec 32 := 1#32
  ⟨c0_i32_424, v1893, c1_i32_426⟩
def k0_mult93 (i : grid0.Coords) (k0_t31 : Fin (k0_t31_loop i).trips) : BitVec 32 :=
  let c0_i32_424 : BitVec 32 := 0#32
  let c1_i32_426 : BitVec 32 := 1#32
  let arg12 : BitVec 32 := Scf.iv c0_i32_424 c1_i32_426 k0_t31
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off65 (i : grid0.Coords) (k0_t31 : Fin (k0_t31_loop i).trips) : Fin 2 → Nat :=
  let c0_i32_424 : BitVec 32 := 0#32
  let c1_i32_426 : BitVec 32 := 1#32
  let arg12 : BitVec 32 := Scf.iv c0_i32_424 c1_i32_426 k0_t31
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult94 (i : grid0.Coords) (k0_t31 : Fin (k0_t31_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_424 : BitVec 32 := 0#32
  let c1_i32_426 : BitVec 32 := 1#32
  let arg12 : BitVec 32 := Scf.iv c0_i32_424 c1_i32_426 k0_t31
  let c256_i32_441 : BitVec 32 := 256#32
  let v1924 : BitVec 32 := Scalar.muli arg12 c256_i32_441
  let v1925 : BitVec 32 := Scalar.addi v3 v1924
  v1925
def k0_off66 (i : grid0.Coords) (k0_t31 : Fin (k0_t31_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_424 : BitVec 32 := 0#32
  let c1_i32_426 : BitVec 32 := 1#32
  let arg12 : BitVec 32 := Scf.iv c0_i32_424 c1_i32_426 k0_t31
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
@[reducible] def k0_t32_loop (i : grid0.Coords) : Scf.Loop 32 :=
  let c0_i32_424 : BitVec 32 := 0#32
  let arg2 : BitVec 32 := BitVec.ofNat 32 (i 2).val
  let c15_i32 : BitVec 32 := 15#32
  let v1 : BitVec 32 := Scalar.minsi arg2 c15_i32
  let v1889 : BitVec 32 := Scalar.subi v1 c0_i32_424
  let c1_i32_425 : BitVec 32 := 1#32
  let v1891 : BitVec 32 := Scalar.divsi v1889 c1_i32_425
  let v1892 : BitVec 32 := Scalar.muli v1891 c1_i32_425
  let v1893 : BitVec 32 := Scalar.addi c0_i32_424 v1892
  let v1890 : BitVec 32 := Scalar.addi c0_i32_424 v1889
  let c1_i32_427 : BitVec 32 := 1#32
  ⟨v1893, v1890, c1_i32_427⟩
def k0_mult95 (i : grid0.Coords) (k0_t32 : Fin (k0_t32_loop i).trips) : BitVec 32 :=
  let c0_i32_424 : BitVec 32 := 0#32
  let arg2 : BitVec 32 := BitVec.ofNat 32 (i 2).val
  let c15_i32 : BitVec 32 := 15#32
  let v1 : BitVec 32 := Scalar.minsi arg2 c15_i32
  let v1889 : BitVec 32 := Scalar.subi v1 c0_i32_424
  let c1_i32_425 : BitVec 32 := 1#32
  let v1891 : BitVec 32 := Scalar.divsi v1889 c1_i32_425
  let v1892 : BitVec 32 := Scalar.muli v1891 c1_i32_425
  let v1893 : BitVec 32 := Scalar.addi c0_i32_424 v1892
  let c1_i32_427 : BitVec 32 := 1#32
  let arg12 : BitVec 32 := Scf.iv v1893 c1_i32_427 k0_t32
  let c1_i32_436 : BitVec 32 := 1#32
  let v1913 : BitVec 32 := Scalar.addi arg12 c1_i32_436
  let c256_i32_437 : BitVec 32 := 256#32
  let v1914 : BitVec 32 := Scalar.muli v1913 c256_i32_437
  v1914
def k0_off67 (i : grid0.Coords) (k0_t32 : Fin (k0_t32_loop i).trips) : Fin 2 → Nat :=
  let c0_i32_424 : BitVec 32 := 0#32
  let arg2 : BitVec 32 := BitVec.ofNat 32 (i 2).val
  let c15_i32 : BitVec 32 := 15#32
  let v1 : BitVec 32 := Scalar.minsi arg2 c15_i32
  let v1889 : BitVec 32 := Scalar.subi v1 c0_i32_424
  let c1_i32_425 : BitVec 32 := 1#32
  let v1891 : BitVec 32 := Scalar.divsi v1889 c1_i32_425
  let v1892 : BitVec 32 := Scalar.muli v1891 c1_i32_425
  let v1893 : BitVec 32 := Scalar.addi c0_i32_424 v1892
  let c1_i32_427 : BitVec 32 := 1#32
  let arg12 : BitVec 32 := Scf.iv v1893 c1_i32_427 k0_t32
  let c1_i32_436 : BitVec 32 := 1#32
  let v1913 : BitVec 32 := Scalar.addi arg12 c1_i32_436
  let c256_i32_437 : BitVec 32 := 256#32
  let v1914 : BitVec 32 := Scalar.muli v1913 c256_i32_437
  let v1915 : BitVec 32 := v1914
  let v1916 : Index := Scalar.indexCast v1915
  let c0_438 : Index := 0#32
  ![v1916.toNat, 0]
def k0_mult96 (i : grid0.Coords) (k0_t32 : Fin (k0_t32_loop i).trips) : BitVec 32 :=
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_424 : BitVec 32 := 0#32
  let v1889 : BitVec 32 := Scalar.subi v1 c0_i32_424
  let c1_i32_425 : BitVec 32 := 1#32
  let v1891 : BitVec 32 := Scalar.divsi v1889 c1_i32_425
  let v1892 : BitVec 32 := Scalar.muli v1891 c1_i32_425
  let v1893 : BitVec 32 := Scalar.addi c0_i32_424 v1892
  let c1_i32_427 : BitVec 32 := 1#32
  let arg12 : BitVec 32 := Scf.iv v1893 c1_i32_427 k0_t32
  let c256_i32_441 : BitVec 32 := 256#32
  let v1924 : BitVec 32 := Scalar.muli arg12 c256_i32_441
  let v1925 : BitVec 32 := Scalar.addi v3 v1924
  v1925
def k0_off68 (i : grid0.Coords) (k0_t32 : Fin (k0_t32_loop i).trips) : Fin 3 → Nat :=
  let c0_444 : Index := 0#32
  let c0_445 : Index := 0#32
  let arg2 : BitVec 32 := BitVec.ofNat 32 (i 2).val
  let c15_i32 : BitVec 32 := 15#32
  let v1 : BitVec 32 := Scalar.minsi arg2 c15_i32
  let v2 : BitVec 32 := Scalar.subi arg2 v1
  let c256_i32_0 : BitVec 32 := 256#32
  let v3 : BitVec 32 := Scalar.muli v2 c256_i32_0
  let c0_i32_424 : BitVec 32 := 0#32
  let v1889 : BitVec 32 := Scalar.subi v1 c0_i32_424
  let c1_i32_425 : BitVec 32 := 1#32
  let v1891 : BitVec 32 := Scalar.divsi v1889 c1_i32_425
  let v1892 : BitVec 32 := Scalar.muli v1891 c1_i32_425
  let v1893 : BitVec 32 := Scalar.addi c0_i32_424 v1892
  let c1_i32_427 : BitVec 32 := 1#32
  let arg12 : BitVec 32 := Scf.iv v1893 c1_i32_427 k0_t32
  let c256_i32_441 : BitVec 32 := 256#32
  let v1924 : BitVec 32 := Scalar.muli arg12 c256_i32_441
  let v1925 : BitVec 32 := Scalar.addi v3 v1924
  let v1931 : BitVec 32 := v1925
  let v1932 : Index := Scalar.indexCast v1931
  ![0, 0, v1932.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16384x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x128x16384 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x16384x2048 : Shape := ⟨3, ![4, 16384, 2048]⟩
abbrev S4x16384x256 : Shape := ⟨3, ![4, 16384, 256]⟩
abbrev S16 : Shape := ⟨1, ![16]⟩
abbrev S2 : Shape := ⟨1, ![2]⟩
abbrev S4x16384x2x8x128 : Shape := ⟨5, ![4, 16384, 2, 8, 128]⟩
abbrev S4x16384x2x128 : Shape := ⟨4, ![4, 16384, 2, 128]⟩
abbrev S4x2x16384x16384x8 : Shape := ⟨5, ![4, 2, 16384, 16384, 8]⟩
abbrev S4x2x8x16384x16384 : Shape := ⟨5, ![4, 2, 8, 16384, 16384]⟩
abbrev S2x8 : Shape := ⟨2, ![2, 8]⟩
abbrev S2x1 : Shape := ⟨2, ![2, 1]⟩
abbrev S1x2x8x1x1 : Shape := ⟨5, ![1, 2, 8, 1, 1]⟩
abbrev S4x2x8x16384 : Shape := ⟨4, ![4, 2, 8, 16384]⟩
abbrev S4x2x8x16384x1 : Shape := ⟨5, ![4, 2, 8, 16384, 1]⟩
abbrev S4x2x128x8x16384 : Shape := ⟨5, ![4, 2, 128, 8, 16384]⟩
abbrev S1x1x2x1x1 : Shape := ⟨5, ![1, 1, 2, 1, 1]⟩
abbrev S4x16384x2x8 : Shape := ⟨4, ![4, 16384, 2, 8]⟩
abbrev S4x16384x2x8x1 : Shape := ⟨5, ![4, 16384, 2, 8, 1]⟩

abbrev nBuf : Space → Nat
  | .hbm => 7
  | .vmem => 7
  | .smem => 0
  | _ => 0

abbrev bufTy : (tb : Table) → Fin (tcTables nBuf tb) → BufTy
  | .hbm, ⟨0, _⟩ => ⟨S4x16384x2048, .fp8e4m3⟩
  | .hbm, ⟨1, _⟩ => ⟨S4x16384x256, .fp8e4m3⟩
  | .hbm, ⟨2, _⟩ => ⟨S4x16384x256, .fp8e4m3⟩
  | .hbm, ⟨3, _⟩ => ⟨S16, .f32⟩
  | .hbm, ⟨4, _⟩ => ⟨S2, .f32⟩
  | .hbm, ⟨5, _⟩ => ⟨S2, .f32⟩
  | .hbm, ⟨6, _⟩ => ⟨S4x16384x2048, .bf16⟩
  | .local _ .vmem, ⟨0, _⟩ => ⟨S4x16384x2048, .fp8e4m3⟩
  | .local _ .vmem, ⟨1, _⟩ => ⟨S4x16384x256, .fp8e4m3⟩
  | .local _ .vmem, ⟨2, _⟩ => ⟨S4x16384x256, .fp8e4m3⟩
  | .local _ .vmem, ⟨3, _⟩ => ⟨S16, .f32⟩
  | .local _ .vmem, ⟨4, _⟩ => ⟨S2, .f32⟩
  | .local _ .vmem, ⟨5, _⟩ => ⟨S2, .f32⟩
  | .local _ .vmem, ⟨6, _⟩ => ⟨S4x16384x2048, .bf16⟩
  | _, _ => ⟨S4x16384x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x16384x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x16384x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x16384x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x16384x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Body.lean ====
/-
  The kernel's body in its own vocabulary: one attention head as a program (`headProg`), and the printed
  kernel function as a prefix (two scale loads) followed by the eight heads (`kernel_eq_heads`).
-/
module

public import proofs.«01_k».proof.Proof.Gen.Kernel.Skeleton

@[expose] public section

noncomputable section

namespace Cert.Kernel.Body

open Idealize.ShloMosaic Idealize.SL.Sem Cert.Kernel Cert.Kernel.Gen

variable {F : FTy → Type} [FloatOps F]

/-! ## The values one head computes -/

/-- Folding the maximum of a 256-row tile into eight running rows: row `r` of the tile goes to row `r mod 8`. -/
def foldMax (acc : FVec F S8x256 .f32) (t : FVec F S256x256 .f32) : FVec F S8x256 .f32 :=
  have s0 : FVec F S8x256 .f32 := extractStridedSlice S8x256 ![0, 0] t slices_S256x256_o0_0_S8x256
  have a0 : FVec F S8x256 .f32 := maximumf acc s0
  have s1 : FVec F S8x256 .f32 := extractStridedSlice S8x256 ![8, 0] t slices_S256x256_o8_0_S8x256
  have a1 : FVec F S8x256 .f32 := maximumf a0 s1
  have s2 : FVec F S8x256 .f32 := extractStridedSlice S8x256 ![16, 0] t slices_S256x256_o16_0_S8x256
  have a2 : FVec F S8x256 .f32 := maximumf a1 s2
  have s3 : FVec F S8x256 .f32 := extractStridedSlice S8x256 ![24, 0] t slices_S256x256_o24_0_S8x256
  have a3 : FVec F S8x256 .f32 := maximumf a2 s3
  have s4 : FVec F S8x256 .f32 := extractStridedSlice S8x256 ![32, 0] t slices_S256x256_o32_0_S8x256
  have a4 : FVec F S8x256 .f32 := maximumf a3 s4
  have s5 : FVec F S8x256 .f32 := extractStridedSlice S8x256 ![40, 0] t slices_S256x256_o40_0_S8x256
  have a5 : FVec F S8x256 .f32 := maximumf a4 s5
  have s6 : FVec F S8x256 .f32 := extractStridedSlice S8x256 ![48, 0] t slices_S256x256_o48_0_S8x256
  have a6 : FVec F S8x256 .f32 := maximumf a5 s6
  have s7 : FVec F S8x256 .f32 := extractStridedSlice S8x256 ![56, 0] t slices_S256x256_o56_0_S8x256
  have a7 : FVec F S8x256 .f32 := maximumf a6 s7
  have s8 : FVec F S8x256 .f32 := extractStridedSlice S8x256 ![64, 0] t slices_S256x256_o64_0_S8x256
  have a8 : FVec F S8x256 .f32 := maximumf a7 s8
  have s9 : FVec F S8x256 .f32 := extractStridedSlice S8x256 ![72, 0] t slices_S256x256_o72_0_S8x256
  have a9 : FVec F S8x256 .f32 := maximumf a8 s9
  have s10 : FVec F S8x256 .f32 := extractStridedSlice S8x256 ![80, 0] t slices_S256x256_o80_0_S8x256
  have a10 : FVec F S8x256 .f32 := maximumf a9 s10
  have s11 : FVec F S8x256 .f32 := extractStridedSlice S8x256 ![88, 0] t slices_S256x256_o88_0_S8x256
  have a11 : FVec F S8x256 .f32 := maximumf a10 s11
  have s12 : FVec F S8x256 .f32 := extractStridedSlice S8x256 ![96, 0] t slices_S256x256_o96_0_S8x256
  have a12 : FVec F S8x256 .f32 := maximumf a11 s12
  have s13 : FVec F S8x256 .f32 := extractStridedSlice S8x256 ![104, 0] t slices_S256x256_o104_0_S8x256
  have a13 : FVec F S8x256 .f32 := maximumf a12 s13
  have s14 : FVec F S8x256 .f32 := extractStridedSlice S8x256 ![112, 0] t slices_S256x256_o112_0_S8x256
  have a14 : FVec F S8x256 .f32 := maximumf a13 s14
  have s15 : FVec F S8x256 .f32 := extractStridedSlice S8x256 ![120, 0] t slices_S256x256_o120_0_S8x256
  have a15 : FVec F S8x256 .f32 := maximumf a14 s15
  have s16 : FVec F S8x256 .f32 := extractStridedSlice S8x256 ![128, 0] t slices_S256x256_o128_0_S8x256
  have a16 : FVec F S8x256 .f32 := maximumf a15 s16
  have s17 : FVec F S8x256 .f32 := extractStridedSlice S8x256 ![136, 0] t slices_S256x256_o136_0_S8x256
  have a17 : FVec F S8x256 .f32 := maximumf a16 s17
  have s18 : FVec F S8x256 .f32 := extractStridedSlice S8x256 ![144, 0] t slices_S256x256_o144_0_S8x256
  have a18 : FVec F S8x256 .f32 := maximumf a17 s18
  have s19 : FVec F S8x256 .f32 := extractStridedSlice S8x256 ![152, 0] t slices_S256x256_o152_0_S8x256
  have a19 : FVec F S8x256 .f32 := maximumf a18 s19
  have s20 : FVec F S8x256 .f32 := extractStridedSlice S8x256 ![160, 0] t slices_S256x256_o160_0_S8x256
  have a20 : FVec F S8x256 .f32 := maximumf a19 s20
  have s21 : FVec F S8x256 .f32 := extractStridedSlice S8x256 ![168, 0] t slices_S256x256_o168_0_S8x256
  have a21 : FVec F S8x256 .f32 := maximumf a20 s21
  have s22 : FVec F S8x256 .f32 := extractStridedSlice S8x256 ![176, 0] t slices_S256x256_o176_0_S8x256
  have a22 : FVec F S8x256 .f32 := maximumf a21 s22
  have s23 : FVec F S8x256 .f32 := extractStridedSlice S8x256 ![184, 0] t slices_S256x256_o184_0_S8x256
  have a23 : FVec F S8x256 .f32 := maximumf a22 s23
  have s24 : FVec F S8x256 .f32 := extractStridedSlice S8x256 ![192, 0] t slices_S256x256_o192_0_S8x256
  have a24 : FVec F S8x256 .f32 := maximumf a23 s24
  have s25 : FVec F S8x256 .f32 := extractStridedSlice S8x256 ![200, 0] t slices_S256x256_o200_0_S8x256
  have a25 : FVec F S8x256 .f32 := maximumf a24 s25
  have s26 : FVec F S8x256 .f32 := extractStridedSlice S8x256 ![208, 0] t slices_S256x256_o208_0_S8x256
  have a26 : FVec F S8x256 .f32 := maximumf a25 s26
  have s27 : FVec F S8x256 .f32 := extractStridedSlice S8x256 ![216, 0] t slices_S256x256_o216_0_S8x256
  have a27 : FVec F S8x256 .f32 := maximumf a26 s27
  have s28 : FVec F S8x256 .f32 := extractStridedSlice S8x256 ![224, 0] t slices_S256x256_o224_0_S8x256
  have a28 : FVec F S8x256 .f32 := maximumf a27 s28
  have s29 : FVec F S8x256 .f32 := extractStridedSlice S8x256 ![232, 0] t slices_S256x256_o232_0_S8x256
  have a29 : FVec F S8x256 .f32 := maximumf a28 s29
  have s30 : FVec F S8x256 .f32 := extractStridedSlice S8x256 ![240, 0] t slices_S256x256_o240_0_S8x256
  have a30 : FVec F S8x256 .f32 := maximumf a29 s30
  have s31 : FVec F S8x256 .f32 := extractStridedSlice S8x256 ![248, 0] t slices_S256x256_o248_0_S8x256
  have a31 : FVec F S8x256 .f32 := maximumf a30 s31
  a31

/-- Folding the sum of a 256-row tile into eight running rows. -/
def foldAdd (acc : FVec F S8x256 .f32) (t : FVec F S256x256 .f32) : FVec F S8x256 .f32 :=
  have s0 : FVec F S8x256 .f32 := extractStridedSlice S8x256 ![0, 0] t slices_S256x256_o0_0_S8x256
  have a0 : FVec F S8x256 .f32 := addf acc s0
  have s1 : FVec F S8x256 .f32 := extractStridedSlice S8x256 ![8, 0] t slices_S256x256_o8_0_S8x256
  have a1 : FVec F S8x256 .f32 := addf a0 s1
  have s2 : FVec F S8x256 .f32 := extractStridedSlice S8x256 ![16, 0] t slices_S256x256_o16_0_S8x256
  have a2 : FVec F S8x256 .f32 := addf a1 s2
  have s3 : FVec F S8x256 .f32 := extractStridedSlice S8x256 ![24, 0] t slices_S256x256_o24_0_S8x256
  have a3 : FVec F S8x256 .f32 := addf a2 s3
  have s4 : FVec F S8x256 .f32 := extractStridedSlice S8x256 ![32, 0] t slices_S256x256_o32_0_S8x256
  have a4 : FVec F S8x256 .f32 := addf a3 s4
  have s5 : FVec F S8x256 .f32 := extractStridedSlice S8x256 ![40, 0] t slices_S256x256_o40_0_S8x256
  have a5 : FVec F S8x256 .f32 := addf a4 s5
  have s6 : FVec F S8x256 .f32 := extractStridedSlice S8x256 ![48, 0] t slices_S256x256_o48_0_S8x256
  have a6 : FVec F S8x256 .f32 := addf a5 s6
  have s7 : FVec F S8x256 .f32 := extractStridedSlice S8x256 ![56, 0] t slices_S256x256_o56_0_S8x256
  have a7 : FVec F S8x256 .f32 := addf a6 s7
  have s8 : FVec F S8x256 .f32 := extractStridedSlice S8x256 ![64, 0] t slices_S256x256_o64_0_S8x256
  have a8 : FVec F S8x256 .f32 := addf a7 s8
  have s9 : FVec F S8x256 .f32 := extractStridedSlice S8x256 ![72, 0] t slices_S256x256_o72_0_S8x256
  have a9 : FVec F S8x256 .f32 := addf a8 s9
  have s10 : FVec F S8x256 .f32 := extractStridedSlice S8x256 ![80, 0] t slices_S256x256_o80_0_S8x256
  have a10 : FVec F S8x256 .f32 := addf a9 s10
  have s11 : FVec F S8x256 .f32 := extractStridedSlice S8x256 ![88, 0] t slices_S256x256_o88_0_S8x256
  have a11 : FVec F S8x256 .f32 := addf a10 s11
  have s12 : FVec F S8x256 .f32 := extractStridedSlice S8x256 ![96, 0] t slices_S256x256_o96_0_S8x256
  have a12 : FVec F S8x256 .f32 := addf a11 s12
  have s13 : FVec F S8x256 .f32 := extractStridedSlice S8x256 ![104, 0] t slices_S256x256_o104_0_S8x256
  have a13 : FVec F S8x256 .f32 := addf a12 s13
  have s14 : FVec F S8x256 .f32 := extractStridedSlice S8x256 ![112, 0] t slices_S256x256_o112_0_S8x256
  have a14 : FVec F S8x256 .f32 := addf a13 s14
  have s15 : FVec F S8x256 .f32 := extractStridedSlice S8x256 ![120, 0] t slices_S256x256_o120_0_S8x256
  have a15 : FVec F S8x256 .f32 := addf a14 s15
  have s16 : FVec F S8x256 .f32 := extractStridedSlice S8x256 ![128, 0] t slices_S256x256_o128_0_S8x256
  have a16 : FVec F S8x256 .f32 := addf a15 s16
  have s17 : FVec F S8x256 .f32 := extractStridedSlice S8x256 ![136, 0] t slices_S256x256_o136_0_S8x256
  have a17 : FVec F S8x256 .f32 := addf a16 s17
  have s18 : FVec F S8x256 .f32 := extractStridedSlice S8x256 ![144, 0] t slices_S256x256_o144_0_S8x256
  have a18 : FVec F S8x256 .f32 := addf a17 s18
  have s19 : FVec F S8x256 .f32 := extractStridedSlice S8x256 ![152, 0] t slices_S256x256_o152_0_S8x256
  have a19 : FVec F S8x256 .f32 := addf a18 s19
  have s20 : FVec F S8x256 .f32 := extractStridedSlice S8x256 ![160, 0] t slices_S256x256_o160_0_S8x256
  have a20 : FVec F S8x256 .f32 := addf a19 s20
  have s21 : FVec F S8x256 .f32 := extractStridedSlice S8x256 ![168, 0] t slices_S256x256_o168_0_S8x256
  have a21 : FVec F S8x256 .f32 := addf a20 s21
  have s22 : FVec F S8x256 .f32 := extractStridedSlice S8x256 ![176, 0] t slices_S256x256_o176_0_S8x256
  have a22 : FVec F S8x256 .f32 := addf a21 s22
  have s23 : FVec F S8x256 .f32 := extractStridedSlice S8x256 ![184, 0] t slices_S256x256_o184_0_S8x256
  have a23 : FVec F S8x256 .f32 := addf a22 s23
  have s24 : FVec F S8x256 .f32 := extractStridedSlice S8x256 ![192, 0] t slices_S256x256_o192_0_S8x256
  have a24 : FVec F S8x256 .f32 := addf a23 s24
  have s25 : FVec F S8x256 .f32 := extractStridedSlice S8x256 ![200, 0] t slices_S256x256_o200_0_S8x256
  have a25 : FVec F S8x256 .f32 := addf a24 s25
  have s26 : FVec F S8x256 .f32 := extractStridedSlice S8x256 ![208, 0] t slices_S256x256_o208_0_S8x256
  have a26 : FVec F S8x256 .f32 := addf a25 s26
  have s27 : FVec F S8x256 .f32 := extractStridedSlice S8x256 ![216, 0] t slices_S256x256_o216_0_S8x256
  have a27 : FVec F S8x256 .f32 := addf a26 s27
  have s28 : FVec F S8x256 .f32 := extractStridedSlice S8x256 ![224, 0] t slices_S256x256_o224_0_S8x256
  have a28 : FVec F S8x256 .f32 := addf a27 s28
  have s29 : FVec F S8x256 .f32 := extractStridedSlice S8x256 ![232, 0] t slices_S256x256_o232_0_S8x256
  have a29 : FVec F S8x256 .f32 := addf a28 s29
  have s30 : FVec F S8x256 .f32 := extractStridedSlice S8x256 ![240, 0] t slices_S256x256_o240_0_S8x256
  have a30 : FVec F S8x256 .f32 := addf a29 s30
  have s31 : FVec F S8x256 .f32 := extractStridedSlice S8x256 ![248, 0] t slices_S256x256_o248_0_S8x256
  have a31 : FVec F S8x256 .f32 := addf a30 s31
  a31

/-- Key at or before the query, both inside the diagonal block. -/
def mDiag : IVec S256x256 1 :=
  cmpi .sle (iota .tc S256x256 32 [0] iota_S256x256_d0_w32) (iota .tc S256x256 32 [1] iota_S256x256_d1_w32)

/-- Keys of the oldest block that are still inside the window: those strictly after the query's row, and only
    where such a block exists. -/
def mOld (i : grid0.Coords) : IVec S256x256 1 :=
  andi (xori mDiag (constantI S256x256 1 1#1)) (broadcast S256x256 (Scalar.cmpi .sge (BitVec.ofNat 32 (i 2).val) 16#32))

/-- The head's score scale, one copy per lane. -/
def cVec (v13 v17 : Vec F S1x128 .f32) : FVec F S1x128 .f32 :=
  mulf (mulf (shapeCast S1x128 v17 shapeCasts_S1x128_S1x128) (shapeCast S1x128 v13 shapeCasts_S1x128_S1x128))
    (broadcast S1x128 (Scalar.ofBits .f32 0x3DB504F3#32 : F .f32))

/-- The sign of the scale. -/
def sgnVec (c : FVec F S1x128 .f32) : FVec F S1x128 .f32 :=
  select (cmpf .olt c (broadcast S1x128 (Scalar.ofBits .f32 0x00000000#32 : F .f32)))
    (broadcast S1x128 (Scalar.ofBits .f32 0xBF800000#32 : F .f32)) (broadcast S1x128 (Scalar.ofBits .f32 0x3F800000#32 : F .f32))

/-- The scale's absolute value times log2 e, over the 128 lanes, -/
def c2Half (c : FVec F S1x128 .f32) : FVec F S1x128 .f32 :=
  mulf (absf c) (broadcast S1x128 (Scalar.ofBits .f32 0x3FB8AA3B#32 : F .f32))

/-- and over 256 lanes. -/
def c2Vec (c : FVec F S1x128 .f32) : FVec F S1x256 .f32 :=
  concatenate S1x256 1 [⟨S1x128, c2Half c⟩, ⟨S1x128, c2Half c⟩] concatenates_S1x128_S1x128_S1x256_d1

/-- The head's queries times the sign of the scale. -/
def qMat (c : FVec F S1x128 .f32) (v31 : Vec F S1x256x128 .fp8e4m3) : FVec F S256x128 .fp8e4m3 :=
  truncf .fp8e4m3 (mulf (extf .f32 (shapeCast S256x128 v31 shapeCasts_S1x256x128_S256x128 : FVec F S256x128 .fp8e4m3) bitsLt_fp8e4m3_f32)
    (broadcastTo S256x128 (sgnVec c) broadcasts_S1x128_S256x128)) bitsLt_fp8e4m3_f32

/-- The scores of one key block, keys by queries. -/
def scores (kb : Vec F S1x256x128 .fp8e4m3) (q : FVec F S256x128 .fp8e4m3) : FVec F S256x256 .f32 :=
  matmul dot_S256x128_S256x128_S256x256_1_1_0_0_n_n none (shapeCast S256x128 kb shapeCasts_S1x256x128_S256x128 : FVec F S256x128 .fp8e4m3) q
    (constant S256x256 .f32 0x00000000#32)

/-- The scores of the two partly masked blocks in one tile. -/
def sTile (i : grid0.Coords) (kd ko : Vec F S1x256x128 .fp8e4m3) (q : FVec F S256x128 .fp8e4m3) : FVec F S256x256 .f32 :=
  select mDiag (scores kd q) (select (mOld i) (scores ko q) (broadcast S256x256 (Scalar.ofBits .f32 0xFF800000#32 : F .f32)))

/-- The running maximum before the full blocks. -/
def mx0 (t : FVec F S256x256 .f32) : FVec F S8x256 .f32 :=
  foldMax (broadcast S8x256 (Scalar.ofBits .f32 0xFF800000#32 : F .f32)) t

/-- The exponent's offset per query: the scaled maximum less eight. -/
def mRow (c2 : FVec F S1x256 .f32) (mx : FVec F S8x256 .f32) : FVec F S1x256 .f32 :=
  subf (mulf (shapeCast S1x256 ((multiReduction .maximumf [0] S256 mx 0xFF800000#32 reduces_S8x256_S256 (.inl rfl) rfl : FVec F S256 .f32)) shapeCasts_S256_S1x256) c2)
    (broadcast S1x256 (Scalar.ofBits .f32 0x41000000#32 : F .f32))

/-- The powers of two of one tile of scores. -/
def pTile (c2 m : FVec F S1x256 .f32) (s : FVec F S256x256 .f32) : FVec F S256x256 .f32 :=
  exp2 (subf (mulf s (broadcastTo S256x256 c2 broadcasts_S1x256_S256x256)) (broadcastTo S256x256 m broadcasts_S1x256_S256x256))

/-- A tile with everything outside a mask made zero. -/
def maskZero (b : IVec S256x256 1) (p : FVec F S256x256 .f32) : FVec F S256x256 .f32 :=
  select b p (broadcast S256x256 (Scalar.ofBits .f32 0x00000000#32 : F .f32))

/-- The eight-bit codes of one tile of powers. -/
def codes (p : FVec F S256x256 .f32) : FVec F S256x256 .fp8e4m3 :=
  truncf .fp8e4m3 (minimumf (broadcast S256x256 (Scalar.ofBits .f32 0x43E00000#32 : F .f32))
    (maximumf (broadcast S256x256 (Scalar.ofBits .f32 0xC3E00000#32 : F .f32)) p)) bitsLt_fp8e4m3_f32

/-- One value block times one tile of codes. -/
def pv (vb : Vec F S1x128x256 .fp8e4m3) (p : FVec F S256x256 .f32) : FVec F S128x256 .f32 :=
  matmul dot_S128x256_S256x256_S128x256_1_0_0_1_n_n none (shapeCast S128x256 vb shapeCasts_S1x128x256_S128x256 : FVec F S128x256 .fp8e4m3) (codes p)
    (constant S128x256 .f32 0x00000000#32)

/-- The sum of the partly masked tile, in eight rows. -/
def l0 (i : grid0.Coords) (p : FVec F S256x256 .f32) : FVec F S8x256 .f32 :=
  foldAdd (broadcast S8x256 (Scalar.ofBits .f32 0x00000000#32 : F .f32)) (addf (maskZero mDiag p) (maskZero (mOld i) p))

/-- The head's output tile, from the accumulated values, the accumulated sum and the value scale. -/
def outTile (l : FVec F S8x256 .f32) (acc : FVec F S128x256 .f32) (v15 : Vec F S1x128 .f32) : FVec F S256x128 .bf16 :=
  truncf .bf16 (transpose S256x128 [1, 0] (divf
    (mulf acc (broadcastTo S128x256 (mulf (extractStridedSlice S1x1 ![0, 0] (shapeCast S1x128 v15 shapeCasts_S1x128_S1x128) slices_S1x128_o0_0_S1x1)
      (broadcast S1x1 (Scalar.ofBits .f32 0x3B800000#32 : F .f32))) broadcasts_S1x1_S128x256))
    (broadcastTo S128x256 (mulf (shapeCast S1x256 ((multiReduction .add [0] S256 l 0x00000000#32 reduces_S8x256_S256 (.inl rfl) rfl : FVec F S256 .f32)) shapeCasts_S256_S1x256)
      (broadcast S1x256 (Scalar.ofBits .f32 0x3B800000#32 : F .f32))) broadcasts_S1x256_S128x256)) transposes_S128x256_p1_0_S256x128) bitsLt_bf16_f32

/-! ## One head -/

/-- One head of the kernel, at lane offset `o` of the query, scale and output blocks. -/
def headProg (i : grid0.Coords) (arg3 : Memref sig .tc .vmem S1x256x1024 .fp8e4m3) (arg4 : Memref sig .tc .vmem S1x16384x128 .fp8e4m3)
    (arg5 : Memref sig .tc .vmem S1x128x16384 .fp8e4m3) (arg6 : Memref sig .tc .vmem S1x1024 .f32)
    (arg9 : Memref sig .tc .vmem S1x256x1024 .bf16) (harg9 : arg9.IsWhole)
    (arg10 : Memref sig .tc .vmem S4096x256 .f32) (arg11 : Memref sig .tc .vmem S128x256 .f32)
    (o : Nat) (h6 : ∀ a, (![0, o] : Fin 2 → Nat) a + S1x128.size a ≤ S1x1024.size a)
    (h3 : ∀ a, (![0, 0, o] : Fin 3 → Nat) a + S1x256x128.size a ≤ S1x256x1024.size a)
    (hp : (Rect.unit (s := S1x256x1024) ![0, 0, o] S1x256x128.size h3).PackedRows (EltTy.packing .bf16))
    (v13 v15 : Vec F S1x128 .f32) : Prog (TpuEff nD τ sig (Elt F) Λ₀ .tc) PUnit := do
  let v17 : Vec F S1x128 .f32 ← Prog.lift (.load arg6 (Rect.unit (s := S1x1024) ![0, o] S1x128.size h6).toLoadRect (View.loadsAt_vmem h_S1x128))
  let v31 : Vec F S1x256x128 .fp8e4m3 ← Prog.lift (.load arg3 (Rect.unit (s := S1x256x1024) ![0, 0, o] S1x256x128.size h3).toLoadRect (View.loadsAt_vmem h_S1x256x128))
  let kd : Vec F S1x256x128 .fp8e4m3 ← Prog.lift (.load arg4 (Rect.unit (s := S1x16384x128) (k0_off1 i) S1x256x128.size (k0_off1_inb i)).toLoadRect (View.loadsAt_vmem h_S1x256x128))
  let ko : Vec F S1x256x128 .fp8e4m3 ← Prog.lift (.load arg4 (Rect.unit (s := S1x16384x128) (k0_off2 i) S1x256x128.size (k0_off2_inb i)).toLoadRect (View.loadsAt_vmem h_S1x256x128))
  let _ : Vec F S256x256 .f32 ← Prog.lift (.load arg10 (Rect.unit (s := S4096x256) ![0, 0] S256x256.size inb_S4096x256_S256x256_0_0).toLoadRect (View.loadsAt_vmem h_S256x256))
  Prog.lift (.store arg10 (Rect.unit (s := S4096x256) ![0, 0] S256x256.size inb_S4096x256_S256x256_0_0)
    (shapeCast S256x256 (sTile i kd ko (qMat (cVec v13 v17) v31)) shapeCasts_S256x256_S256x256) Finset.univ (View.stores_vmem_bits_univ h_S256x256 rfl) (.inl rfl))
  let mx : FVec F S8x256 .f32 ← Scf.Loop.for (k0_t1_loop i) (k0_t1_ok i) (mx0 (sTile i kd ko (qMat (cVec v13 v17) v31))) fun k acc => do
    let kb : Vec F S1x256x128 .fp8e4m3 ← Prog.lift (.load arg4 (Rect.unit (s := S1x16384x128) (k0_off3 i k) S1x256x128.size (k0_off3_inb i k)).toLoadRect (View.loadsAt_vmem h_S1x256x128))
    let _ : Vec F S256x256 .f32 ← Prog.lift (.load arg10 (Rect.unit (s := S4096x256) (k0_off4 i k) S256x256.size (k0_off4_inb i k)).toLoadRect (View.loadsAt_vmem h_S256x256))
    Prog.lift (.store arg10 (Rect.unit (s := S4096x256) (k0_off4 i k) S256x256.size (k0_off4_inb i k))
      (shapeCast S256x256 (scores kb (qMat (cVec v13 v17) v31)) shapeCasts_S256x256_S256x256) Finset.univ (View.stores_vmem_bits_univ h_S256x256 rfl) (.inl rfl))
    pure (foldMax acc (scores kb (qMat (cVec v13 v17) v31)))
  let mx : FVec F S8x256 .f32 ← Scf.Loop.for (k0_t2_loop i) (k0_t2_ok i) mx fun k acc => do
    let kb : Vec F S1x256x128 .fp8e4m3 ← Prog.lift (.load arg4 (Rect.unit (s := S1x16384x128) (k0_off5 i k) S1x256x128.size (k0_off5_inb i k)).toLoadRect (View.loadsAt_vmem h_S1x256x128))
    let _ : Vec F S256x256 .f32 ← Prog.lift (.load arg10 (Rect.unit (s := S4096x256) (k0_off6 i k) S256x256.size (k0_off6_inb i k)).toLoadRect (View.loadsAt_vmem h_S256x256))
    Prog.lift (.store arg10 (Rect.unit (s := S4096x256) (k0_off6 i k) S256x256.size (k0_off6_inb i k))
      (shapeCast S256x256 (scores kb (qMat (cVec v13 v17) v31)) shapeCasts_S256x256_S256x256) Finset.univ (View.stores_vmem_bits_univ h_S256x256 rfl) (.inl rfl))
    pure (foldMax acc (scores kb (qMat (cVec v13 v17) v31)))
  let s0 : Vec F S256x256 .f32 ← Prog.lift (.load arg10 (Rect.unit (s := S4096x256) ![0, 0] S256x256.size inb_S4096x256_S256x256_0_0).toLoadRect (View.loadsAt_vmem h_S256x256))
  let vd : Vec F S1x128x256 .fp8e4m3 ← Prog.lift (.load arg5 (Rect.unit (s := S1x128x16384) (k0_off7 i) S1x128x256.size (k0_off7_inb i)).toLoadRect (View.loadsAt_vmem h_S1x128x256))
  let vo : Vec F S1x128x256 .fp8e4m3 ← Prog.lift (.load arg5 (Rect.unit (s := S1x128x16384) (k0_off8 i) S1x128x256.size (k0_off8_inb i)).toLoadRect (View.loadsAt_vmem h_S1x128x256))
  let _ : Vec F S128x256 .f32 ← Prog.lift (.load arg11 (Rect.unit (s := S128x256) ![0, 0] S128x256.size inb_S128x256_S128x256_0_0).toLoadRect (View.loadsAt_vmem h_S128x256))
  Prog.lift (.store arg11 (Rect.unit (s := S128x256) ![0, 0] S128x256.size inb_S128x256_S128x256_0_0)
    (shapeCast S128x256 (addf (pv vd (maskZero mDiag (pTile (c2Vec (cVec v13 v17)) (mRow (c2Vec (cVec v13 v17)) mx) s0)))
      (pv vo (maskZero (mOld i) (pTile (c2Vec (cVec v13 v17)) (mRow (c2Vec (cVec v13 v17)) mx) s0)))) shapeCasts_S128x256_S128x256)
    Finset.univ (View.stores_vmem_bits_univ h_S128x256 rfl) (.inl rfl))
  let l : FVec F S8x256 .f32 ← Scf.Loop.for (k0_t3_loop i) (k0_t3_ok i) (l0 i (pTile (c2Vec (cVec v13 v17)) (mRow (c2Vec (cVec v13 v17)) mx) s0)) fun k l => do
    let s : Vec F S256x256 .f32 ← Prog.lift (.load arg10 (Rect.unit (s := S4096x256) (k0_off9 i k) S256x256.size (k0_off9_inb i k)).toLoadRect (View.loadsAt_vmem h_S256x256))
    let acc : Vec F S128x256 .f32 ← Prog.lift (.load arg11 (Rect.unit (s := S128x256) ![0, 0] S128x256.size inb_S128x256_S128x256_0_0).toLoadRect (View.loadsAt_vmem h_S128x256))
    let vb : Vec F S1x128x256 .fp8e4m3 ← Prog.lift (.load arg5 (Rect.unit (s := S1x128x16384) (k0_off10 i k) S1x128x256.size (k0_off10_inb i k)).toLoadRect (View.loadsAt_vmem h_S1x128x256))
    let _ : Vec F S128x256 .f32 ← Prog.lift (.load arg11 (Rect.unit (s := S128x256) ![0, 0] S128x256.size inb_S128x256_S128x256_0_0).toLoadRect (View.loadsAt_vmem h_S128x256))
    Prog.lift (.store arg11 (Rect.unit (s := S128x256) ![0, 0] S128x256.size inb_S128x256_S128x256_0_0)
      (shapeCast S128x256 (addf acc (pv vb (pTile (c2Vec (cVec v13 v17)) (mRow (c2Vec (cVec v13 v17)) mx) s))) shapeCasts_S128x256_S128x256)
      Finset.univ (View.stores_vmem_bits_univ h_S128x256 rfl) (.inl rfl))
    pure (foldAdd l (pTile (c2Vec (cVec v13 v17)) (mRow (c2Vec (cVec v13 v17)) mx) s))
  let l : FVec F S8x256 .f32 ← Scf.Loop.for (k0_t4_loop i) (k0_t4_ok i) l fun k l => do
    let s : Vec F S256x256 .f32 ← Prog.lift (.load arg10 (Rect.unit (s := S4096x256) (k0_off11 i k) S256x256.size (k0_off11_inb i k)).toLoadRect (View.loadsAt_vmem h_S256x256))
    let acc : Vec F S128x256 .f32 ← Prog.lift (.load arg11 (Rect.unit (s := S128x256) ![0, 0] S128x256.size inb_S128x256_S128x256_0_0).toLoadRect (View.loadsAt_vmem h_S128x256))
    let vb : Vec F S1x128x256 .fp8e4m3 ← Prog.lift (.load arg5 (Rect.unit (s := S1x128x16384) (k0_off12 i k) S1x128x256.size (k0_off12_inb i k)).toLoadRect (View.loadsAt_vmem h_S1x128x256))
    let _ : Vec F S128x256 .f32 ← Prog.lift (.load arg11 (Rect.unit (s := S128x256) ![0, 0] S128x256.size inb_S128x256_S128x256_0_0).toLoadRect (View.loadsAt_vmem h_S128x256))
    Prog.lift (.store arg11 (Rect.unit (s := S128x256) ![0, 0] S128x256.size inb_S128x256_S128x256_0_0)
      (shapeCast S128x256 (addf acc (pv vb (pTile (c2Vec (cVec v13 v17)) (mRow (c2Vec (cVec v13 v17)) mx) s))) shapeCasts_S128x256_S128x256)
      Finset.univ (View.stores_vmem_bits_univ h_S128x256 rfl) (.inl rfl))
    pure (foldAdd l (pTile (c2Vec (cVec v13 v17)) (mRow (c2Vec (cVec v13 v17)) mx) s))
  let acc : Vec F S128x256 .f32 ← Prog.lift (.load arg11 (Rect.unit (s := S128x256) ![0, 0] S128x256.size inb_S128x256_S128x256_0_0).toLoadRect (View.loadsAt_vmem h_S128x256))
  let _ : Vec F S1x256x128 .bf16 ← Prog.lift (.load arg9 (Rect.unit (s := S1x256x1024) ![0, 0, o] S1x256x128.size h3).toLoadRect (View.loadsAt_vmem h_S1x256x128))
  Prog.lift (.store arg9 (Rect.unit (s := S1x256x1024) ![0, 0, o] S1x256x128.size h3) (shapeCast S1x256x128 (outTile l acc v15) shapeCasts_S256x128_S1x256x128)
    Finset.univ (View.stores_vmem h_S1x256x128 (harg9.storeExact_slice rfl _ hp) (fun _ => rfl)) (.inl rfl))

/-- The two scale loads and the eight heads in order. -/
def headsProg (i : grid0.Coords) (arg3 : Memref sig .tc .vmem S1x256x1024 .fp8e4m3) (arg4 : Memref sig .tc .vmem S1x16384x128 .fp8e4m3)
    (arg5 : Memref sig .tc .vmem S1x128x16384 .fp8e4m3) (arg6 : Memref sig .tc .vmem S1x1024 .f32)
    (arg7 : Memref sig .tc .vmem S1x128 .f32) (arg8 : Memref sig .tc .vmem S1x128 .f32)
    (arg9 : Memref sig .tc .vmem S1x256x1024 .bf16) (harg9 : arg9.IsWhole)
    (arg10 : Memref sig .tc .vmem S4096x256 .f32) (arg11 : Memref sig .tc .vmem S128x256 .f32) :
    Prog (TpuEff nD τ sig (Elt F) Λ₀ .tc) PUnit := do
  let v13 : Vec F S1x128 .f32 ← Prog.lift (.load arg7 (Rect.unit (s := S1x128) ![0, 0] S1x128.size inb_S1x128_S1x128_0_0).toLoadRect (View.loadsAt_vmem h_S1x128))
  let v15 : Vec F S1x128 .f32 ← Prog.lift (.load arg8 (Rect.unit (s := S1x128) ![0, 0] S1x128.size inb_S1x128_S1x128_0_0).toLoadRect (View.loadsAt_vmem h_S1x128))
  headProg i arg3 arg4 arg5 arg6 arg9 harg9 arg10 arg11 0 inb_S1x1024_S1x128_0_0 inb_S1x256x1024_S1x256x128_0_0_0 packedbf16_S1x256x1024_S1x256x128_0_0_0 v13 v15
  headProg i arg3 arg4 arg5 arg6 arg9 harg9 arg10 arg11 128 inb_S1x1024_S1x128_0_128 inb_S1x256x1024_S1x256x128_0_0_128 packedbf16_S1x256x1024_S1x256x128_0_0_128 v13 v15
  headProg i arg3 arg4 arg5 arg6 arg9 harg9 arg10 arg11 256 inb_S1x1024_S1x128_0_256 inb_S1x256x1024_S1x256x128_0_0_256 packedbf16_S1x256x1024_S1x256x128_0_0_256 v13 v15
  headProg i arg3 arg4 arg5 arg6 arg9 harg9 arg10 arg11 384 inb_S1x1024_S1x128_0_384 inb_S1x256x1024_S1x256x128_0_0_384 packedbf16_S1x256x1024_S1x256x128_0_0_384 v13 v15
  headProg i arg3 arg4 arg5 arg6 arg9 harg9 arg10 arg11 512 inb_S1x1024_S1x128_0_512 inb_S1x256x1024_S1x256x128_0_0_512 packedbf16_S1x256x1024_S1x256x128_0_0_512 v13 v15
  headProg i arg3 arg4 arg5 arg6 arg9 harg9 arg10 arg11 640 inb_S1x1024_S1x128_0_640 inb_S1x256x1024_S1x256x128_0_0_640 packedbf16_S1x256x1024_S1x256x128_0_0_640 v13 v15
  headProg i arg3 arg4 arg5 arg6 arg9 harg9 arg10 arg11 768 inb_S1x1024_S1x128_0_768 inb_S1x256x1024_S1x256x128_0_0_768 packedbf16_S1x256x1024_S1x256x128_0_0_768 v13 v15
  headProg i arg3 arg4 arg5 arg6 arg9 harg9 arg10 arg11 896 inb_S1x1024_S1x128_0_896 inb_S1x256x1024_S1x256x128_0_0_896 packedbf16_S1x256x1024_S1x256x128_0_0_896 v13 v15

end Cert.Kernel.Body

end
-- ==== Proof.Owned.lean ====
/-
  Loads and stores through one rectangle of an owned memref, stated on the values the memref reads: a load hands over the
  values under the rectangle (`ld`), a store replaces them (`upd`). Nothing here is about a particular kernel.
-/
module

public import Idealize.ShloMosaic.Lib.Memref
public import Idealize.ShloMosaic.Lib.Tactic
public import Idealize.ShloMosaic.Lib.Pipeline.FrameBody
public import Idealize.ShloMosaic.Lib.ReshapeSlab

@[expose] public section

noncomputable section

namespace Cert.Owned

open Idealize.ShloMosaic
open Idealize.SL Idealize.SL.RA Idealize.SL.BI
open scoped Idealize.SL.BI
open Idealize.SL.BI.BIBase Idealize.SL.BI.Laws Idealize.SL.ProofMode Idealize.SL.Sem

/-- The values under a rectangle. -/
def ld {s : Shape} {α : Type} (X : s.Idx → α) (r : Rect s) : r.shape.Idx → α := fun j => X (r.emb j)

open Classical in
/-- The values with those under a rectangle replaced. -/
def upd {s : Shape} {α : Type} (X : s.Idx → α) (r : Rect s) (w : r.shape.Idx → α) : s.Idx → α :=
  fun y => if h : ∃ j, r.emb j = y then w h.choose else X y

theorem upd_emb {s : Shape} {α : Type} (X : s.Idx → α) (r : Rect s) (w : r.shape.Idx → α) (j : r.shape.Idx) :
    upd X r w (r.emb j) = w j := by
  have h : ∃ j', r.emb j' = r.emb j := ⟨j, rfl⟩
  unfold upd
  rw [dif_pos h]
  exact congrArg w (r.emb.injective h.choose_spec)

theorem upd_of_not {s : Shape} {α : Type} (X : s.Idx → α) (r : Rect s) (w : r.shape.Idx → α) (y : s.Idx)
    (h : ∀ j, r.emb j ≠ y) : upd X r w y = X y := by
  unfold upd
  rw [dif_neg]
  rintro ⟨j, hj⟩
  exact h j hj

theorem ld_upd_self {s : Shape} {α : Type} (X : s.Idx → α) (r : Rect s) (w : r.shape.Idx → α) : ld (upd X r w) r = w :=
  funext fun j => upd_emb X r w j

theorem ld_upd_of_disjoint {s : Shape} {α : Type} (X : s.Idx → α) (r r' : Rect s) (w : r'.shape.Idx → α)
    (h : ∀ j j', r'.emb j' ≠ r.emb j) : ld (upd X r' w) r = ld X r :=
  funext fun j => upd_of_not X r' w _ (h j)

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ)
  (bd : Option 𝒱.V) {Γ : PendingWaitsCtx sig Ix} (E : Set Name)
variable {s : Shape} {e : EltTy}
variable {α : Type} {Q : α → sProp (MT nD τ sig Ix Val Name U Lvl)}

/-- A load through one rectangle of an owned memref. -/
theorem wp_ld {cs : CoreSpace} {m : Memref sig c.2.kind cs s e} {r : Rect s} {hl : m.view.LoadsAt r}
    {k : (r.shape.Idx → Val e) → Prog (TpuEff nD τ sig Val Λ c.2) α} {q : PosShare TreeShare} {X : s.Idx → Val e} :
    owns c m q X
      ⊢ iprop((owns c m q X -∗ wp frame (wpE' defs 𝒱 c bd Γ) E (k (ld X r)) Q)
        -∗ wp frame (wpE' defs 𝒱 c bd Γ) E (.op (.load m r hl) k) Q) := by
  unfold owns
  iintro ⟨%f, %hf, H⟩ Hk
  iapply (wp_load_rect 𝒱 c bd E (m := m) (r := r) (View.set_slice_subset _ _)) $$ H
  iintro H
  have hv : (m.access r).read Val f = ld X r := by rw [← hf]; rfl
  rw [hv]
  iapply Hk
  iexists f
  isplitr
  · ipureintro; exact hf
  · iexact H

/-- A store through one rectangle of an owned memref. -/
theorem wp_upd {cs : CoreSpace} {m : Memref sig c.2.kind cs s e} {r : Rect s} {w : r.shape.Idx → Val e}
    {hx : (m.access r).Stores Finset.univ} {hm : (Finset.univ : Finset r.shape.Idx) = Finset.univ ∨ ∀ a, r.stride a = 1}
    {k : PUnit → Prog (TpuEff nD τ sig Val Λ c.2) α} {X : s.Idx → Val e} :
    owns c m fullShare X
      ⊢ iprop((owns c m fullShare (upd X r w) -∗ wp frame (wpE' defs 𝒱 c bd Γ) E (k ⟨⟩) Q)
        -∗ wp frame (wpE' defs 𝒱 c bd Γ) E (.op (.store m r w Finset.univ hx hm) k) Q) := by
  unfold owns
  iintro ⟨%f, %hf, H⟩ Hk
  iapply (wp_store 𝒱 c bd E (m := m) (r := r) (w := w) (View.set_slice_subset _ _)) $$ H
  iintro H
  iapply Hk
  iexists _
  isplitr; swap
  · iexact H
  · ipureintro
    funext y
    by_cases h : ∃ j, r.emb j = y
    · obtain ⟨j, rfl⟩ := h
      rw [upd_emb]
      exact View.read_slice_write_emb r f w (Finset.mem_univ j)
    · rw [upd_of_not _ _ _ _ (fun j hj => h ⟨j, hj⟩), ← hf]
      refine View.read_slice_write_of_not_mem r f w _ ?_
      simpa using fun j hj => h ⟨j, hj⟩

end Rules

end Cert.Owned

end
-- ==== Proof.Kernel.HeadVal.lean ====
/-
  What one head of the kernel leaves, as a function of the blocks it reads: the scores of the partly masked tile and of
  each full key block, the running maximum, the accumulated values and sums after each full block, the output tile.
-/
module

public import proofs.«01_k».proof.Proof.Kernel.Body
public import proofs.«01_k».proof.Proof.Owned

@[expose] public section

noncomputable section

namespace Cert.Kernel.Body

open Idealize.ShloMosaic Idealize.SL.Sem Cert.Kernel Cert.Kernel.Gen Cert.Owned

variable {F : FTy → Type} [FloatOps F]

section Values

variable (i : grid0.Coords) (X4 : Vec F S1x16384x128 .fp8e4m3) (X5 : Vec F S1x128x16384 .fp8e4m3)
  (c : FVec F S1x128 .f32) (q : FVec F S256x128 .fp8e4m3)

/-- The number of full key blocks of the point. -/
def nFull : Nat := (k0_t1_loop i).trips

/-- The scores of the partly masked tile: the block of the queries themselves and the block that leaves the window. -/
def sDiag : FVec F S256x256 .f32 :=
  sTile i (ld X4 (Rect.unit (s := S1x16384x128) (k0_off1 i) S1x256x128.size (k0_off1_inb i)))
    (ld X4 (Rect.unit (s := S1x16384x128) (k0_off2 i) S1x256x128.size (k0_off2_inb i))) q

/-- The scores of full block `n` (of the masked tile past the last block, never read). -/
def sBlk (n : Nat) : FVec F S256x256 .f32 :=
  if h : n < nFull i then
    scores (ld X4 (Rect.unit (s := S1x16384x128) (k0_off3 i ⟨n, h⟩) S1x256x128.size (k0_off3_inb i ⟨n, h⟩))) q
  else sDiag i X4 q

/-- The values of full block `n`. -/
def vBlk (n : Nat) : Vec F S1x128x256 .fp8e4m3 :=
  if h : n < nFull i then
    ld X5 (Rect.unit (s := S1x128x16384) (k0_off10 i ⟨n, h⟩) S1x128x256.size (k0_off10_inb i ⟨n, h⟩))
  else ld X5 (Rect.unit (s := S1x128x16384) (k0_off7 i) S1x128x256.size (k0_off7_inb i))

/-- The running maximum after `n` full blocks. -/
def mxAt : Nat → FVec F S8x256 .f32
  | 0 => mx0 (sDiag i X4 q)
  | n + 1 => foldMax (mxAt n) (sBlk i X4 q n)

/-- The exponent's offset of the head. -/
def mAll : FVec F S1x256 .f32 := mRow (c2Vec c) (mxAt i X4 q (nFull i))

/-- The powers of the masked tile, -/
def pDiag : FVec F S256x256 .f32 := pTile (c2Vec c) (mAll i X4 c q) (sDiag i X4 q)

/-- and of full block `n`. -/
def pBlk (n : Nat) : FVec F S256x256 .f32 := pTile (c2Vec c) (mAll i X4 c q) (sBlk i X4 q n)

/-- The accumulated values after `n` full blocks. -/
def accAt : Nat → FVec F S128x256 .f32
  | 0 => addf (pv (ld X5 (Rect.unit (s := S1x128x16384) (k0_off7 i) S1x128x256.size (k0_off7_inb i))) (maskZero mDiag (pDiag i X4 c q)))
      (pv (ld X5 (Rect.unit (s := S1x128x16384) (k0_off8 i) S1x128x256.size (k0_off8_inb i))) (maskZero (mOld i) (pDiag i X4 c q)))
  | n + 1 => addf (accAt n) (pv (vBlk i X5 n) (pBlk i X4 c q n))

/-- The accumulated sums after `n` full blocks. -/
def lAt : Nat → FVec F S8x256 .f32
  | 0 => l0 i (pDiag i X4 c q)
  | n + 1 => foldAdd (lAt n) (pBlk i X4 c q n)

/-- The head's output tile. -/
def headOut (v15 : Vec F S1x128 .f32) : FVec F S256x128 .bf16 :=
  outTile (lAt i X4 c q (nFull i)) (accAt i X4 X5 c q (nFull i)) v15

end Values

end Cert.Kernel.Body

end
-- ==== Proof.Kernel.Head.lean ====
/-
  One head run: from the blocks and the two scratch arrays owned, the head's program ends with its tile of the output
  block replaced by the value `headOut` of the blocks, the inputs as they were, the scratch at some contents.
-/
module

public import proofs.«01_k».proof.Proof.Kernel.HeadVal
public import proofs.«01_k».proof.Proof.Gen.Kernel.Frame
public import Idealize.ShloMosaic.Lib.Pipeline.Frame
public import Idealize.ShloMosaic.Lib.Pipeline.Value
public import Idealize.ShloMosaic.Lib.Pipeline.ValueKit.Geometry

@[expose] public section

noncomputable section

namespace Cert.Kernel.Body

open Cert.Kernel Cert.Kernel.Gen Cert.Owned
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A loop of no trips is its initial value. -/
theorem for_none {w : Nat} {E : Type → Type} {σ : Type} (l : Scf.Loop w) (hok : l.OK) (init : σ)
    (body : Fin l.trips → σ → Prog E σ) (h : l.trips = 0) : Scf.Loop.for l hok init body = .ret init := by
  unfold Scf.Loop.for
  rw [Scf.for_eq]
  have : List.finRange (Scf.trips l.lb l.ub l.st) = [] := by
    have h' : Scf.trips l.lb l.ub l.st = 0 := h
    apply List.eq_nil_of_length_eq_zero
    rw [List.length_finRange, h']
  rw [this, Scf.forFrom_nil]

/-- One trip of the score loop: load the key block, store its scores, fold their maximum. -/
def trip1 (i : grid0.Coords) (arg4 : Memref sig .tc .vmem S1x16384x128 .fp8e4m3) (arg10 : Memref sig .tc .vmem S4096x256 .f32)
    (q : FVec F S256x128 .fp8e4m3) (k : Fin (k0_t1_loop i).trips) (acc : FVec F S8x256 .f32) :
    Prog (TpuEff nD τ sig (Elt F) Λ₀ .tc) (FVec F S8x256 .f32) :=
  .op (.load arg4 (Rect.unit (s := S1x16384x128) (k0_off3 i k) S1x256x128.size (k0_off3_inb i k)).toLoadRect (View.loadsAt_vmem h_S1x256x128)) fun (kb : Vec F S1x256x128 .fp8e4m3) =>
  .op (.load arg10 (Rect.unit (s := S4096x256) (k0_off4 i k) S256x256.size (k0_off4_inb i k)).toLoadRect (View.loadsAt_vmem h_S256x256)) fun (_ : Vec F S256x256 .f32) =>
  .op (.store arg10 (Rect.unit (s := S4096x256) (k0_off4 i k) S256x256.size (k0_off4_inb i k))
      (shapeCast S256x256 (scores kb q) shapeCasts_S256x256_S256x256) Finset.univ (View.stores_vmem_bits_univ h_S256x256 rfl) (.inl rfl)) fun _ =>
  .ret (foldMax acc (scores kb q))

/-- One trip of the value loop: load the scores, the accumulator and the value block, add to accumulator and sum. -/
def trip3 (i : grid0.Coords) (arg5 : Memref sig .tc .vmem S1x128x16384 .fp8e4m3) (arg10 : Memref sig .tc .vmem S4096x256 .f32)
    (arg11 : Memref sig .tc .vmem S128x256 .f32) (c2 m : FVec F S1x256 .f32) (k : Fin (k0_t3_loop i).trips) (l : FVec F S8x256 .f32) :
    Prog (TpuEff nD τ sig (Elt F) Λ₀ .tc) (FVec F S8x256 .f32) :=
  .op (.load arg10 (Rect.unit (s := S4096x256) (k0_off9 i k) S256x256.size (k0_off9_inb i k)).toLoadRect (View.loadsAt_vmem h_S256x256)) fun (s : Vec F S256x256 .f32) =>
  .op (.load arg11 (Rect.unit (s := S128x256) ![0, 0] S128x256.size inb_S128x256_S128x256_0_0).toLoadRect (View.loadsAt_vmem h_S128x256)) fun (acc : Vec F S128x256 .f32) =>
  .op (.load arg5 (Rect.unit (s := S1x128x16384) (k0_off10 i k) S1x128x256.size (k0_off10_inb i k)).toLoadRect (View.loadsAt_vmem h_S1x128x256)) fun (vb : Vec F S1x128x256 .fp8e4m3) =>
  .op (.load arg11 (Rect.unit (s := S128x256) ![0, 0] S128x256.size inb_S128x256_S128x256_0_0).toLoadRect (View.loadsAt_vmem h_S128x256)) fun (_ : Vec F S128x256 .f32) =>
  .op (.store arg11 (Rect.unit (s := S128x256) ![0, 0] S128x256.size inb_S128x256_S128x256_0_0)
      (shapeCast S128x256 (addf acc (pv vb (pTile c2 m s))) shapeCasts_S128x256_S128x256)
      Finset.univ (View.stores_vmem_bits_univ h_S128x256 rfl) (.inl rfl)) fun _ =>
  .ret (foldAdd l (pTile c2 m s))

/-- The end of the head: the accumulator read, the output tile stored. -/
def tailProg (arg9 : Memref sig .tc .vmem S1x256x1024 .bf16) (harg9 : arg9.IsWhole) (arg11 : Memref sig .tc .vmem S128x256 .f32)
    (o : Nat) (h3 : ∀ a, (![0, 0, o] : Fin 3 → Nat) a + S1x256x128.size a ≤ S1x256x1024.size a)
    (hp : (Rect.unit (s := S1x256x1024) ![0, 0, o] S1x256x128.size h3).PackedRows (EltTy.packing .bf16))
    (v15 : Vec F S1x128 .f32) (l : FVec F S8x256 .f32) : Prog (TpuEff nD τ sig (Elt F) Λ₀ .tc) PUnit :=
  .op (.load arg11 (Rect.unit (s := S128x256) ![0, 0] S128x256.size inb_S128x256_S128x256_0_0).toLoadRect (View.loadsAt_vmem h_S128x256)) fun (acc : Vec F S128x256 .f32) =>
  .op (.load arg9 (Rect.unit (s := S1x256x1024) ![0, 0, o] S1x256x128.size h3).toLoadRect (View.loadsAt_vmem h_S1x256x128)) fun (_ : Vec F S1x256x128 .bf16) =>
  .op (.store arg9 (Rect.unit (s := S1x256x1024) ![0, 0, o] S1x256x128.size h3) (shapeCast S1x256x128 (outTile l acc v15) shapeCasts_S256x128_S1x256x128)
    Finset.univ (View.stores_vmem h_S1x256x128 (harg9.storeExact_slice rfl _ hp) (fun _ => rfl)) (.inl rfl)) fun _ => .ret ⟨⟩

/-- After the score loop: the masked tile's powers and values, then the value loop, then the end. -/
def midProg (i : grid0.Coords) (arg5 : Memref sig .tc .vmem S1x128x16384 .fp8e4m3)
    (arg9 : Memref sig .tc .vmem S1x256x1024 .bf16) (harg9 : arg9.IsWhole)
    (arg10 : Memref sig .tc .vmem S4096x256 .f32) (arg11 : Memref sig .tc .vmem S128x256 .f32)
    (o : Nat) (h3 : ∀ a, (![0, 0, o] : Fin 3 → Nat) a + S1x256x128.size a ≤ S1x256x1024.size a)
    (hp : (Rect.unit (s := S1x256x1024) ![0, 0, o] S1x256x128.size h3).PackedRows (EltTy.packing .bf16))
    (v15 : Vec F S1x128 .f32) (c2 m : FVec F S1x256 .f32) : Prog (TpuEff nD τ sig (Elt F) Λ₀ .tc) PUnit :=
  .op (.load arg10 (Rect.unit (s := S4096x256) ![0, 0] S256x256.size inb_S4096x256_S256x256_0_0).toLoadRect (View.loadsAt_vmem h_S256x256)) fun (s0 : Vec F S256x256 .f32) =>
  .op (.load arg5 (Rect.unit (s := S1x128x16384) (k0_off7 i) S1x128x256.size (k0_off7_inb i)).toLoadRect (View.loadsAt_vmem h_S1x128x256)) fun (vd : Vec F S1x128x256 .fp8e4m3) =>
  .op (.load arg5 (Rect.unit (s := S1x128x16384) (k0_off8 i) S1x128x256.size (k0_off8_inb i)).toLoadRect (View.loadsAt_vmem h_S1x128x256)) fun (vo : Vec F S1x128x256 .fp8e4m3) =>
  .op (.load arg11 (Rect.unit (s := S128x256) ![0, 0] S128x256.size inb_S128x256_S128x256_0_0).toLoadRect (View.loadsAt_vmem h_S128x256)) fun (_ : Vec F S128x256 .f32) =>
  .op (.store arg11 (Rect.unit (s := S128x256) ![0, 0] S128x256.size inb_S128x256_S128x256_0_0)
    (shapeCast S128x256 (addf (pv vd (maskZero mDiag (pTile c2 m s0)))
      (pv vo (maskZero (mOld i) (pTile c2 m s0)))) shapeCasts_S128x256_S128x256)
    Finset.univ (View.stores_vmem_bits_univ h_S128x256 rfl) (.inl rfl)) fun _ =>
  Scf.for (k0_t3_loop i).lb (k0_t3_loop i).ub (k0_t3_loop i).st (k0_t3_ok i) (l0 i (pTile c2 m s0)) (trip3 i arg5 arg10 arg11 c2 m) >>= fun l =>
  tailProg arg9 harg9 arg11 o h3 hp v15 l

/-- The head with its scale and queries known: the masked tile's scores, the score loop, the rest. -/
def coreProg (i : grid0.Coords) (arg4 : Memref sig .tc .vmem S1x16384x128 .fp8e4m3)
    (arg5 : Memref sig .tc .vmem S1x128x16384 .fp8e4m3)
    (arg9 : Memref sig .tc .vmem S1x256x1024 .bf16) (harg9 : arg9.IsWhole)
    (arg10 : Memref sig .tc .vmem S4096x256 .f32) (arg11 : Memref sig .tc .vmem S128x256 .f32)
    (o : Nat) (h3 : ∀ a, (![0, 0, o] : Fin 3 → Nat) a + S1x256x128.size a ≤ S1x256x1024.size a)
    (hp : (Rect.unit (s := S1x256x1024) ![0, 0, o] S1x256x128.size h3).PackedRows (EltTy.packing .bf16))
    (v15 : Vec F S1x128 .f32) (cv : FVec F S1x128 .f32) (q : FVec F S256x128 .fp8e4m3) : Prog (TpuEff nD τ sig (Elt F) Λ₀ .tc) PUnit :=
  .op (.load arg4 (Rect.unit (s := S1x16384x128) (k0_off1 i) S1x256x128.size (k0_off1_inb i)).toLoadRect (View.loadsAt_vmem h_S1x256x128)) fun (kd : Vec F S1x256x128 .fp8e4m3) =>
  .op (.load arg4 (Rect.unit (s := S1x16384x128) (k0_off2 i) S1x256x128.size (k0_off2_inb i)).toLoadRect (View.loadsAt_vmem h_S1x256x128)) fun (ko : Vec F S1x256x128 .fp8e4m3) =>
  .op (.load arg10 (Rect.unit (s := S4096x256) ![0, 0] S256x256.size inb_S4096x256_S256x256_0_0).toLoadRect (View.loadsAt_vmem h_S256x256)) fun (_ : Vec F S256x256 .f32) =>
  .op (.store arg10 (Rect.unit (s := S4096x256) ![0, 0] S256x256.size inb_S4096x256_S256x256_0_0)
    (shapeCast S256x256 (sTile i kd ko q) shapeCasts_S256x256_S256x256) Finset.univ (View.stores_vmem_bits_univ h_S256x256 rfl) (.inl rfl)) fun _ =>
  Scf.for (k0_t1_loop i).lb (k0_t1_loop i).ub (k0_t1_loop i).st (k0_t1_ok i) (mx0 (sTile i kd ko q)) (trip1 i arg4 arg10 q) >>= fun mx =>
  midProg i arg5 arg9 harg9 arg10 arg11 o h3 hp v15 (c2Vec cv) (mRow (c2Vec cv) mx)

theorem headProg_eq (i : grid0.Coords) (arg3 : Memref sig .tc .vmem S1x256x1024 .fp8e4m3) (arg4 : Memref sig .tc .vmem S1x16384x128 .fp8e4m3)
    (arg5 : Memref sig .tc .vmem S1x128x16384 .fp8e4m3) (arg6 : Memref sig .tc .vmem S1x1024 .f32)
    (arg9 : Memref sig .tc .vmem S1x256x1024 .bf16) (harg9 : arg9.IsWhole)
    (arg10 : Memref sig .tc .vmem S4096x256 .f32) (arg11 : Memref sig .tc .vmem S128x256 .f32)
    (o : Nat) (h6 : ∀ a, (![0, o] : Fin 2 → Nat) a + S1x128.size a ≤ S1x1024.size a)
    (h3 : ∀ a, (![0, 0, o] : Fin 3 → Nat) a + S1x256x128.size a ≤ S1x256x1024.size a)
    (hp : (Rect.unit (s := S1x256x1024) ![0, 0, o] S1x256x128.size h3).PackedRows (EltTy.packing .bf16))
    (v13 v15 : Vec F S1x128 .f32) :
    headProg i arg3 arg4 arg5 arg6 arg9 harg9 arg10 arg11 o h6 h3 hp v13 v15 =
      .op (.load arg6 (Rect.unit (s := S1x1024) ![0, o] S1x128.size h6).toLoadRect (View.loadsAt_vmem h_S1x128)) fun (v17 : Vec F S1x128 .f32) =>
      .op (.load arg3 (Rect.unit (s := S1x256x1024) ![0, 0, o] S1x256x128.size h3).toLoadRect (View.loadsAt_vmem h_S1x256x128)) fun (v31 : Vec F S1x256x128 .fp8e4m3) =>
      coreProg i arg4 arg5 arg9 harg9 arg10 arg11 o h3 hp v15 (cVec v13 v17) (qMat (cVec v13 v17) v31) := by
  have h2 : (k0_t2_loop i).trips = 0 := Nat.le_zero.mp (k0_t2_abs i).2.1
  have h4 : (k0_t4_loop i).trips = 0 := Nat.le_zero.mp (k0_t4_abs i).2.1
  have e2 : ∀ (init : FVec F S8x256 .f32) (body : Fin (k0_t2_loop i).trips → FVec F S8x256 .f32 → Prog (TpuEff nD τ sig (Elt F) Λ₀ .tc) (FVec F S8x256 .f32)),
      Scf.Loop.for (k0_t2_loop i) (k0_t2_ok i) init body = .ret init := fun init body => for_none _ _ _ _ h2
  have e4 : ∀ (init : FVec F S8x256 .f32) (body : Fin (k0_t4_loop i).trips → FVec F S8x256 .f32 → Prog (TpuEff nD τ sig (Elt F) Λ₀ .tc) (FVec F S8x256 .f32)),
      Scf.Loop.for (k0_t4_loop i) (k0_t4_ok i) init body = .ret init := fun init body => for_none _ _ _ _ h4
  unfold headProg
  simp only [e2, e4, Prog.lift, Prog.bind_op, Prog.bind_ret, Prog.pure_eq_ret]
  rfl

/-! ## The score loop -/

/-- The rows of the score scratch that block `k` owns. -/
abbrev sRect (i : grid0.Coords) (k : Fin (k0_t1_loop i).trips) : Rect S4096x256 :=
  Rect.unit (s := S4096x256) (k0_off4 i k) S256x256.size (k0_off4_inb i k)
/-- and the first 256 rows, the masked tile's. -/
abbrev sRect0 : Rect S4096x256 := Rect.unit (s := S4096x256) ![0, 0] S256x256.size inb_S4096x256_S256x256_0_0

/-- The masked tile and the first `n` full blocks are in the score scratch. -/
def ScoresAt (i : grid0.Coords) (X4 : Vec F S1x16384x128 .fp8e4m3) (q : FVec F S256x128 .fp8e4m3) (X10 : Vec F S4096x256 .f32) (n : Nat) : Prop :=
  ld X10 sRect0 = sDiag i X4 q ∧ ∀ k : Fin (k0_t1_loop i).trips, k.val < n → ld X10 (sRect i k) = sBlk i X4 q k.val

theorem sRect_row (i : grid0.Coords) (k : Fin (k0_t1_loop i).trips) (j : S256x256.Idx) :
    ((sRect i k).emb j 0).val = 256 * k.val + 256 + (j 0).val := by
  have h := ValueKit.rect_emb_unit_val (s := S4096x256) (k0_off4 i k) S256x256.size (k0_off4_inb i k) j 0
  exact h.trans (congrArg (fun x : Nat => x + (j 0).val) (congrFun (k0_off4_eq i k) 0))

theorem sRect0_row (j : S256x256.Idx) : (sRect0.emb j 0).val = (j 0).val := by
  rw [ValueKit.rect_emb_unit_val]; exact Nat.zero_add _

theorem ScoresAt.step {i : grid0.Coords} {X4 : Vec F S1x16384x128 .fp8e4m3} {q : FVec F S256x128 .fp8e4m3} {X10 : Vec F S4096x256 .f32}
    (k : Fin (k0_t1_loop i).trips) (h : ScoresAt i X4 q X10 k.val) (w : Vec F S256x256 .f32) (hw : w = sBlk i X4 q k.val) :
    ScoresAt i X4 q (upd X10 (sRect i k) w) (k.val + 1) := by
  refine ⟨?_, fun k' hk' => ?_⟩
  · rw [← h.1]
    refine ld_upd_of_disjoint _ _ _ _ fun j j' e => ?_
    have e0 := congrArg (fun x : S4096x256.Idx => (x 0).val) e
    simp only [sRect_row, sRect0_row] at e0
    have : (j 0).val < 256 := (j 0).isLt
    omega
  · by_cases hkk : k' = k
    · subst hkk; rw [ld_upd_self, hw]
    · have hlt : k'.val < k.val := by
        have : k'.val ≠ k.val := fun e => hkk (Fin.ext e)
        omega
      rw [← h.2 k' hlt]
      refine ld_upd_of_disjoint _ _ _ _ fun j j' e => ?_
      have e0 := congrArg (fun x : S4096x256.Idx => (x 0).val) e
      simp only [sRect_row] at e0
      have : (j 0).val < 256 := (j 0).isLt
      omega

/-- Before trip `n` of the score loop. -/
def inv1 (c : Dev nD) (i : grid0.Coords) (arg4 : Memref sig .tc .vmem S1x16384x128 .fp8e4m3) (arg10 : Memref sig .tc .vmem S4096x256 .f32)
    (X4 : Vec F S1x16384x128 .fp8e4m3) (q : FVec F S256x128 .fp8e4m3) (n : Nat) (acc : FVec F S8x256 .f32) : sProp 𝕄 :=
  iprop(⌜acc = mxAt i X4 q n⌝ ∗ owns (c : Thread nD τ) arg4 fullShare X4
    ∗ ∃ X10, ⌜ScoresAt i X4 q X10 n⌝ ∗ owns (c : Thread nD τ) arg10 fullShare X10)

theorem sound_trip1 (c : Dev nD) (i : grid0.Coords) (arg4 : Memref sig .tc .vmem S1x16384x128 .fp8e4m3) (arg10 : Memref sig .tc .vmem S4096x256 .f32)
    (X4 : Vec F S1x16384x128 .fp8e4m3) (q : FVec F S256x128 .fp8e4m3) (k : Fin (k0_t1_loop i).trips) (acc : FVec F S8x256 .f32) :
    inv1 c i arg4 arg10 X4 q k.val acc
      ⊢ wp frame (wpE (defs₀ (F := F)) Variants.none c none) Set.univ (trip1 i arg4 arg10 q k acc) (inv1 c i arg4 arg10 X4 q (k.val + 1)) := by
  unfold inv1 trip1
  have hb : scores (ld X4 (Rect.unit (s := S1x16384x128) (k0_off3 i k) S1x256x128.size (k0_off3_inb i k))) q = sBlk i X4 q k.val := by
    unfold sBlk; rw [dif_pos (show k.val < nFull i from k.isLt)]
  iintro ⟨%hacc, H4, %X10, %hX, H10⟩
  iapply (wp_ld Variants.none (c : Thread nD τ) none Set.univ) $$ H4; iintro H4
  iapply (wp_ld Variants.none (c : Thread nD τ) none Set.univ) $$ H10; iintro H10
  iapply (wp_upd Variants.none (c : Thread nD τ) none Set.univ) $$ H10; iintro H10
  rw [wp_ret]; imodintro
  isplitr
  · ipureintro
    rw [hacc, hb]; rfl
  isplitl [H4]; · iexact H4
  iexists _; isplitr; swap; · iexact H10
  ipureintro
  refine ScoresAt.step k hX _ ?_
  rw [shapeCast_self]; exact hb

/-- The score loop: it leaves every block's scores in the scratch and carries the running maximum. -/
theorem sound_loop1 (c : Dev nD) (i : grid0.Coords) (arg4 : Memref sig .tc .vmem S1x16384x128 .fp8e4m3) (arg10 : Memref sig .tc .vmem S4096x256 .f32)
    (X4 : Vec F S1x16384x128 .fp8e4m3) (q : FVec F S256x128 .fp8e4m3) (X10 : Vec F S4096x256 .f32) (hX : ld X10 sRect0 = sDiag i X4 q)
    {β : Type} {kk : FVec F S8x256 .f32 → Prog (TpuEff nD τ sig (Elt F) Λ₀ .tc) β} {K : β → sProp 𝕄} :
    iprop(owns (c : Thread nD τ) arg4 fullShare X4 ∗ owns (c : Thread nD τ) arg10 fullShare X10)
      ⊢ iprop((∀ X10', ⌜ScoresAt i X4 q X10' (nFull i)⌝ -∗ owns (c : Thread nD τ) arg4 fullShare X4 -∗ owns (c : Thread nD τ) arg10 fullShare X10'
            -∗ wp frame (wpE (defs₀ (F := F)) Variants.none c none) Set.univ (kk (mxAt i X4 q (nFull i))) K)
        -∗ wp frame (wpE (defs₀ (F := F)) Variants.none c none) Set.univ
            (Scf.for (k0_t1_loop i).lb (k0_t1_loop i).ub (k0_t1_loop i).st (k0_t1_ok i) (mx0 (sDiag i X4 q)) (trip1 i arg4 arg10 q) >>= kk) K) := by
  iintro ⟨H4, H10⟩ Hk
  iapply (Scf.wp_for_bind frame (wpE (defs₀ (F := F)) Variants.none c none) Set.univ _ _ _ (k0_t1_ok i) _ _
    (inv1 c i arg4 arg10 X4 q) (sound_trip1 c i arg4 arg10 X4 q)) $$ [H4 H10]
  · unfold inv1
    isplitr; · ipureintro; rfl
    isplitl [H4]; · iexact H4
    iexists X10; isplitr; swap; · iexact H10
    ipureintro; exact ⟨hX, fun k hk => absurd hk (Nat.not_lt_zero _)⟩
  iintro %acc Hinv
  unfold inv1
  icases Hinv with ⟨%hacc, H4, %X', %hX', H10⟩
  rw [hacc]
  iapply Hk $$ %X' [] H4 H10
  ipureintro; exact hX'

/-! ## The value loop -/

/-- Before trip `n` of the value loop. -/
def inv3 (c : Dev nD) (i : grid0.Coords) (arg5 : Memref sig .tc .vmem S1x128x16384 .fp8e4m3) (arg10 : Memref sig .tc .vmem S4096x256 .f32)
    (arg11 : Memref sig .tc .vmem S128x256 .f32) (X4 : Vec F S1x16384x128 .fp8e4m3) (X5 : Vec F S1x128x16384 .fp8e4m3)
    (cv : FVec F S1x128 .f32) (q : FVec F S256x128 .fp8e4m3) (X10 : Vec F S4096x256 .f32) (n : Nat) (l : FVec F S8x256 .f32) : sProp 𝕄 :=
  iprop(⌜l = lAt i X4 cv q n⌝ ∗ owns (c : Thread nD τ) arg5 fullShare X5 ∗ owns (c : Thread nD τ) arg10 fullShare X10
    ∗ ∃ X11, ⌜X11 = accAt i X4 X5 cv q n⌝ ∗ owns (c : Thread nD τ) arg11 fullShare X11)

/-- The whole accumulator. -/
abbrev aRect : Rect S128x256 := Rect.unit (s := S128x256) ![0, 0] S128x256.size inb_S128x256_S128x256_0_0

theorem aRect_emb (j : S128x256.Idx) : aRect.emb j = j := by
  funext a; apply Fin.ext
  refine (ValueKit.rect_emb_unit_val _ _ _ _ _).trans ?_
  fin_cases a <;> exact Nat.zero_add _

theorem ld_aRect (X : Vec F S128x256 .f32) : ld X aRect = X := funext fun j => congrArg X (aRect_emb j)
theorem upd_aRect (X w : Vec F S128x256 .f32) : upd X aRect w = w := by
  funext j
  have := upd_emb X aRect w j
  rwa [aRect_emb] at this

theorem sound_trip3 (c : Dev nD) (i : grid0.Coords) (arg5 : Memref sig .tc .vmem S1x128x16384 .fp8e4m3) (arg10 : Memref sig .tc .vmem S4096x256 .f32)
    (arg11 : Memref sig .tc .vmem S128x256 .f32) (X4 : Vec F S1x16384x128 .fp8e4m3) (X5 : Vec F S1x128x16384 .fp8e4m3)
    (cv : FVec F S1x128 .f32) (q : FVec F S256x128 .fp8e4m3) (X10 : Vec F S4096x256 .f32) (hX : ScoresAt i X4 q X10 (nFull i))
    (k : Fin (k0_t3_loop i).trips) (l : FVec F S8x256 .f32) :
    inv3 c i arg5 arg10 arg11 X4 X5 cv q X10 k.val l
      ⊢ wp frame (wpE (defs₀ (F := F)) Variants.none c none) Set.univ (trip3 i arg5 arg10 arg11 (c2Vec cv) (mAll i X4 cv q) k l)
          (inv3 c i arg5 arg10 arg11 X4 X5 cv q X10 (k.val + 1)) := by
  unfold inv3 trip3
  have hs : ld X10 (Rect.unit (s := S4096x256) (k0_off9 i k) S256x256.size (k0_off9_inb i k)) = sBlk i X4 q k.val :=
    hX.2 k k.isLt
  have hp : pTile (c2Vec cv) (mAll i X4 cv q) (ld X10 (Rect.unit (s := S4096x256) (k0_off9 i k) S256x256.size (k0_off9_inb i k))) = pBlk i X4 cv q k.val := by
    rw [hs]; rfl
  have hv : ld X5 (Rect.unit (s := S1x128x16384) (k0_off10 i k) S1x128x256.size (k0_off10_inb i k)) = vBlk i X5 k.val := by
    unfold vBlk; rw [dif_pos (show k.val < nFull i from k.isLt)]
  iintro ⟨%hl, H5, H10, %X11, %h11, H11⟩
  iapply (wp_ld Variants.none (c : Thread nD τ) none Set.univ) $$ H10; iintro H10
  iapply (wp_ld Variants.none (c : Thread nD τ) none Set.univ) $$ H11; iintro H11
  iapply (wp_ld Variants.none (c : Thread nD τ) none Set.univ) $$ H5; iintro H5
  iapply (wp_ld Variants.none (c : Thread nD τ) none Set.univ) $$ H11; iintro H11
  iapply (wp_upd Variants.none (c : Thread nD τ) none Set.univ) $$ H11; iintro H11
  rw [wp_ret]; imodintro
  isplitr
  · ipureintro
    rw [hl, hp]; rfl
  isplitl [H5]; · iexact H5
  isplitl [H10]; · iexact H10
  iexists _; isplitr; swap; · iexact H11
  ipureintro
  rw [upd_aRect, ld_aRect, shapeCast_self, hp, hv, h11]; rfl

/-- The value loop: it accumulates every block's values and sums. -/
theorem sound_loop3 (c : Dev nD) (i : grid0.Coords) (arg5 : Memref sig .tc .vmem S1x128x16384 .fp8e4m3) (arg10 : Memref sig .tc .vmem S4096x256 .f32)
    (arg11 : Memref sig .tc .vmem S128x256 .f32) (X4 : Vec F S1x16384x128 .fp8e4m3) (X5 : Vec F S1x128x16384 .fp8e4m3)
    (cv : FVec F S1x128 .f32) (q : FVec F S256x128 .fp8e4m3) (X10 : Vec F S4096x256 .f32) (hX : ScoresAt i X4 q X10 (nFull i))
    {β : Type} {kk : FVec F S8x256 .f32 → Prog (TpuEff nD τ sig (Elt F) Λ₀ .tc) β} {K : β → sProp 𝕄} :
    iprop(owns (c : Thread nD τ) arg5 fullShare X5 ∗ owns (c : Thread nD τ) arg10 fullShare X10
        ∗ owns (c : Thread nD τ) arg11 fullShare (accAt i X4 X5 cv q 0))
      ⊢ iprop((owns (c : Thread nD τ) arg5 fullShare X5 -∗ owns (c : Thread nD τ) arg10 fullShare X10
            -∗ owns (c : Thread nD τ) arg11 fullShare (accAt i X4 X5 cv q (nFull i))
            -∗ wp frame (wpE (defs₀ (F := F)) Variants.none c none) Set.univ (kk (lAt i X4 cv q (nFull i))) K)
        -∗ wp frame (wpE (defs₀ (F := F)) Variants.none c none) Set.univ
            (Scf.for (k0_t3_loop i).lb (k0_t3_loop i).ub (k0_t3_loop i).st (k0_t3_ok i) (l0 i (pDiag i X4 cv q))
              (trip3 i arg5 arg10 arg11 (c2Vec cv) (mAll i X4 cv q)) >>= kk) K) := by
  iintro ⟨H5, H10, H11⟩ Hk
  iapply (Scf.wp_for_bind frame (wpE (defs₀ (F := F)) Variants.none c none) Set.univ _ _ _ (k0_t3_ok i) _ _
    (inv3 c i arg5 arg10 arg11 X4 X5 cv q X10) (sound_trip3 c i arg5 arg10 arg11 X4 X5 cv q X10 hX)) $$ [H5 H10 H11]
  · unfold inv3
    isplitr; · ipureintro; rfl
    isplitl [H5]; · iexact H5
    isplitl [H10]; · iexact H10
    iexists _; isplitr; swap; · iexact H11
    ipureintro; rfl
  iintro %l Hinv
  unfold inv3
  icases Hinv with ⟨%hl, H5, H10, %X', %hX', H11⟩
  have e : Scf.trips (k0_t3_loop i).lb (k0_t3_loop i).ub (k0_t3_loop i).st = nFull i := rfl
  rw [hl, hX', e]
  iapply Hk $$ H5 H10 H11

/-! ## The head -/

/-- The head's tile of the output block. -/
abbrev oRect (o : Nat) (h3 : ∀ a, (![0, 0, o] : Fin 3 → Nat) a + S1x256x128.size a ≤ S1x256x1024.size a) : Rect S1x256x1024 :=
  Rect.unit (s := S1x256x1024) ![0, 0, o] S1x256x128.size h3

/-- The output block after one head. -/
def headUpd (i : grid0.Coords) (X3 : Vec F S1x256x1024 .fp8e4m3) (X4 : Vec F S1x16384x128 .fp8e4m3) (X5 : Vec F S1x128x16384 .fp8e4m3)
    (X6 : Vec F S1x1024 .f32) (v13 v15 : Vec F S1x128 .f32) (o : Nat)
    (h6 : ∀ a, (![0, o] : Fin 2 → Nat) a + S1x128.size a ≤ S1x1024.size a)
    (h3 : ∀ a, (![0, 0, o] : Fin 3 → Nat) a + S1x256x128.size a ≤ S1x256x1024.size a) : FVec F S256x128 .bf16 :=
  headOut i X4 X5 (cVec v13 (ld X6 (Rect.unit (s := S1x1024) ![0, o] S1x128.size h6)))
    (qMat (cVec v13 (ld X6 (Rect.unit (s := S1x1024) ![0, o] S1x128.size h6))) (ld X3 (oRect o h3))) v15

theorem sound_head (c : Dev nD) (i : grid0.Coords) (arg3 : Memref sig .tc .vmem S1x256x1024 .fp8e4m3) (arg4 : Memref sig .tc .vmem S1x16384x128 .fp8e4m3)
    (arg5 : Memref sig .tc .vmem S1x128x16384 .fp8e4m3) (arg6 : Memref sig .tc .vmem S1x1024 .f32)
    (arg9 : Memref sig .tc .vmem S1x256x1024 .bf16) (harg9 : arg9.IsWhole)
    (arg10 : Memref sig .tc .vmem S4096x256 .f32) (arg11 : Memref sig .tc .vmem S128x256 .f32)
    (o : Nat) (h6 : ∀ a, (![0, o] : Fin 2 → Nat) a + S1x128.size a ≤ S1x1024.size a)
    (h3 : ∀ a, (![0, 0, o] : Fin 3 → Nat) a + S1x256x128.size a ≤ S1x256x1024.size a)
    (hp : (Rect.unit (s := S1x256x1024) ![0, 0, o] S1x256x128.size h3).PackedRows (EltTy.packing .bf16))
    (v13 v15 : Vec F S1x128 .f32)
    (X3 : Vec F S1x256x1024 .fp8e4m3) (X4 : Vec F S1x16384x128 .fp8e4m3) (X5 : Vec F S1x128x16384 .fp8e4m3) (X6 : Vec F S1x1024 .f32)
    (X9 : Vec F S1x256x1024 .bf16) (K : PUnit → sProp 𝕄) :
    iprop(owns (c : Thread nD τ) arg3 fullShare X3 ∗ owns (c : Thread nD τ) arg4 fullShare X4 ∗ owns (c : Thread nD τ) arg5 fullShare X5
        ∗ owns (c : Thread nD τ) arg6 fullShare X6 ∗ owns (c : Thread nD τ) arg9 fullShare X9
        ∗ (∃ d, owns (c : Thread nD τ) arg10 fullShare d) ∗ (∃ d, owns (c : Thread nD τ) arg11 fullShare d))
      ⊢ iprop((owns (c : Thread nD τ) arg3 fullShare X3 -∗ owns (c : Thread nD τ) arg4 fullShare X4 -∗ owns (c : Thread nD τ) arg5 fullShare X5
        -∗ owns (c : Thread nD τ) arg6 fullShare X6
        -∗ owns (c : Thread nD τ) arg9 fullShare (upd X9 (oRect o h3) (shapeCast S1x256x128 (headUpd i X3 X4 X5 X6 v13 v15 o h6 h3) shapeCasts_S256x128_S1x256x128))
        -∗ (∃ d, owns (c : Thread nD τ) arg10 fullShare d) -∗ (∃ d, owns (c : Thread nD τ) arg11 fullShare d) -∗ K ⟨⟩)
      -∗ wp frame (wpE (defs₀ (F := F)) Variants.none c none) Set.univ
          (headProg i arg3 arg4 arg5 arg6 arg9 harg9 arg10 arg11 o h6 h3 hp v13 v15) K) := by
  rw [headProg_eq]
  unfold headUpd headOut
  iintro ⟨H3, H4, H5, H6, H9, ⟨%X10, H10⟩, ⟨%X11, H11⟩⟩ Hk
  iapply (wp_ld Variants.none (c : Thread nD τ) none Set.univ) $$ H6; iintro H6
  iapply (wp_ld Variants.none (c : Thread nD τ) none Set.univ) $$ H3; iintro H3
  unfold coreProg
  iapply (wp_ld Variants.none (c : Thread nD τ) none Set.univ) $$ H4; iintro H4
  iapply (wp_ld Variants.none (c : Thread nD τ) none Set.univ) $$ H4; iintro H4
  iapply (wp_ld Variants.none (c : Thread nD τ) none Set.univ) $$ H10; iintro H10
  iapply (wp_upd Variants.none (c : Thread nD τ) none Set.univ) $$ H10; iintro H10
  iapply (sound_loop1 c i arg4 arg10 X4 (qMat (cVec v13 (ld X6 (Rect.unit (s := S1x1024) ![0, o] S1x128.size h6))) (ld X3 (oRect o h3)))
    (upd X10 sRect0 (shapeCast S256x256 (sDiag i X4 (qMat (cVec v13 (ld X6 (Rect.unit (s := S1x1024) ![0, o] S1x128.size h6))) (ld X3 (oRect o h3)))) shapeCasts_S256x256_S256x256))
    (by rw [ld_upd_self, shapeCast_self])) $$ [H4 H10]
  · isplitl [H4]
    · iexact H4
    · iexact H10
  iintro %X10' %hX H4 H10
  unfold midProg
  iapply (wp_ld Variants.none (c : Thread nD τ) none Set.univ) $$ H10; iintro H10
  iapply (wp_ld Variants.none (c : Thread nD τ) none Set.univ) $$ H5; iintro H5
  iapply (wp_ld Variants.none (c : Thread nD τ) none Set.univ) $$ H5; iintro H5
  iapply (wp_ld Variants.none (c : Thread nD τ) none Set.univ) $$ H11; iintro H11
  iapply (wp_upd Variants.none (c : Thread nD τ) none Set.univ) $$ H11; iintro H11
  have h0 : ld X10' sRect0 = _ := hX.1
  rw [upd_aRect, shapeCast_self, h0]
  iapply (sound_loop3 c i arg5 arg10 arg11 X4 X5 (cVec v13 (ld X6 (Rect.unit (s := S1x1024) ![0, o] S1x128.size h6)))
    (qMat (cVec v13 (ld X6 (Rect.unit (s := S1x1024) ![0, o] S1x128.size h6))) (ld X3 (oRect o h3))) X10' hX) $$ [H5 H10 H11]
  · isplitl [H5]; · iexact H5
    isplitl [H10]; · iexact H10
    iexact H11
  iintro H5 H10 H11
  unfold tailProg
  iapply (wp_ld Variants.none (c : Thread nD τ) none Set.univ) $$ H11; iintro H11
  iapply (wp_ld Variants.none (c : Thread nD τ) none Set.univ) $$ H9; iintro H9
  iapply (wp_upd Variants.none (c : Thread nD τ) none Set.univ) $$ H9; iintro H9
  rw [wp_ret]; imodintro
  rw [ld_aRect]
  iapply Hk $$ H3 H4 H5 H6 H9 [H10] [H11]
  · iexists _; iexact H10
  · iexists _; iexact H11

end Cert.Kernel.Body

end
-- ==== Proof.Kernel.BodyEq.lean ====
/-
  The printed kernel function is two scale loads followed by eight heads.
-/
module

public import proofs.«01_k».proof.Proof.Kernel.Body

@[expose] public section

noncomputable section

namespace Cert.Kernel.Body

open Idealize.ShloMosaic Idealize.SL.Sem Cert.Kernel Cert.Kernel.Gen

variable {F : FTy → Type} [FloatOps F]

set_option maxRecDepth 65536 in
set_option maxHeartbeats 4000000 in
/-- The printed kernel function is the two scale loads and the eight heads. -/
theorem kernel_eq_heads (i : grid0.Coords) (arg3 : Memref sig .tc .vmem S1x256x1024 .fp8e4m3) (harg3 : arg3.IsWhole) (arg4 : Memref sig .tc .vmem S1x16384x128 .fp8e4m3) (harg4 : arg4.IsWhole)
    (arg5 : Memref sig .tc .vmem S1x128x16384 .fp8e4m3) (harg5 : arg5.IsWhole) (arg6 : Memref sig .tc .vmem S1x1024 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x256x1024 .bf16) (harg9 : arg9.IsWhole)
    (arg10 : Memref sig .tc .vmem S4096x256 .f32) (harg10 : arg10.IsWhole) (arg11 : Memref sig .tc .vmem S128x256 .f32) (harg11 : arg11.IsWhole) :
    cc0__attn_kernel (F := F) i arg3 harg3 arg4 harg4 arg5 harg5 arg6 harg6 arg7 harg7 arg8 harg8 arg9 harg9 arg10 harg10 arg11 harg11 =
      headsProg i arg3 arg4 arg5 arg6 arg7 arg8 arg9 harg9 arg10 arg11 := by
  rw [cc0__attn_kernel_eq_skeleton]
  simp only [cc0__attn_kernel_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_t1_body, k0_t2_body, k0_t3_body, k0_t4_body, k0_t5_body, k0_t6_body, k0_t7_body, k0_t8_body, k0_t9_body, k0_t10_body, k0_t11_body, k0_t12_body, k0_t13_body, k0_t14_body, k0_t15_body, k0_t16_body, k0_t17_body, k0_t18_body, k0_t19_body, k0_t20_body, k0_t21_body, k0_t22_body, k0_t23_body, k0_t24_body, k0_t25_body, k0_t26_body, k0_t27_body, k0_t28_body, k0_t29_body, k0_t30_body, k0_t31_body, k0_t32_body, headsProg, headProg, bind_assoc, pure_bind]
  rfl

end Cert.Kernel.Body

end
-- ==== Proof.Kernel.Run.lean ====
/-
  The kernel's body at every grid point, and the run of the whole program: the eight heads leave the block `outBlk` of the
  blocks they read; the launch terminates with every semaphore at zero, the arguments unchanged (`frame`) and the result
  array built from the blocks `outBlk` (`run_main`).
-/
module

public import proofs.«01_k».proof.Proof.Kernel.Head
public import proofs.«01_k».proof.Proof.Kernel.BodyEq
public import Idealize.ShloMosaic.Lib.ValueIdxCore
public import Idealize.ShloMosaic.Lib.Claim

@[expose] public section

noncomputable section

namespace Cert.Kernel.Body

open Cert.Kernel Cert.Kernel.Gen Cert.Owned
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix3)
open Idealize.ShloMosaic.Pipeline (Dat BodyObligation)

variable {F : FTy → Type} [FloatOps F]

local notation "𝕄" => MT nD τ sig Unit (Elt F) ℕ (UR sig nD τ) ℕ

/-! ## The eight heads -/

theorem lanes6 (g : Fin 8) : ∀ a, (![0, 128 * g.val] : Fin 2 → Nat) a + S1x128.size a ≤ S1x1024.size a := by
  have := g.isLt
  intro a; fin_cases a
  · show 0 + 1 ≤ 1; omega
  · show 128 * g.val + 128 ≤ 1024; omega
theorem lanes3 (g : Fin 8) : ∀ a, (![0, 0, 128 * g.val] : Fin 3 → Nat) a + S1x256x128.size a ≤ S1x256x1024.size a := by
  have := g.isLt
  intro a; fin_cases a
  · show 0 + 1 ≤ 1; omega
  · show 0 + 256 ≤ 256; omega
  · show 128 * g.val + 128 ≤ 1024; omega

section Out
variable (i : grid0.Coords) (X3 : Vec F S1x256x1024 .fp8e4m3) (X4 : Vec F S1x16384x128 .fp8e4m3) (X5 : Vec F S1x128x16384 .fp8e4m3)
  (X6 : Vec F S1x1024 .f32) (X7 X8 : Vec F S1x128 .f32)

/-- Head `g`'s output tile at a grid point, from the blocks the point reads. -/
def headTile (g : Fin 8) : FVec F S256x128 .bf16 :=
  headUpd i X3 X4 X5 X6 (ld X7 (Rect.unit (s := S1x128) ![0, 0] S1x128.size inb_S1x128_S1x128_0_0))
    (ld X8 (Rect.unit (s := S1x128) ![0, 0] S1x128.size inb_S1x128_S1x128_0_0)) (128 * g.val) (lanes6 g) (lanes3 g)

/-- The point's output block: lane `128 * g + d` is lane `d` of head `g`'s tile. -/
def outBlk : Vec F S1x256x1024 .bf16 := fun y =>
  shapeCast S1x256x128 (headTile i X3 X4 X5 X6 X7 X8 ⟨(y 2).val / 128, by have h : (y 2).val < 1024 := (y 2).isLt; omega⟩) shapeCasts_S256x128_S1x256x128
    (ix3 (n0 := 1) (n1 := 256) (n2 := 128) 0 (y 1) ⟨(y 2).val % 128, Nat.mod_lt _ (by omega)⟩)

/-- The first `n` heads' tiles are in the block. -/
def TilesAt (X : Vec F S1x256x1024 .bf16) (n : Nat) : Prop :=
  ∀ g : Fin 8, g.val < n → ld X (oRect (128 * g.val) (lanes3 g)) = shapeCast S1x256x128 (headTile i X3 X4 X5 X6 X7 X8 g) shapeCasts_S256x128_S1x256x128

theorem oRect_lane (o : Nat) (h3) (j : S1x256x128.Idx) : ((oRect o h3).emb j 2).val = o + (j 2).val :=
  ValueKit.rect_emb_unit_val (s := S1x256x1024) ![0, 0, o] S1x256x128.size h3 j 2
theorem oRect_row (o : Nat) (h3) (j : S1x256x128.Idx) : ((oRect o h3).emb j 1).val = (j 1).val :=
  (ValueKit.rect_emb_unit_val (s := S1x256x1024) ![0, 0, o] S1x256x128.size h3 j 1).trans (Nat.zero_add _)

variable {i X3 X4 X5 X6 X7 X8} in
theorem TilesAt.step {X : Vec F S1x256x1024 .bf16} (g : Fin 8) (h : TilesAt i X3 X4 X5 X6 X7 X8 X g.val) :
    TilesAt i X3 X4 X5 X6 X7 X8 (upd X (oRect (128 * g.val) (lanes3 g)) (shapeCast S1x256x128 (headTile i X3 X4 X5 X6 X7 X8 g) shapeCasts_S256x128_S1x256x128)) (g.val + 1) := by
  intro g' hg'
  by_cases e : g' = g
  · subst e; exact ld_upd_self _ _ _
  · have hlt : g'.val < g.val := by
      have : g'.val ≠ g.val := fun h => e (Fin.ext h)
      omega
    rw [← h g' hlt]
    refine ld_upd_of_disjoint _ _ _ _ fun j j' e => ?_
    have e0 := congrArg (fun x : S1x256x1024.Idx => (x 2).val) e
    simp only [oRect_lane] at e0
    have : (j 2).val < 128 := (j 2).isLt
    omega

variable {i X3 X4 X5 X6 X7 X8} in
theorem TilesAt.eq {X : Vec F S1x256x1024 .bf16} (h : TilesAt i X3 X4 X5 X6 X7 X8 X 8) : X = outBlk i X3 X4 X5 X6 X7 X8 := by
  funext y
  have h2 : (y 2).val < 1024 := (y 2).isLt
  unfold outBlk
  rw [← h ⟨(y 2).val / 128, by omega⟩ (by show (y 2).val / 128 < 8; omega)]
  unfold ld
  congr 1
  funext a; apply Fin.ext
  match a with
  | ⟨0, _⟩ =>
    have h0 : (y 0).val < 1 := (y 0).isLt
    refine Eq.trans (b := 0) (by show (y 0).val = 0; omega) ?_
    exact (Nat.lt_one_iff.mp ((oRect (128 * ((y 2).val / 128)) _).emb _ 0).isLt).symm
  | ⟨1, _⟩ =>
    refine Eq.trans (b := (ix3 (n0 := 1) (n1 := 256) (n2 := 128) 0 (y 1) ⟨(y 2).val % 128, Nat.mod_lt _ (by omega)⟩ 1).val) rfl ?_
    exact (oRect_row (128 * ((y 2).val / 128)) (lanes3 ⟨(y 2).val / 128, by omega⟩) (ix3 (n0 := 1) (n1 := 256) (n2 := 128) 0 (y 1) ⟨(y 2).val % 128, Nat.mod_lt _ (by omega)⟩)).symm
  | ⟨2, _⟩ =>
    refine Eq.trans ?_ (oRect_lane _ _ _).symm
    show (y 2).val = 128 * ((y 2).val / 128) + (y 2).val % 128
    omega

end Out

/-- What the heads are run in: the blocks, the output block with the first `n` tiles done, the scratch at anything. -/
def mid (c : Dev nD) (i : grid0.Coords) (arg3 : Memref sig .tc .vmem S1x256x1024 .fp8e4m3) (arg4 : Memref sig .tc .vmem S1x16384x128 .fp8e4m3)
    (arg5 : Memref sig .tc .vmem S1x128x16384 .fp8e4m3) (arg6 : Memref sig .tc .vmem S1x1024 .f32)
    (arg9 : Memref sig .tc .vmem S1x256x1024 .bf16)
    (arg10 : Memref sig .tc .vmem S4096x256 .f32) (arg11 : Memref sig .tc .vmem S128x256 .f32)
    (X3 : Vec F S1x256x1024 .fp8e4m3) (X4 : Vec F S1x16384x128 .fp8e4m3) (X5 : Vec F S1x128x16384 .fp8e4m3)
    (X6 : Vec F S1x1024 .f32) (X7 X8 : Vec F S1x128 .f32) (n : Nat) : sProp 𝕄 :=
  iprop(owns (c : Thread nD τ) arg3 fullShare X3 ∗ owns (c : Thread nD τ) arg4 fullShare X4 ∗ owns (c : Thread nD τ) arg5 fullShare X5
    ∗ owns (c : Thread nD τ) arg6 fullShare X6
    ∗ (∃ X9, ⌜TilesAt i X3 X4 X5 X6 X7 X8 X9 n⌝ ∗ owns (c : Thread nD τ) arg9 fullShare X9)
    ∗ (∃ d, owns (c : Thread nD τ) arg10 fullShare d) ∗ (∃ d, owns (c : Thread nD τ) arg11 fullShare d))

/-- Head `g` does tile `g`. -/
theorem sound_step (c : Dev nD) (i : grid0.Coords) (arg3 : Memref sig .tc .vmem S1x256x1024 .fp8e4m3) (arg4 : Memref sig .tc .vmem S1x16384x128 .fp8e4m3)
    (arg5 : Memref sig .tc .vmem S1x128x16384 .fp8e4m3) (arg6 : Memref sig .tc .vmem S1x1024 .f32)
    (arg9 : Memref sig .tc .vmem S1x256x1024 .bf16) (harg9 : arg9.IsWhole)
    (arg10 : Memref sig .tc .vmem S4096x256 .f32) (arg11 : Memref sig .tc .vmem S128x256 .f32)
    (X3 : Vec F S1x256x1024 .fp8e4m3) (X4 : Vec F S1x16384x128 .fp8e4m3) (X5 : Vec F S1x128x16384 .fp8e4m3)
    (X6 : Vec F S1x1024 .f32) (X7 X8 : Vec F S1x128 .f32) (g : Fin 8) (n n' o : Nat) (hn : n = g.val) (hn' : n' = g.val + 1) (ho : o = 128 * g.val)
    (h6 : ∀ a, (![0, o] : Fin 2 → Nat) a + S1x128.size a ≤ S1x1024.size a) (h3 : ∀ a, (![0, 0, o] : Fin 3 → Nat) a + S1x256x128.size a ≤ S1x256x1024.size a)
    (hp : (Rect.unit (s := S1x256x1024) ![0, 0, o] S1x256x128.size h3).PackedRows (EltTy.packing .bf16)) (K : PUnit → sProp 𝕄) :
    mid c i arg3 arg4 arg5 arg6 arg9 arg10 arg11 X3 X4 X5 X6 X7 X8 n
      ⊢ iprop((mid c i arg3 arg4 arg5 arg6 arg9 arg10 arg11 X3 X4 X5 X6 X7 X8 n' -∗ K ⟨⟩)
        -∗ wp frame (wpE (defs₀ (F := F)) Variants.none c none) Set.univ
            (headProg i arg3 arg4 arg5 arg6 arg9 harg9 arg10 arg11 o h6 h3 hp
              (ld X7 (Rect.unit (s := S1x128) ![0, 0] S1x128.size inb_S1x128_S1x128_0_0))
              (ld X8 (Rect.unit (s := S1x128) ![0, 0] S1x128.size inb_S1x128_S1x128_0_0))) K) := by
  subst hn hn' ho
  unfold mid
  iintro ⟨H3, H4, H5, H6, ⟨%X9, %hX, H9⟩, H10, H11⟩ Hk
  iapply (sound_head c i arg3 arg4 arg5 arg6 arg9 harg9 arg10 arg11 (128 * g.val) (lanes6 g) (lanes3 g) hp _ _ X3 X4 X5 X6 X9 K) $$ [H3 H4 H5 H6 H9 H10 H11]
  · isplitl [H3]; · iexact H3
    isplitl [H4]; · iexact H4
    isplitl [H5]; · iexact H5
    isplitl [H6]; · iexact H6
    isplitl [H9]; · iexact H9
    isplitl [H10]; · iexact H10
    iexact H11
  iintro H3 H4 H5 H6 H9 H10 H11
  iapply Hk
  isplitl [H3]; · iexact H3
  isplitl [H4]; · iexact H4
  isplitl [H5]; · iexact H5
  isplitl [H6]; · iexact H6
  isplitl [H9]
  · iexists _; isplitr; swap; · iexact H9
    ipureintro
    exact TilesAt.step g hX
  isplitl [H10]; · iexact H10
  iexact H11

/-- The body's triple: from its blocks, the output's memref and the two scratch arrays, the kernel function leaves `outBlk`. -/
theorem sound_kernel (c : Dev nD) (i : grid0.Coords) (arg3 : Memref sig .tc .vmem S1x256x1024 .fp8e4m3) (harg3 : arg3.IsWhole)
    (arg4 : Memref sig .tc .vmem S1x16384x128 .fp8e4m3) (harg4 : arg4.IsWhole)
    (arg5 : Memref sig .tc .vmem S1x128x16384 .fp8e4m3) (harg5 : arg5.IsWhole) (arg6 : Memref sig .tc .vmem S1x1024 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x256x1024 .bf16) (harg9 : arg9.IsWhole)
    (arg10 : Memref sig .tc .vmem S4096x256 .f32) (harg10 : arg10.IsWhole) (arg11 : Memref sig .tc .vmem S128x256 .f32) (harg11 : arg11.IsWhole)
    (X3 : Vec F S1x256x1024 .fp8e4m3) (X4 : Vec F S1x16384x128 .fp8e4m3) (X5 : Vec F S1x128x16384 .fp8e4m3)
    (X6 : Vec F S1x1024 .f32) (X7 X8 : Vec F S1x128 .f32) (K : PUnit → sProp 𝕄) :
    iprop(owns (c : Thread nD τ) arg3 fullShare X3 ∗ owns (c : Thread nD τ) arg4 fullShare X4 ∗ owns (c : Thread nD τ) arg5 fullShare X5
        ∗ owns (c : Thread nD τ) arg6 fullShare X6 ∗ owns (c : Thread nD τ) arg7 fullShare X7 ∗ owns (c : Thread nD τ) arg8 fullShare X8
        ∗ (∃ d, owns (c : Thread nD τ) arg9 fullShare d)
        ∗ (∃ d, owns (c : Thread nD τ) arg10 fullShare d) ∗ (∃ d, owns (c : Thread nD τ) arg11 fullShare d)
        ∗ (owns (c : Thread nD τ) arg3 fullShare X3 -∗ owns (c : Thread nD τ) arg4 fullShare X4 -∗ owns (c : Thread nD τ) arg5 fullShare X5
          -∗ owns (c : Thread nD τ) arg6 fullShare X6 -∗ owns (c : Thread nD τ) arg7 fullShare X7 -∗ owns (c : Thread nD τ) arg8 fullShare X8
          -∗ owns (c : Thread nD τ) arg9 fullShare (outBlk i X3 X4 X5 X6 X7 X8)
          -∗ (∃ d, owns (c : Thread nD τ) arg10 fullShare d) -∗ (∃ d, owns (c : Thread nD τ) arg11 fullShare d) -∗ K ⟨⟩))
      ⊢ wp frame (wpE (defs₀ (F := F)) Variants.none c none) Set.univ
          (cc0__attn_kernel i arg3 harg3 arg4 harg4 arg5 harg5 arg6 harg6 arg7 harg7 arg8 harg8 arg9 harg9 arg10 harg10 arg11 harg11) K := by
  rw [kernel_eq_heads]
  unfold headsProg
  simp only [Prog.lift, Prog.bind_op, Prog.bind_ret]
  iintro ⟨H3, H4, H5, H6, H7, H8, ⟨%X9, H9⟩, H10, H11, Hk⟩
  iapply (wp_ld Variants.none (c : Thread nD τ) none Set.univ) $$ H7; iintro H7
  iapply (wp_ld Variants.none (c : Thread nD τ) none Set.univ) $$ H8; iintro H8
  ihave Hm : mid c i arg3 arg4 arg5 arg6 arg9 arg10 arg11 X3 X4 X5 X6 X7 X8 0 $$ [H3 H4 H5 H6 H9 H10 H11]
  · unfold mid
    isplitl [H3]; · iexact H3
    isplitl [H4]; · iexact H4
    isplitl [H5]; · iexact H5
    isplitl [H6]; · iexact H6
    isplitl [H9]
    · iexists X9; isplitr; swap; · iexact H9
      ipureintro; exact fun g hg => absurd hg (Nat.not_lt_zero _)
    isplitl [H10]; · iexact H10
    iexact H11
  rw [wp_bind]
  iapply (sound_step c i arg3 arg4 arg5 arg6 arg9 harg9 arg10 arg11 X3 X4 X5 X6 X7 X8 0 0 1 0 rfl rfl rfl inb_S1x1024_S1x128_0_0 inb_S1x256x1024_S1x256x128_0_0_0 packedbf16_S1x256x1024_S1x256x128_0_0_0 _) $$ Hm; iintro Hm
  rw [wp_bind]
  iapply (sound_step c i arg3 arg4 arg5 arg6 arg9 harg9 arg10 arg11 X3 X4 X5 X6 X7 X8 1 1 2 128 rfl rfl rfl inb_S1x1024_S1x128_0_128 inb_S1x256x1024_S1x256x128_0_0_128 packedbf16_S1x256x1024_S1x256x128_0_0_128 _) $$ Hm; iintro Hm
  rw [wp_bind]
  iapply (sound_step c i arg3 arg4 arg5 arg6 arg9 harg9 arg10 arg11 X3 X4 X5 X6 X7 X8 2 2 3 256 rfl rfl rfl inb_S1x1024_S1x128_0_256 inb_S1x256x1024_S1x256x128_0_0_256 packedbf16_S1x256x1024_S1x256x128_0_0_256 _) $$ Hm; iintro Hm
  rw [wp_bind]
  iapply (sound_step c i arg3 arg4 arg5 arg6 arg9 harg9 arg10 arg11 X3 X4 X5 X6 X7 X8 3 3 4 384 rfl rfl rfl inb_S1x1024_S1x128_0_384 inb_S1x256x1024_S1x256x128_0_0_384 packedbf16_S1x256x1024_S1x256x128_0_0_384 _) $$ Hm; iintro Hm
  rw [wp_bind]
  iapply (sound_step c i arg3 arg4 arg5 arg6 arg9 harg9 arg10 arg11 X3 X4 X5 X6 X7 X8 4 4 5 512 rfl rfl rfl inb_S1x1024_S1x128_0_512 inb_S1x256x1024_S1x256x128_0_0_512 packedbf16_S1x256x1024_S1x256x128_0_0_512 _) $$ Hm; iintro Hm
  rw [wp_bind]
  iapply (sound_step c i arg3 arg4 arg5 arg6 arg9 harg9 arg10 arg11 X3 X4 X5 X6 X7 X8 5 5 6 640 rfl rfl rfl inb_S1x1024_S1x128_0_640 inb_S1x256x1024_S1x256x128_0_0_640 packedbf16_S1x256x1024_S1x256x128_0_0_640 _) $$ Hm; iintro Hm
  rw [wp_bind]
  iapply (sound_step c i arg3 arg4 arg5 arg6 arg9 harg9 arg10 arg11 X3 X4 X5 X6 X7 X8 6 6 7 768 rfl rfl rfl inb_S1x1024_S1x128_0_768 inb_S1x256x1024_S1x256x128_0_0_768 packedbf16_S1x256x1024_S1x256x128_0_0_768 _) $$ Hm; iintro Hm
  iapply (sound_step c i arg3 arg4 arg5 arg6 arg9 harg9 arg10 arg11 X3 X4 X5 X6 X7 X8 7 7 8 896 rfl rfl rfl inb_S1x1024_S1x128_0_896 inb_S1x256x1024_S1x256x128_0_0_896 packedbf16_S1x256x1024_S1x256x128_0_0_896 _) $$ Hm; iintro Hm
  unfold mid
  icases Hm with ⟨H3, H4, H5, H6, ⟨%Y, %hY, H9⟩, H10, H11⟩
  have e := TilesAt.eq (i := i) (X3 := X3) (X4 := X4) (X5 := X5) (X6 := X6) (X7 := X7) (X8 := X8) hY
  rw [e]
  iapply Hk $$ H3 H4 H5 H6 H7 H8 H9 H10 H11

/-! ## The proof data and the body obligation -/

variable (m : (ℓ : Loc nD τ sig) → Buf (Elt F) ℓ) (ρ : Dev nD → PrngReg)

/-- The output block of point `t`: `outBlk` of the point's input blocks. -/
def blkAt (c : Dev nD) (t : Fin cfg0.N) : Vec F S1x256x1024 .bf16 :=
  outBlk (grid0.coords t) (iblk m c 0 t) (iblk m c 1 t) (iblk m c 2 t) (iblk m c 3 t) (iblk m c 4 t) (iblk m c 5 t)

/-- What each window's memref holds after point `t`: an input its block, the output `blkAt`. -/
def afterW (c : Dev nD) (w : Fin cfg0.W) (t : Fin cfg0.N) : ((cfg0.win w).block).Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => blkAt m c t

/-- The proof data on core `c`: the arrays as the region finds them, the blocks `afterW`, the scratch at anything. -/
def dats (_ : Fin 1) (c : Dev nD) : Dat τ (Elt F) Unit ℕ (UR sig nD τ) ℕ cfg0 c where
  A w := V m c (Pipeline.arrRef spec0 w)
  after w t := afterW m c w t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]; rfl
theorem after0_1 (c : Dev nD) (t : Fin cfg0.N) : (dats m 0 c).after 1 t = iblk m c 1 t := by dsimp only [dats]; rfl
theorem after0_2 (c : Dev nD) (t : Fin cfg0.N) : (dats m 0 c).after 2 t = iblk m c 2 t := by dsimp only [dats]; rfl
theorem after0_3 (c : Dev nD) (t : Fin cfg0.N) : (dats m 0 c).after 3 t = iblk m c 3 t := by dsimp only [dats]; rfl
theorem after0_4 (c : Dev nD) (t : Fin cfg0.N) : (dats m 0 c).after 4 t = iblk m c 4 t := by dsimp only [dats]; rfl
theorem after0_5 (c : Dev nD) (t : Fin cfg0.N) : (dats m 0 c).after 5 t = iblk m c 5 t := by dsimp only [dats]; rfl
theorem after0_6 (c : Dev nD) (t : Fin cfg0.N) : (dats m 0 c).after 6 t = blkAt m c t := by dsimp only [dats]; rfl

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

/-- The invariant between points: the two scratch arrays at some contents, and what else the region holds. -/
theorem Phi_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d))
          ∗ (∃ r, prngReg c r)) := by
  unfold Pipeline.ΦA
  rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, Phi_eq]
  unfold blkAt
  iintro ⟨⟨⟨HS, HA⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  isplitl [HA]; · iexact HA
  iintro H0 H1 H2 H3 H4 H5 H6 HS HA
  isplitl [HS HA Hr]
  · isplitl [HS HA]
    · isplitl [HS]; · iexact HS
      iexact HA
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- Every weakly fair execution terminates; at the end the arrays are what the pipeline computes from the proof data, and
    every semaphore counter is zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.1) (run_main m ρ))

/-- THE FRAME: the program terminates, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main m ρ))

end Cert.Kernel.Body

end
-- ==== Proof.KernelIdeal.Body.lean ====
/-
  The kernel's body in its own vocabulary: one attention head as a program (`headProg`), and the printed
  kernel function as a prefix (two scale loads) followed by the eight heads (`kernel_eq_heads`).
-/
module

public import proofs.«01_k».proof.Proof.Gen.KernelIdeal.Skeleton

@[expose] public section

noncomputable section

namespace Cert.KernelIdeal.Body

open Idealize.ShloMosaic Idealize.SL.Sem Cert.KernelIdeal Cert.KernelIdeal.Gen

variable {F : FTy → Type} [FloatOps F] [Named F]

/-! ## The values one head computes -/

/-- Folding the maximum of a 256-row tile into eight running rows: row `r` of the tile goes to row `r mod 8`. -/
def foldMax (acc : FVec F S8x256 .f32) (t : FVec F S256x256 .f32) : FVec F S8x256 .f32 :=
  have s0 : FVec F S8x256 .f32 := extractStridedSlice S8x256 ![0, 0] t slices_S256x256_o0_0_S8x256
  have a0 : FVec F S8x256 .f32 := maximumf acc s0
  have s1 : FVec F S8x256 .f32 := extractStridedSlice S8x256 ![8, 0] t slices_S256x256_o8_0_S8x256
  have a1 : FVec F S8x256 .f32 := maximumf a0 s1
  have s2 : FVec F S8x256 .f32 := extractStridedSlice S8x256 ![16, 0] t slices_S256x256_o16_0_S8x256
  have a2 : FVec F S8x256 .f32 := maximumf a1 s2
  have s3 : FVec F S8x256 .f32 := extractStridedSlice S8x256 ![24, 0] t slices_S256x256_o24_0_S8x256
  have a3 : FVec F S8x256 .f32 := maximumf a2 s3
  have s4 : FVec F S8x256 .f32 := extractStridedSlice S8x256 ![32, 0] t slices_S256x256_o32_0_S8x256
  have a4 : FVec F S8x256 .f32 := maximumf a3 s4
  have s5 : FVec F S8x256 .f32 := extractStridedSlice S8x256 ![40, 0] t slices_S256x256_o40_0_S8x256
  have a5 : FVec F S8x256 .f32 := maximumf a4 s5
  have s6 : FVec F S8x256 .f32 := extractStridedSlice S8x256 ![48, 0] t slices_S256x256_o48_0_S8x256
  have a6 : FVec F S8x256 .f32 := maximumf a5 s6
  have s7 : FVec F S8x256 .f32 := extractStridedSlice S8x256 ![56, 0] t slices_S256x256_o56_0_S8x256
  have a7 : FVec F S8x256 .f32 := maximumf a6 s7
  have s8 : FVec F S8x256 .f32 := extractStridedSlice S8x256 ![64, 0] t slices_S256x256_o64_0_S8x256
  have a8 : FVec F S8x256 .f32 := maximumf a7 s8
  have s9 : FVec F S8x256 .f32 := extractStridedSlice S8x256 ![72, 0] t slices_S256x256_o72_0_S8x256
  have a9 : FVec F S8x256 .f32 := maximumf a8 s9
  have s10 : FVec F S8x256 .f32 := extractStridedSlice S8x256 ![80, 0] t slices_S256x256_o80_0_S8x256
  have a10 : FVec F S8x256 .f32 := maximumf a9 s10
  have s11 : FVec F S8x256 .f32 := extractStridedSlice S8x256 ![88, 0] t slices_S256x256_o88_0_S8x256
  have a11 : FVec F S8x256 .f32 := maximumf a10 s11
  have s12 : FVec F S8x256 .f32 := extractStridedSlice S8x256 ![96, 0] t slices_S256x256_o96_0_S8x256
  have a12 : FVec F S8x256 .f32 := maximumf a11 s12
  have s13 : FVec F S8x256 .f32 := extractStridedSlice S8x256 ![104, 0] t slices_S256x256_o104_0_S8x256
  have a13 : FVec F S8x256 .f32 := maximumf a12 s13
  have s14 : FVec F S8x256 .f32 := extractStridedSlice S8x256 ![112, 0] t slices_S256x256_o112_0_S8x256
  have a14 : FVec F S8x256 .f32 := maximumf a13 s14
  have s15 : FVec F S8x256 .f32 := extractStridedSlice S8x256 ![120, 0] t slices_S256x256_o120_0_S8x256
  have a15 : FVec F S8x256 .f32 := maximumf a14 s15
  have s16 : FVec F S8x256 .f32 := extractStridedSlice S8x256 ![128, 0] t slices_S256x256_o128_0_S8x256
  have a16 : FVec F S8x256 .f32 := maximumf a15 s16
  have s17 : FVec F S8x256 .f32 := extractStridedSlice S8x256 ![136, 0] t slices_S256x256_o136_0_S8x256
  have a17 : FVec F S8x256 .f32 := maximumf a16 s17
  have s18 : FVec F S8x256 .f32 := extractStridedSlice S8x256 ![144, 0] t slices_S256x256_o144_0_S8x256
  have a18 : FVec F S8x256 .f32 := maximumf a17 s18
  have s19 : FVec F S8x256 .f32 := extractStridedSlice S8x256 ![152, 0] t slices_S256x256_o152_0_S8x256
  have a19 : FVec F S8x256 .f32 := maximumf a18 s19
  have s20 : FVec F S8x256 .f32 := extractStridedSlice S8x256 ![160, 0] t slices_S256x256_o160_0_S8x256
  have a20 : FVec F S8x256 .f32 := maximumf a19 s20
  have s21 : FVec F S8x256 .f32 := extractStridedSlice S8x256 ![168, 0] t slices_S256x256_o168_0_S8x256
  have a21 : FVec F S8x256 .f32 := maximumf a20 s21
  have s22 : FVec F S8x256 .f32 := extractStridedSlice S8x256 ![176, 0] t slices_S256x256_o176_0_S8x256
  have a22 : FVec F S8x256 .f32 := maximumf a21 s22
  have s23 : FVec F S8x256 .f32 := extractStridedSlice S8x256 ![184, 0] t slices_S256x256_o184_0_S8x256
  have a23 : FVec F S8x256 .f32 := maximumf a22 s23
  have s24 : FVec F S8x256 .f32 := extractStridedSlice S8x256 ![192, 0] t slices_S256x256_o192_0_S8x256
  have a24 : FVec F S8x256 .f32 := maximumf a23 s24
  have s25 : FVec F S8x256 .f32 := extractStridedSlice S8x256 ![200, 0] t slices_S256x256_o200_0_S8x256
  have a25 : FVec F S8x256 .f32 := maximumf a24 s25
  have s26 : FVec F S8x256 .f32 := extractStridedSlice S8x256 ![208, 0] t slices_S256x256_o208_0_S8x256
  have a26 : FVec F S8x256 .f32 := maximumf a25 s26
  have s27 : FVec F S8x256 .f32 := extractStridedSlice S8x256 ![216, 0] t slices_S256x256_o216_0_S8x256
  have a27 : FVec F S8x256 .f32 := maximumf a26 s27
  have s28 : FVec F S8x256 .f32 := extractStridedSlice S8x256 ![224, 0] t slices_S256x256_o224_0_S8x256
  have a28 : FVec F S8x256 .f32 := maximumf a27 s28
  have s29 : FVec F S8x256 .f32 := extractStridedSlice S8x256 ![232, 0] t slices_S256x256_o232_0_S8x256
  have a29 : FVec F S8x256 .f32 := maximumf a28 s29
  have s30 : FVec F S8x256 .f32 := extractStridedSlice S8x256 ![240, 0] t slices_S256x256_o240_0_S8x256
  have a30 : FVec F S8x256 .f32 := maximumf a29 s30
  have s31 : FVec F S8x256 .f32 := extractStridedSlice S8x256 ![248, 0] t slices_S256x256_o248_0_S8x256
  have a31 : FVec F S8x256 .f32 := maximumf a30 s31
  a31

/-- Folding the sum of a 256-row tile into eight running rows. -/
def foldAdd (acc : FVec F S8x256 .f32) (t : FVec F S256x256 .f32) : FVec F S8x256 .f32 :=
  have s0 : FVec F S8x256 .f32 := extractStridedSlice S8x256 ![0, 0] t slices_S256x256_o0_0_S8x256
  have a0 : FVec F S8x256 .f32 := addf acc s0
  have s1 : FVec F S8x256 .f32 := extractStridedSlice S8x256 ![8, 0] t slices_S256x256_o8_0_S8x256
  have a1 : FVec F S8x256 .f32 := addf a0 s1
  have s2 : FVec F S8x256 .f32 := extractStridedSlice S8x256 ![16, 0] t slices_S256x256_o16_0_S8x256
  have a2 : FVec F S8x256 .f32 := addf a1 s2
  have s3 : FVec F S8x256 .f32 := extractStridedSlice S8x256 ![24, 0] t slices_S256x256_o24_0_S8x256
  have a3 : FVec F S8x256 .f32 := addf a2 s3
  have s4 : FVec F S8x256 .f32 := extractStridedSlice S8x256 ![32, 0] t slices_S256x256_o32_0_S8x256
  have a4 : FVec F S8x256 .f32 := addf a3 s4
  have s5 : FVec F S8x256 .f32 := extractStridedSlice S8x256 ![40, 0] t slices_S256x256_o40_0_S8x256
  have a5 : FVec F S8x256 .f32 := addf a4 s5
  have s6 : FVec F S8x256 .f32 := extractStridedSlice S8x256 ![48, 0] t slices_S256x256_o48_0_S8x256
  have a6 : FVec F S8x256 .f32 := addf a5 s6
  have s7 : FVec F S8x256 .f32 := extractStridedSlice S8x256 ![56, 0] t slices_S256x256_o56_0_S8x256
  have a7 : FVec F S8x256 .f32 := addf a6 s7
  have s8 : FVec F S8x256 .f32 := extractStridedSlice S8x256 ![64, 0] t slices_S256x256_o64_0_S8x256
  have a8 : FVec F S8x256 .f32 := addf a7 s8
  have s9 : FVec F S8x256 .f32 := extractStridedSlice S8x256 ![72, 0] t slices_S256x256_o72_0_S8x256
  have a9 : FVec F S8x256 .f32 := addf a8 s9
  have s10 : FVec F S8x256 .f32 := extractStridedSlice S8x256 ![80, 0] t slices_S256x256_o80_0_S8x256
  have a10 : FVec F S8x256 .f32 := addf a9 s10
  have s11 : FVec F S8x256 .f32 := extractStridedSlice S8x256 ![88, 0] t slices_S256x256_o88_0_S8x256
  have a11 : FVec F S8x256 .f32 := addf a10 s11
  have s12 : FVec F S8x256 .f32 := extractStridedSlice S8x256 ![96, 0] t slices_S256x256_o96_0_S8x256
  have a12 : FVec F S8x256 .f32 := addf a11 s12
  have s13 : FVec F S8x256 .f32 := extractStridedSlice S8x256 ![104, 0] t slices_S256x256_o104_0_S8x256
  have a13 : FVec F S8x256 .f32 := addf a12 s13
  have s14 : FVec F S8x256 .f32 := extractStridedSlice S8x256 ![112, 0] t slices_S256x256_o112_0_S8x256
  have a14 : FVec F S8x256 .f32 := addf a13 s14
  have s15 : FVec F S8x256 .f32 := extractStridedSlice S8x256 ![120, 0] t slices_S256x256_o120_0_S8x256
  have a15 : FVec F S8x256 .f32 := addf a14 s15
  have s16 : FVec F S8x256 .f32 := extractStridedSlice S8x256 ![128, 0] t slices_S256x256_o128_0_S8x256
  have a16 : FVec F S8x256 .f32 := addf a15 s16
  have s17 : FVec F S8x256 .f32 := extractStridedSlice S8x256 ![136, 0] t slices_S256x256_o136_0_S8x256
  have a17 : FVec F S8x256 .f32 := addf a16 s17
  have s18 : FVec F S8x256 .f32 := extractStridedSlice S8x256 ![144, 0] t slices_S256x256_o144_0_S8x256
  have a18 : FVec F S8x256 .f32 := addf a17 s18
  have s19 : FVec F S8x256 .f32 := extractStridedSlice S8x256 ![152, 0] t slices_S256x256_o152_0_S8x256
  have a19 : FVec F S8x256 .f32 := addf a18 s19
  have s20 : FVec F S8x256 .f32 := extractStridedSlice S8x256 ![160, 0] t slices_S256x256_o160_0_S8x256
  have a20 : FVec F S8x256 .f32 := addf a19 s20
  have s21 : FVec F S8x256 .f32 := extractStridedSlice S8x256 ![168, 0] t slices_S256x256_o168_0_S8x256
  have a21 : FVec F S8x256 .f32 := addf a20 s21
  have s22 : FVec F S8x256 .f32 := extractStridedSlice S8x256 ![176, 0] t slices_S256x256_o176_0_S8x256
  have a22 : FVec F S8x256 .f32 := addf a21 s22
  have s23 : FVec F S8x256 .f32 := extractStridedSlice S8x256 ![184, 0] t slices_S256x256_o184_0_S8x256
  have a23 : FVec F S8x256 .f32 := addf a22 s23
  have s24 : FVec F S8x256 .f32 := extractStridedSlice S8x256 ![192, 0] t slices_S256x256_o192_0_S8x256
  have a24 : FVec F S8x256 .f32 := addf a23 s24
  have s25 : FVec F S8x256 .f32 := extractStridedSlice S8x256 ![200, 0] t slices_S256x256_o200_0_S8x256
  have a25 : FVec F S8x256 .f32 := addf a24 s25
  have s26 : FVec F S8x256 .f32 := extractStridedSlice S8x256 ![208, 0] t slices_S256x256_o208_0_S8x256
  have a26 : FVec F S8x256 .f32 := addf a25 s26
  have s27 : FVec F S8x256 .f32 := extractStridedSlice S8x256 ![216, 0] t slices_S256x256_o216_0_S8x256
  have a27 : FVec F S8x256 .f32 := addf a26 s27
  have s28 : FVec F S8x256 .f32 := extractStridedSlice S8x256 ![224, 0] t slices_S256x256_o224_0_S8x256
  have a28 : FVec F S8x256 .f32 := addf a27 s28
  have s29 : FVec F S8x256 .f32 := extractStridedSlice S8x256 ![232, 0] t slices_S256x256_o232_0_S8x256
  have a29 : FVec F S8x256 .f32 := addf a28 s29
  have s30 : FVec F S8x256 .f32 := extractStridedSlice S8x256 ![240, 0] t slices_S256x256_o240_0_S8x256
  have a30 : FVec F S8x256 .f32 := addf a29 s30
  have s31 : FVec F S8x256 .f32 := extractStridedSlice S8x256 ![248, 0] t slices_S256x256_o248_0_S8x256
  have a31 : FVec F S8x256 .f32 := addf a30 s31
  a31

/-- Key at or before the query, both inside the diagonal block. -/
def mDiag : IVec S256x256 1 :=
  cmpi .sle (iota .tc S256x256 32 [0] iota_S256x256_d0_w32) (iota .tc S256x256 32 [1] iota_S256x256_d1_w32)

/-- Keys of the oldest block that are still inside the window: those strictly after the query's row, and only
    where such a block exists. -/
def mOld (i : grid0.Coords) : IVec S256x256 1 :=
  andi (xori mDiag (constantI S256x256 1 1#1)) (broadcast S256x256 (Scalar.cmpi .sge (BitVec.ofNat 32 (i 2).val) 16#32))

/-- The head's score scale, one copy per lane. -/
def cVec (v13 v17 : Vec F S1x128 .f32) : FVec F S1x128 .f32 :=
  mulf (mulf (shapeCast S1x128 v17 shapeCasts_S1x128_S1x128) (shapeCast S1x128 v13 shapeCasts_S1x128_S1x128))
    (broadcast S1x128 (Scalar.ofBits .f32 0x3DB504F3#32 : F .f32))

/-- The sign of the scale. -/
def sgnVec (c : FVec F S1x128 .f32) : FVec F S1x128 .f32 :=
  select (cmpf .olt c (broadcast S1x128 (Scalar.ofBits .f32 0x00000000#32 : F .f32)))
    (broadcast S1x128 (Scalar.ofBits .f32 0xBF800000#32 : F .f32)) (broadcast S1x128 (Scalar.ofBits .f32 0x3F800000#32 : F .f32))

/-- The scale's absolute value times log2 e, over the 128 lanes, -/
def c2Half (c : FVec F S1x128 .f32) : FVec F S1x128 .f32 :=
  mulf (absf c) (broadcast S1x128 (Named.named κ "log2e" 0x3FB8AA3B#32 : F .f32))

/-- and over 256 lanes. -/
def c2Vec (c : FVec F S1x128 .f32) : FVec F S1x256 .f32 :=
  concatenate S1x256 1 [⟨S1x128, c2Half c⟩, ⟨S1x128, c2Half c⟩] concatenates_S1x128_S1x128_S1x256_d1

/-- The head's queries times the sign of the scale. -/
def qMat (c : FVec F S1x128 .f32) (v31 : Vec F S1x256x128 .fp8e4m3) : FVec F S256x128 .fp8e4m3 :=
  truncf .fp8e4m3 (mulf (extf .f32 (shapeCast S256x128 v31 shapeCasts_S1x256x128_S256x128 : FVec F S256x128 .fp8e4m3) bitsLt_fp8e4m3_f32)
    (broadcastTo S256x128 (sgnVec c) broadcasts_S1x128_S256x128)) bitsLt_fp8e4m3_f32

/-- The scores of one key block, keys by queries. -/
def scores (kb : Vec F S1x256x128 .fp8e4m3) (q : FVec F S256x128 .fp8e4m3) : FVec F S256x256 .f32 :=
  matmul dot_S256x128_S256x128_S256x256_1_1_0_0_n_n none (shapeCast S256x128 kb shapeCasts_S1x256x128_S256x128 : FVec F S256x128 .fp8e4m3) q
    (constant S256x256 .f32 0x00000000#32)

/-- The scores of the two partly masked blocks in one tile. -/
def sTile (i : grid0.Coords) (kd ko : Vec F S1x256x128 .fp8e4m3) (q : FVec F S256x128 .fp8e4m3) : FVec F S256x256 .f32 :=
  select mDiag (scores kd q) (select (mOld i) (scores ko q) (broadcast S256x256 (Scalar.ofBits .f32 0xFF800000#32 : F .f32)))

/-- The running maximum before the full blocks. -/
def mx0 (t : FVec F S256x256 .f32) : FVec F S8x256 .f32 :=
  foldMax (broadcast S8x256 (Scalar.ofBits .f32 0xFF800000#32 : F .f32)) t

/-- The exponent's offset per query: the scaled maximum less eight. -/
def mRow (c2 : FVec F S1x256 .f32) (mx : FVec F S8x256 .f32) : FVec F S1x256 .f32 :=
  subf (mulf (shapeCast S1x256 ((multiReduction .maximumf [0] S256 mx 0xFF800000#32 reduces_S8x256_S256 (.inl rfl) rfl : FVec F S256 .f32)) shapeCasts_S256_S1x256) c2)
    (broadcast S1x256 (Scalar.ofBits .f32 0x41000000#32 : F .f32))

/-- The powers of two of one tile of scores. -/
def pTile (c2 m : FVec F S1x256 .f32) (s : FVec F S256x256 .f32) : FVec F S256x256 .f32 :=
  exp2 (subf (mulf s (broadcastTo S256x256 c2 broadcasts_S1x256_S256x256)) (broadcastTo S256x256 m broadcasts_S1x256_S256x256))

/-- A tile with everything outside a mask made zero. -/
def maskZero (b : IVec S256x256 1) (p : FVec F S256x256 .f32) : FVec F S256x256 .f32 :=
  select b p (broadcast S256x256 (Scalar.ofBits .f32 0x00000000#32 : F .f32))

/-- The eight-bit codes of one tile of powers. -/
def codes (p : FVec F S256x256 .f32) : FVec F S256x256 .fp8e4m3 :=
  truncf .fp8e4m3 (minimumf (broadcast S256x256 (Scalar.ofBits .f32 0x43E00000#32 : F .f32))
    (maximumf (broadcast S256x256 (Scalar.ofBits .f32 0xC3E00000#32 : F .f32)) p)) bitsLt_fp8e4m3_f32

/-- One value block times one tile of codes. -/
def pv (vb : Vec F S1x128x256 .fp8e4m3) (p : FVec F S256x256 .f32) : FVec F S128x256 .f32 :=
  matmul dot_S128x256_S256x256_S128x256_1_0_0_1_n_n none (shapeCast S128x256 vb shapeCasts_S1x128x256_S128x256 : FVec F S128x256 .fp8e4m3) (codes p)
    (constant S128x256 .f32 0x00000000#32)

/-- The sum of the partly masked tile, in eight rows. -/
def l0 (i : grid0.Coords) (p : FVec F S256x256 .f32) : FVec F S8x256 .f32 :=
  foldAdd (broadcast S8x256 (Scalar.ofBits .f32 0x00000000#32 : F .f32)) (addf (maskZero mDiag p) (maskZero (mOld i) p))

/-- The head's output tile, from the accumulated values, the accumulated sum and the value scale. -/
def outTile (l : FVec F S8x256 .f32) (acc : FVec F S128x256 .f32) (v15 : Vec F S1x128 .f32) : FVec F S256x128 .bf16 :=
  truncf .bf16 (transpose S256x128 [1, 0] (divf
    (mulf acc (broadcastTo S128x256 (mulf (extractStridedSlice S1x1 ![0, 0] (shapeCast S1x128 v15 shapeCasts_S1x128_S1x128) slices_S1x128_o0_0_S1x1)
      (broadcast S1x1 (Scalar.ofBits .f32 0x3B800000#32 : F .f32))) broadcasts_S1x1_S128x256))
    (broadcastTo S128x256 (mulf (shapeCast S1x256 ((multiReduction .add [0] S256 l 0x00000000#32 reduces_S8x256_S256 (.inl rfl) rfl : FVec F S256 .f32)) shapeCasts_S256_S1x256)
      (broadcast S1x256 (Scalar.ofBits .f32 0x3B800000#32 : F .f32))) broadcasts_S1x256_S128x256)) transposes_S128x256_p1_0_S256x128) bitsLt_bf16_f32

/-! ## One head -/

/-- One head of the kernel, at lane offset `o` of the query, scale and output blocks. -/
def headProg (i : grid0.Coords) (arg3 : Memref sig .tc .vmem S1x256x1024 .fp8e4m3) (arg4 : Memref sig .tc .vmem S1x16384x128 .fp8e4m3)
    (arg5 : Memref sig .tc .vmem S1x128x16384 .fp8e4m3) (arg6 : Memref sig .tc .vmem S1x1024 .f32)
    (arg9 : Memref sig .tc .vmem S1x256x1024 .bf16) (harg9 : arg9.IsWhole)
    (arg10 : Memref sig .tc .vmem S4096x256 .f32) (arg11 : Memref sig .tc .vmem S128x256 .f32)
    (o : Nat) (h6 : ∀ a, (![0, o] : Fin 2 → Nat) a + S1x128.size a ≤ S1x1024.size a)
    (h3 : ∀ a, (![0, 0, o] : Fin 3 → Nat) a + S1x256x128.size a ≤ S1x256x1024.size a)
    (hp : (Rect.unit (s := S1x256x1024) ![0, 0, o] S1x256x128.size h3).PackedRows (EltTy.packing .bf16))
    (v13 v15 : Vec F S1x128 .f32) : Prog (TpuEff nD τ sig (Elt F) Λ₀ .tc) PUnit := do
  let v17 : Vec F S1x128 .f32 ← Prog.lift (.load arg6 (Rect.unit (s := S1x1024) ![0, o] S1x128.size h6).toLoadRect (View.loadsAt_vmem h_S1x128))
  let v31 : Vec F S1x256x128 .fp8e4m3 ← Prog.lift (.load arg3 (Rect.unit (s := S1x256x1024) ![0, 0, o] S1x256x128.size h3).toLoadRect (View.loadsAt_vmem h_S1x256x128))
  let kd : Vec F S1x256x128 .fp8e4m3 ← Prog.lift (.load arg4 (Rect.unit (s := S1x16384x128) (k0_off1 i) S1x256x128.size (k0_off1_inb i)).toLoadRect (View.loadsAt_vmem h_S1x256x128))
  let ko : Vec F S1x256x128 .fp8e4m3 ← Prog.lift (.load arg4 (Rect.unit (s := S1x16384x128) (k0_off2 i) S1x256x128.size (k0_off2_inb i)).toLoadRect (View.loadsAt_vmem h_S1x256x128))
  let _ : Vec F S256x256 .f32 ← Prog.lift (.load arg10 (Rect.unit (s := S4096x256) ![0, 0] S256x256.size inb_S4096x256_S256x256_0_0).toLoadRect (View.loadsAt_vmem h_S256x256))
  Prog.lift (.store arg10 (Rect.unit (s := S4096x256) ![0, 0] S256x256.size inb_S4096x256_S256x256_0_0)
    (shapeCast S256x256 (sTile i kd ko (qMat (cVec v13 v17) v31)) shapeCasts_S256x256_S256x256) Finset.univ (View.stores_vmem_bits_univ h_S256x256 rfl) (.inl rfl))
  let mx : FVec F S8x256 .f32 ← Scf.Loop.for (k0_t1_loop i) (k0_t1_ok i) (mx0 (sTile i kd ko (qMat (cVec v13 v17) v31))) fun k acc => do
    let kb : Vec F S1x256x128 .fp8e4m3 ← Prog.lift (.load arg4 (Rect.unit (s := S1x16384x128) (k0_off3 i k) S1x256x128.size (k0_off3_inb i k)).toLoadRect (View.loadsAt_vmem h_S1x256x128))
    let _ : Vec F S256x256 .f32 ← Prog.lift (.load arg10 (Rect.unit (s := S4096x256) (k0_off4 i k) S256x256.size (k0_off4_inb i k)).toLoadRect (View.loadsAt_vmem h_S256x256))
    Prog.lift (.store arg10 (Rect.unit (s := S4096x256) (k0_off4 i k) S256x256.size (k0_off4_inb i k))
      (shapeCast S256x256 (scores kb (qMat (cVec v13 v17) v31)) shapeCasts_S256x256_S256x256) Finset.univ (View.stores_vmem_bits_univ h_S256x256 rfl) (.inl rfl))
    pure (foldMax acc (scores kb (qMat (cVec v13 v17) v31)))
  let mx : FVec F S8x256 .f32 ← Scf.Loop.for (k0_t2_loop i) (k0_t2_ok i) mx fun k acc => do
    let kb : Vec F S1x256x128 .fp8e4m3 ← Prog.lift (.load arg4 (Rect.unit (s := S1x16384x128) (k0_off5 i k) S1x256x128.size (k0_off5_inb i k)).toLoadRect (View.loadsAt_vmem h_S1x256x128))
    let _ : Vec F S256x256 .f32 ← Prog.lift (.load arg10 (Rect.unit (s := S4096x256) (k0_off6 i k) S256x256.size (k0_off6_inb i k)).toLoadRect (View.loadsAt_vmem h_S256x256))
    Prog.lift (.store arg10 (Rect.unit (s := S4096x256) (k0_off6 i k) S256x256.size (k0_off6_inb i k))
      (shapeCast S256x256 (scores kb (qMat (cVec v13 v17) v31)) shapeCasts_S256x256_S256x256) Finset.univ (View.stores_vmem_bits_univ h_S256x256 rfl) (.inl rfl))
    pure (foldMax acc (scores kb (qMat (cVec v13 v17) v31)))
  let s0 : Vec F S256x256 .f32 ← Prog.lift (.load arg10 (Rect.unit (s := S4096x256) ![0, 0] S256x256.size inb_S4096x256_S256x256_0_0).toLoadRect (View.loadsAt_vmem h_S256x256))
  let vd : Vec F S1x128x256 .fp8e4m3 ← Prog.lift (.load arg5 (Rect.unit (s := S1x128x16384) (k0_off7 i) S1x128x256.size (k0_off7_inb i)).toLoadRect (View.loadsAt_vmem h_S1x128x256))
  let vo : Vec F S1x128x256 .fp8e4m3 ← Prog.lift (.load arg5 (Rect.unit (s := S1x128x16384) (k0_off8 i) S1x128x256.size (k0_off8_inb i)).toLoadRect (View.loadsAt_vmem h_S1x128x256))
  let _ : Vec F S128x256 .f32 ← Prog.lift (.load arg11 (Rect.unit (s := S128x256) ![0, 0] S128x256.size inb_S128x256_S128x256_0_0).toLoadRect (View.loadsAt_vmem h_S128x256))
  Prog.lift (.store arg11 (Rect.unit (s := S128x256) ![0, 0] S128x256.size inb_S128x256_S128x256_0_0)
    (shapeCast S128x256 (addf (pv vd (maskZero mDiag (pTile (c2Vec (cVec v13 v17)) (mRow (c2Vec (cVec v13 v17)) mx) s0)))
      (pv vo (maskZero (mOld i) (pTile (c2Vec (cVec v13 v17)) (mRow (c2Vec (cVec v13 v17)) mx) s0)))) shapeCasts_S128x256_S128x256)
    Finset.univ (View.stores_vmem_bits_univ h_S128x256 rfl) (.inl rfl))
  let l : FVec F S8x256 .f32 ← Scf.Loop.for (k0_t3_loop i) (k0_t3_ok i) (l0 i (pTile (c2Vec (cVec v13 v17)) (mRow (c2Vec (cVec v13 v17)) mx) s0)) fun k l => do
    let s : Vec F S256x256 .f32 ← Prog.lift (.load arg10 (Rect.unit (s := S4096x256) (k0_off9 i k) S256x256.size (k0_off9_inb i k)).toLoadRect (View.loadsAt_vmem h_S256x256))
    let acc : Vec F S128x256 .f32 ← Prog.lift (.load arg11 (Rect.unit (s := S128x256) ![0, 0] S128x256.size inb_S128x256_S128x256_0_0).toLoadRect (View.loadsAt_vmem h_S128x256))
    let vb : Vec F S1x128x256 .fp8e4m3 ← Prog.lift (.load arg5 (Rect.unit (s := S1x128x16384) (k0_off10 i k) S1x128x256.size (k0_off10_inb i k)).toLoadRect (View.loadsAt_vmem h_S1x128x256))
    let _ : Vec F S128x256 .f32 ← Prog.lift (.load arg11 (Rect.unit (s := S128x256) ![0, 0] S128x256.size inb_S128x256_S128x256_0_0).toLoadRect (View.loadsAt_vmem h_S128x256))
    Prog.lift (.store arg11 (Rect.unit (s := S128x256) ![0, 0] S128x256.size inb_S128x256_S128x256_0_0)
      (shapeCast S128x256 (addf acc (pv vb (pTile (c2Vec (cVec v13 v17)) (mRow (c2Vec (cVec v13 v17)) mx) s))) shapeCasts_S128x256_S128x256)
      Finset.univ (View.stores_vmem_bits_univ h_S128x256 rfl) (.inl rfl))
    pure (foldAdd l (pTile (c2Vec (cVec v13 v17)) (mRow (c2Vec (cVec v13 v17)) mx) s))
  let l : FVec F S8x256 .f32 ← Scf.Loop.for (k0_t4_loop i) (k0_t4_ok i) l fun k l => do
    let s : Vec F S256x256 .f32 ← Prog.lift (.load arg10 (Rect.unit (s := S4096x256) (k0_off11 i k) S256x256.size (k0_off11_inb i k)).toLoadRect (View.loadsAt_vmem h_S256x256))
    let acc : Vec F S128x256 .f32 ← Prog.lift (.load arg11 (Rect.unit (s := S128x256) ![0, 0] S128x256.size inb_S128x256_S128x256_0_0).toLoadRect (View.loadsAt_vmem h_S128x256))
    let vb : Vec F S1x128x256 .fp8e4m3 ← Prog.lift (.load arg5 (Rect.unit (s := S1x128x16384) (k0_off12 i k) S1x128x256.size (k0_off12_inb i k)).toLoadRect (View.loadsAt_vmem h_S1x128x256))
    let _ : Vec F S128x256 .f32 ← Prog.lift (.load arg11 (Rect.unit (s := S128x256) ![0, 0] S128x256.size inb_S128x256_S128x256_0_0).toLoadRect (View.loadsAt_vmem h_S128x256))
    Prog.lift (.store arg11 (Rect.unit (s := S128x256) ![0, 0] S128x256.size inb_S128x256_S128x256_0_0)
      (shapeCast S128x256 (addf acc (pv vb (pTile (c2Vec (cVec v13 v17)) (mRow (c2Vec (cVec v13 v17)) mx) s))) shapeCasts_S128x256_S128x256)
      Finset.univ (View.stores_vmem_bits_univ h_S128x256 rfl) (.inl rfl))
    pure (foldAdd l (pTile (c2Vec (cVec v13 v17)) (mRow (c2Vec (cVec v13 v17)) mx) s))
  let acc : Vec F S128x256 .f32 ← Prog.lift (.load arg11 (Rect.unit (s := S128x256) ![0, 0] S128x256.size inb_S128x256_S128x256_0_0).toLoadRect (View.loadsAt_vmem h_S128x256))
  let _ : Vec F S1x256x128 .bf16 ← Prog.lift (.load arg9 (Rect.unit (s := S1x256x1024) ![0, 0, o] S1x256x128.size h3).toLoadRect (View.loadsAt_vmem h_S1x256x128))
  Prog.lift (.store arg9 (Rect.unit (s := S1x256x1024) ![0, 0, o] S1x256x128.size h3) (shapeCast S1x256x128 (outTile l acc v15) shapeCasts_S256x128_S1x256x128)
    Finset.univ (View.stores_vmem h_S1x256x128 (harg9.storeExact_slice rfl _ hp) (fun _ => rfl)) (.inl rfl))

/-- The two scale loads and the eight heads in order. -/
def headsProg (i : grid0.Coords) (arg3 : Memref sig .tc .vmem S1x256x1024 .fp8e4m3) (arg4 : Memref sig .tc .vmem S1x16384x128 .fp8e4m3)
    (arg5 : Memref sig .tc .vmem S1x128x16384 .fp8e4m3) (arg6 : Memref sig .tc .vmem S1x1024 .f32)
    (arg7 : Memref sig .tc .vmem S1x128 .f32) (arg8 : Memref sig .tc .vmem S1x128 .f32)
    (arg9 : Memref sig .tc .vmem S1x256x1024 .bf16) (harg9 : arg9.IsWhole)
    (arg10 : Memref sig .tc .vmem S4096x256 .f32) (arg11 : Memref sig .tc .vmem S128x256 .f32) :
    Prog (TpuEff nD τ sig (Elt F) Λ₀ .tc) PUnit := do
  let v13 : Vec F S1x128 .f32 ← Prog.lift (.load arg7 (Rect.unit (s := S1x128) ![0, 0] S1x128.size inb_S1x128_S1x128_0_0).toLoadRect (View.loadsAt_vmem h_S1x128))
  let v15 : Vec F S1x128 .f32 ← Prog.lift (.load arg8 (Rect.unit (s := S1x128) ![0, 0] S1x128.size inb_S1x128_S1x128_0_0).toLoadRect (View.loadsAt_vmem h_S1x128))
  headProg i arg3 arg4 arg5 arg6 arg9 harg9 arg10 arg11 0 inb_S1x1024_S1x128_0_0 inb_S1x256x1024_S1x256x128_0_0_0 packedbf16_S1x256x1024_S1x256x128_0_0_0 v13 v15
  headProg i arg3 arg4 arg5 arg6 arg9 harg9 arg10 arg11 128 inb_S1x1024_S1x128_0_128 inb_S1x256x1024_S1x256x128_0_0_128 packedbf16_S1x256x1024_S1x256x128_0_0_128 v13 v15
  headProg i arg3 arg4 arg5 arg6 arg9 harg9 arg10 arg11 256 inb_S1x1024_S1x128_0_256 inb_S1x256x1024_S1x256x128_0_0_256 packedbf16_S1x256x1024_S1x256x128_0_0_256 v13 v15
  headProg i arg3 arg4 arg5 arg6 arg9 harg9 arg10 arg11 384 inb_S1x1024_S1x128_0_384 inb_S1x256x1024_S1x256x128_0_0_384 packedbf16_S1x256x1024_S1x256x128_0_0_384 v13 v15
  headProg i arg3 arg4 arg5 arg6 arg9 harg9 arg10 arg11 512 inb_S1x1024_S1x128_0_512 inb_S1x256x1024_S1x256x128_0_0_512 packedbf16_S1x256x1024_S1x256x128_0_0_512 v13 v15
  headProg i arg3 arg4 arg5 arg6 arg9 harg9 arg10 arg11 640 inb_S1x1024_S1x128_0_640 inb_S1x256x1024_S1x256x128_0_0_640 packedbf16_S1x256x1024_S1x256x128_0_0_640 v13 v15
  headProg i arg3 arg4 arg5 arg6 arg9 harg9 arg10 arg11 768 inb_S1x1024_S1x128_0_768 inb_S1x256x1024_S1x256x128_0_0_768 packedbf16_S1x256x1024_S1x256x128_0_0_768 v13 v15
  headProg i arg3 arg4 arg5 arg6 arg9 harg9 arg10 arg11 896 inb_S1x1024_S1x128_0_896 inb_S1x256x1024_S1x256x128_0_0_896 packedbf16_S1x256x1024_S1x256x128_0_0_896 v13 v15

end Cert.KernelIdeal.Body

end
-- ==== Proof.KernelIdeal.HeadVal.lean ====
/-
  What one head of the kernel leaves, as a function of the blocks it reads: the scores of the partly masked tile and of
  each full key block, the running maximum, the accumulated values and sums after each full block, the output tile.
-/
module

public import proofs.«01_k».proof.Proof.KernelIdeal.Body
public import proofs.«01_k».proof.Proof.Owned

@[expose] public section

noncomputable section

namespace Cert.KernelIdeal.Body

open Idealize.ShloMosaic Idealize.SL.Sem Cert.KernelIdeal Cert.KernelIdeal.Gen Cert.Owned

variable {F : FTy → Type} [FloatOps F] [Named F]

section Values

variable (i : grid0.Coords) (X4 : Vec F S1x16384x128 .fp8e4m3) (X5 : Vec F S1x128x16384 .fp8e4m3)
  (c : FVec F S1x128 .f32) (q : FVec F S256x128 .fp8e4m3)

/-- The number of full key blocks of the point. -/
def nFull : Nat := (k0_t1_loop i).trips

/-- The scores of the partly masked tile: the block of the queries themselves and the block that leaves the window. -/
def sDiag : FVec F S256x256 .f32 :=
  sTile i (ld X4 (Rect.unit (s := S1x16384x128) (k0_off1 i) S1x256x128.size (k0_off1_inb i)))
    (ld X4 (Rect.unit (s := S1x16384x128) (k0_off2 i) S1x256x128.size (k0_off2_inb i))) q

/-- The scores of full block `n` (of the masked tile past the last block, never read). -/
def sBlk (n : Nat) : FVec F S256x256 .f32 :=
  if h : n < nFull i then
    scores (ld X4 (Rect.unit (s := S1x16384x128) (k0_off3 i ⟨n, h⟩) S1x256x128.size (k0_off3_inb i ⟨n, h⟩))) q
  else sDiag i X4 q

/-- The values of full block `n`. -/
def vBlk (n : Nat) : Vec F S1x128x256 .fp8e4m3 :=
  if h : n < nFull i then
    ld X5 (Rect.unit (s := S1x128x16384) (k0_off10 i ⟨n, h⟩) S1x128x256.size (k0_off10_inb i ⟨n, h⟩))
  else ld X5 (Rect.unit (s := S1x128x16384) (k0_off7 i) S1x128x256.size (k0_off7_inb i))

/-- The running maximum after `n` full blocks. -/
def mxAt : Nat → FVec F S8x256 .f32
  | 0 => mx0 (sDiag i X4 q)
  | n + 1 => foldMax (mxAt n) (sBlk i X4 q n)

/-- The exponent's offset of the head. -/
def mAll : FVec F S1x256 .f32 := mRow (c2Vec c) (mxAt i X4 q (nFull i))

/-- The powers of the masked tile, -/
def pDiag : FVec F S256x256 .f32 := pTile (c2Vec c) (mAll i X4 c q) (sDiag i X4 q)

/-- and of full block `n`. -/
def pBlk (n : Nat) : FVec F S256x256 .f32 := pTile (c2Vec c) (mAll i X4 c q) (sBlk i X4 q n)

/-- The accumulated values after `n` full blocks. -/
def accAt : Nat → FVec F S128x256 .f32
  | 0 => addf (pv (ld X5 (Rect.unit (s := S1x128x16384) (k0_off7 i) S1x128x256.size (k0_off7_inb i))) (maskZero mDiag (pDiag i X4 c q)))
      (pv (ld X5 (Rect.unit (s := S1x128x16384) (k0_off8 i) S1x128x256.size (k0_off8_inb i))) (maskZero (mOld i) (pDiag i X4 c q)))
  | n + 1 => addf (accAt n) (pv (vBlk i X5 n) (pBlk i X4 c q n))

/-- The accumulated sums after `n` full blocks. -/
def lAt : Nat → FVec F S8x256 .f32
  | 0 => l0 i (pDiag i X4 c q)
  | n + 1 => foldAdd (lAt n) (pBlk i X4 c q n)

/-- The head's output tile. -/
def headOut (v15 : Vec F S1x128 .f32) : FVec F S256x128 .bf16 :=
  outTile (lAt i X4 c q (nFull i)) (accAt i X4 X5 c q (nFull i)) v15

end Values

end Cert.KernelIdeal.Body

end
-- ==== Proof.KernelIdeal.Head.lean ====
/-
  One head run: from the blocks and the two scratch arrays owned, the head's program ends with its tile of the output
  block replaced by the value `headOut` of the blocks, the inputs as they were, the scratch at some contents.
-/
module

public import proofs.«01_k».proof.Proof.KernelIdeal.HeadVal
public import proofs.«01_k».proof.Proof.Gen.KernelIdeal.Frame
public import Idealize.ShloMosaic.Lib.Pipeline.Frame
public import Idealize.ShloMosaic.Lib.Pipeline.Value
public import Idealize.ShloMosaic.Lib.Pipeline.ValueKit.Geometry

@[expose] public section

noncomputable section

namespace Cert.KernelIdeal.Body

open Cert.KernelIdeal Cert.KernelIdeal.Gen Cert.Owned
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A loop of no trips is its initial value. -/
theorem for_none {w : Nat} {E : Type → Type} {σ : Type} (l : Scf.Loop w) (hok : l.OK) (init : σ)
    (body : Fin l.trips → σ → Prog E σ) (h : l.trips = 0) : Scf.Loop.for l hok init body = .ret init := by
  unfold Scf.Loop.for
  rw [Scf.for_eq]
  have : List.finRange (Scf.trips l.lb l.ub l.st) = [] := by
    have h' : Scf.trips l.lb l.ub l.st = 0 := h
    apply List.eq_nil_of_length_eq_zero
    rw [List.length_finRange, h']
  rw [this, Scf.forFrom_nil]

/-- One trip of the score loop: load the key block, store its scores, fold their maximum. -/
def trip1 (i : grid0.Coords) (arg4 : Memref sig .tc .vmem S1x16384x128 .fp8e4m3) (arg10 : Memref sig .tc .vmem S4096x256 .f32)
    (q : FVec F S256x128 .fp8e4m3) (k : Fin (k0_t1_loop i).trips) (acc : FVec F S8x256 .f32) :
    Prog (TpuEff nD τ sig (Elt F) Λ₀ .tc) (FVec F S8x256 .f32) :=
  .op (.load arg4 (Rect.unit (s := S1x16384x128) (k0_off3 i k) S1x256x128.size (k0_off3_inb i k)).toLoadRect (View.loadsAt_vmem h_S1x256x128)) fun (kb : Vec F S1x256x128 .fp8e4m3) =>
  .op (.load arg10 (Rect.unit (s := S4096x256) (k0_off4 i k) S256x256.size (k0_off4_inb i k)).toLoadRect (View.loadsAt_vmem h_S256x256)) fun (_ : Vec F S256x256 .f32) =>
  .op (.store arg10 (Rect.unit (s := S4096x256) (k0_off4 i k) S256x256.size (k0_off4_inb i k))
      (shapeCast S256x256 (scores kb q) shapeCasts_S256x256_S256x256) Finset.univ (View.stores_vmem_bits_univ h_S256x256 rfl) (.inl rfl)) fun _ =>
  .ret (foldMax acc (scores kb q))

/-- One trip of the value loop: load the scores, the accumulator and the value block, add to accumulator and sum. -/
def trip3 (i : grid0.Coords) (arg5 : Memref sig .tc .vmem S1x128x16384 .fp8e4m3) (arg10 : Memref sig .tc .vmem S4096x256 .f32)
    (arg11 : Memref sig .tc .vmem S128x256 .f32) (c2 m : FVec F S1x256 .f32) (k : Fin (k0_t3_loop i).trips) (l : FVec F S8x256 .f32) :
    Prog (TpuEff nD τ sig (Elt F) Λ₀ .tc) (FVec F S8x256 .f32) :=
  .op (.load arg10 (Rect.unit (s := S4096x256) (k0_off9 i k) S256x256.size (k0_off9_inb i k)).toLoadRect (View.loadsAt_vmem h_S256x256)) fun (s : Vec F S256x256 .f32) =>
  .op (.load arg11 (Rect.unit (s := S128x256) ![0, 0] S128x256.size inb_S128x256_S128x256_0_0).toLoadRect (View.loadsAt_vmem h_S128x256)) fun (acc : Vec F S128x256 .f32) =>
  .op (.load arg5 (Rect.unit (s := S1x128x16384) (k0_off10 i k) S1x128x256.size (k0_off10_inb i k)).toLoadRect (View.loadsAt_vmem h_S1x128x256)) fun (vb : Vec F S1x128x256 .fp8e4m3) =>
  .op (.load arg11 (Rect.unit (s := S128x256) ![0, 0] S128x256.size inb_S128x256_S128x256_0_0).toLoadRect (View.loadsAt_vmem h_S128x256)) fun (_ : Vec F S128x256 .f32) =>
  .op (.store arg11 (Rect.unit (s := S128x256) ![0, 0] S128x256.size inb_S128x256_S128x256_0_0)
      (shapeCast S128x256 (addf acc (pv vb (pTile c2 m s))) shapeCasts_S128x256_S128x256)
      Finset.univ (View.stores_vmem_bits_univ h_S128x256 rfl) (.inl rfl)) fun _ =>
  .ret (foldAdd l (pTile c2 m s))

/-- The end of the head: the accumulator read, the output tile stored. -/
def tailProg (arg9 : Memref sig .tc .vmem S1x256x1024 .bf16) (harg9 : arg9.IsWhole) (arg11 : Memref sig .tc .vmem S128x256 .f32)
    (o : Nat) (h3 : ∀ a, (![0, 0, o] : Fin 3 → Nat) a + S1x256x128.size a ≤ S1x256x1024.size a)
    (hp : (Rect.unit (s := S1x256x1024) ![0, 0, o] S1x256x128.size h3).PackedRows (EltTy.packing .bf16))
    (v15 : Vec F S1x128 .f32) (l : FVec F S8x256 .f32) : Prog (TpuEff nD τ sig (Elt F) Λ₀ .tc) PUnit :=
  .op (.load arg11 (Rect.unit (s := S128x256) ![0, 0] S128x256.size inb_S128x256_S128x256_0_0).toLoadRect (View.loadsAt_vmem h_S128x256)) fun (acc : Vec F S128x256 .f32) =>
  .op (.load arg9 (Rect.unit (s := S1x256x1024) ![0, 0, o] S1x256x128.size h3).toLoadRect (View.loadsAt_vmem h_S1x256x128)) fun (_ : Vec F S1x256x128 .bf16) =>
  .op (.store arg9 (Rect.unit (s := S1x256x1024) ![0, 0, o] S1x256x128.size h3) (shapeCast S1x256x128 (outTile l acc v15) shapeCasts_S256x128_S1x256x128)
    Finset.univ (View.stores_vmem h_S1x256x128 (harg9.storeExact_slice rfl _ hp) (fun _ => rfl)) (.inl rfl)) fun _ => .ret ⟨⟩

/-- After the score loop: the masked tile's powers and values, then the value loop, then the end. -/
def midProg (i : grid0.Coords) (arg5 : Memref sig .tc .vmem S1x128x16384 .fp8e4m3)
    (arg9 : Memref sig .tc .vmem S1x256x1024 .bf16) (harg9 : arg9.IsWhole)
    (arg10 : Memref sig .tc .vmem S4096x256 .f32) (arg11 : Memref sig .tc .vmem S128x256 .f32)
    (o : Nat) (h3 : ∀ a, (![0, 0, o] : Fin 3 → Nat) a + S1x256x128.size a ≤ S1x256x1024.size a)
    (hp : (Rect.unit (s := S1x256x1024) ![0, 0, o] S1x256x128.size h3).PackedRows (EltTy.packing .bf16))
    (v15 : Vec F S1x128 .f32) (c2 m : FVec F S1x256 .f32) : Prog (TpuEff nD τ sig (Elt F) Λ₀ .tc) PUnit :=
  .op (.load arg10 (Rect.unit (s := S4096x256) ![0, 0] S256x256.size inb_S4096x256_S256x256_0_0).toLoadRect (View.loadsAt_vmem h_S256x256)) fun (s0 : Vec F S256x256 .f32) =>
  .op (.load arg5 (Rect.unit (s := S1x128x16384) (k0_off7 i) S1x128x256.size (k0_off7_inb i)).toLoadRect (View.loadsAt_vmem h_S1x128x256)) fun (vd : Vec F S1x128x256 .fp8e4m3) =>
  .op (.load arg5 (Rect.unit (s := S1x128x16384) (k0_off8 i) S1x128x256.size (k0_off8_inb i)).toLoadRect (View.loadsAt_vmem h_S1x128x256)) fun (vo : Vec F S1x128x256 .fp8e4m3) =>
  .op (.load arg11 (Rect.unit (s := S128x256) ![0, 0] S128x256.size inb_S128x256_S128x256_0_0).toLoadRect (View.loadsAt_vmem h_S128x256)) fun (_ : Vec F S128x256 .f32) =>
  .op (.store arg11 (Rect.unit (s := S128x256) ![0, 0] S128x256.size inb_S128x256_S128x256_0_0)
    (shapeCast S128x256 (addf (pv vd (maskZero mDiag (pTile c2 m s0)))
      (pv vo (maskZero (mOld i) (pTile c2 m s0)))) shapeCasts_S128x256_S128x256)
    Finset.univ (View.stores_vmem_bits_univ h_S128x256 rfl) (.inl rfl)) fun _ =>
  Scf.for (k0_t3_loop i).lb (k0_t3_loop i).ub (k0_t3_loop i).st (k0_t3_ok i) (l0 i (pTile c2 m s0)) (trip3 i arg5 arg10 arg11 c2 m) >>= fun l =>
  tailProg arg9 harg9 arg11 o h3 hp v15 l

/-- The head with its scale and queries known: the masked tile's scores, the score loop, the rest. -/
def coreProg (i : grid0.Coords) (arg4 : Memref sig .tc .vmem S1x16384x128 .fp8e4m3)
    (arg5 : Memref sig .tc .vmem S1x128x16384 .fp8e4m3)
    (arg9 : Memref sig .tc .vmem S1x256x1024 .bf16) (harg9 : arg9.IsWhole)
    (arg10 : Memref sig .tc .vmem S4096x256 .f32) (arg11 : Memref sig .tc .vmem S128x256 .f32)
    (o : Nat) (h3 : ∀ a, (![0, 0, o] : Fin 3 → Nat) a + S1x256x128.size a ≤ S1x256x1024.size a)
    (hp : (Rect.unit (s := S1x256x1024) ![0, 0, o] S1x256x128.size h3).PackedRows (EltTy.packing .bf16))
    (v15 : Vec F S1x128 .f32) (cv : FVec F S1x128 .f32) (q : FVec F S256x128 .fp8e4m3) : Prog (TpuEff nD τ sig (Elt F) Λ₀ .tc) PUnit :=
  .op (.load arg4 (Rect.unit (s := S1x16384x128) (k0_off1 i) S1x256x128.size (k0_off1_inb i)).toLoadRect (View.loadsAt_vmem h_S1x256x128)) fun (kd : Vec F S1x256x128 .fp8e4m3) =>
  .op (.load arg4 (Rect.unit (s := S1x16384x128) (k0_off2 i) S1x256x128.size (k0_off2_inb i)).toLoadRect (View.loadsAt_vmem h_S1x256x128)) fun (ko : Vec F S1x256x128 .fp8e4m3) =>
  .op (.load arg10 (Rect.unit (s := S4096x256) ![0, 0] S256x256.size inb_S4096x256_S256x256_0_0).toLoadRect (View.loadsAt_vmem h_S256x256)) fun (_ : Vec F S256x256 .f32) =>
  .op (.store arg10 (Rect.unit (s := S4096x256) ![0, 0] S256x256.size inb_S4096x256_S256x256_0_0)
    (shapeCast S256x256 (sTile i kd ko q) shapeCasts_S256x256_S256x256) Finset.univ (View.stores_vmem_bits_univ h_S256x256 rfl) (.inl rfl)) fun _ =>
  Scf.for (k0_t1_loop i).lb (k0_t1_loop i).ub (k0_t1_loop i).st (k0_t1_ok i) (mx0 (sTile i kd ko q)) (trip1 i arg4 arg10 q) >>= fun mx =>
  midProg i arg5 arg9 harg9 arg10 arg11 o h3 hp v15 (c2Vec cv) (mRow (c2Vec cv) mx)

theorem headProg_eq (i : grid0.Coords) (arg3 : Memref sig .tc .vmem S1x256x1024 .fp8e4m3) (arg4 : Memref sig .tc .vmem S1x16384x128 .fp8e4m3)
    (arg5 : Memref sig .tc .vmem S1x128x16384 .fp8e4m3) (arg6 : Memref sig .tc .vmem S1x1024 .f32)
    (arg9 : Memref sig .tc .vmem S1x256x1024 .bf16) (harg9 : arg9.IsWhole)
    (arg10 : Memref sig .tc .vmem S4096x256 .f32) (arg11 : Memref sig .tc .vmem S128x256 .f32)
    (o : Nat) (h6 : ∀ a, (![0, o] : Fin 2 → Nat) a + S1x128.size a ≤ S1x1024.size a)
    (h3 : ∀ a, (![0, 0, o] : Fin 3 → Nat) a + S1x256x128.size a ≤ S1x256x1024.size a)
    (hp : (Rect.unit (s := S1x256x1024) ![0, 0, o] S1x256x128.size h3).PackedRows (EltTy.packing .bf16))
    (v13 v15 : Vec F S1x128 .f32) :
    headProg i arg3 arg4 arg5 arg6 arg9 harg9 arg10 arg11 o h6 h3 hp v13 v15 =
      .op (.load arg6 (Rect.unit (s := S1x1024) ![0, o] S1x128.size h6).toLoadRect (View.loadsAt_vmem h_S1x128)) fun (v17 : Vec F S1x128 .f32) =>
      .op (.load arg3 (Rect.unit (s := S1x256x1024) ![0, 0, o] S1x256x128.size h3).toLoadRect (View.loadsAt_vmem h_S1x256x128)) fun (v31 : Vec F S1x256x128 .fp8e4m3) =>
      coreProg i arg4 arg5 arg9 harg9 arg10 arg11 o h3 hp v15 (cVec v13 v17) (qMat (cVec v13 v17) v31) := by
  have h2 : (k0_t2_loop i).trips = 0 := Nat.le_zero.mp (k0_t2_abs i).2.1
  have h4 : (k0_t4_loop i).trips = 0 := Nat.le_zero.mp (k0_t4_abs i).2.1
  have e2 : ∀ (init : FVec F S8x256 .f32) (body : Fin (k0_t2_loop i).trips → FVec F S8x256 .f32 → Prog (TpuEff nD τ sig (Elt F) Λ₀ .tc) (FVec F S8x256 .f32)),
      Scf.Loop.for (k0_t2_loop i) (k0_t2_ok i) init body = .ret init := fun init body => for_none _ _ _ _ h2
  have e4 : ∀ (init : FVec F S8x256 .f32) (body : Fin (k0_t4_loop i).trips → FVec F S8x256 .f32 → Prog (TpuEff nD τ sig (Elt F) Λ₀ .tc) (FVec F S8x256 .f32)),
      Scf.Loop.for (k0_t4_loop i) (k0_t4_ok i) init body = .ret init := fun init body => for_none _ _ _ _ h4
  unfold headProg
  simp only [e2, e4, Prog.lift, Prog.bind_op, Prog.bind_ret, Prog.pure_eq_ret]
  rfl

/-! ## The score loop -/

/-- The rows of the score scratch that block `k` owns. -/
abbrev sRect (i : grid0.Coords) (k : Fin (k0_t1_loop i).trips) : Rect S4096x256 :=
  Rect.unit (s := S4096x256) (k0_off4 i k) S256x256.size (k0_off4_inb i k)
/-- and the first 256 rows, the masked tile's. -/
abbrev sRect0 : Rect S4096x256 := Rect.unit (s := S4096x256) ![0, 0] S256x256.size inb_S4096x256_S256x256_0_0

/-- The masked tile and the first `n` full blocks are in the score scratch. -/
def ScoresAt (i : grid0.Coords) (X4 : Vec F S1x16384x128 .fp8e4m3) (q : FVec F S256x128 .fp8e4m3) (X10 : Vec F S4096x256 .f32) (n : Nat) : Prop :=
  ld X10 sRect0 = sDiag i X4 q ∧ ∀ k : Fin (k0_t1_loop i).trips, k.val < n → ld X10 (sRect i k) = sBlk i X4 q k.val

theorem sRect_row (i : grid0.Coords) (k : Fin (k0_t1_loop i).trips) (j : S256x256.Idx) :
    ((sRect i k).emb j 0).val = 256 * k.val + 256 + (j 0).val := by
  have h := ValueKit.rect_emb_unit_val (s := S4096x256) (k0_off4 i k) S256x256.size (k0_off4_inb i k) j 0
  exact h.trans (congrArg (fun x : Nat => x + (j 0).val) (congrFun (k0_off4_eq i k) 0))

theorem sRect0_row (j : S256x256.Idx) : (sRect0.emb j 0).val = (j 0).val := by
  rw [ValueKit.rect_emb_unit_val]; exact Nat.zero_add _

theorem ScoresAt.step {i : grid0.Coords} {X4 : Vec F S1x16384x128 .fp8e4m3} {q : FVec F S256x128 .fp8e4m3} {X10 : Vec F S4096x256 .f32}
    (k : Fin (k0_t1_loop i).trips) (h : ScoresAt i X4 q X10 k.val) (w : Vec F S256x256 .f32) (hw : w = sBlk i X4 q k.val) :
    ScoresAt i X4 q (upd X10 (sRect i k) w) (k.val + 1) := by
  refine ⟨?_, fun k' hk' => ?_⟩
  · rw [← h.1]
    refine ld_upd_of_disjoint _ _ _ _ fun j j' e => ?_
    have e0 := congrArg (fun x : S4096x256.Idx => (x 0).val) e
    simp only [sRect_row, sRect0_row] at e0
    have : (j 0).val < 256 := (j 0).isLt
    omega
  · by_cases hkk : k' = k
    · subst hkk; rw [ld_upd_self, hw]
    · have hlt : k'.val < k.val := by
        have : k'.val ≠ k.val := fun e => hkk (Fin.ext e)
        omega
      rw [← h.2 k' hlt]
      refine ld_upd_of_disjoint _ _ _ _ fun j j' e => ?_
      have e0 := congrArg (fun x : S4096x256.Idx => (x 0).val) e
      simp only [sRect_row] at e0
      have : (j 0).val < 256 := (j 0).isLt
      omega

/-- Before trip `n` of the score loop. -/
def inv1 (c : Dev nD) (i : grid0.Coords) (arg4 : Memref sig .tc .vmem S1x16384x128 .fp8e4m3) (arg10 : Memref sig .tc .vmem S4096x256 .f32)
    (X4 : Vec F S1x16384x128 .fp8e4m3) (q : FVec F S256x128 .fp8e4m3) (n : Nat) (acc : FVec F S8x256 .f32) : sProp 𝕄 :=
  iprop(⌜acc = mxAt i X4 q n⌝ ∗ owns (c : Thread nD τ) arg4 fullShare X4
    ∗ ∃ X10, ⌜ScoresAt i X4 q X10 n⌝ ∗ owns (c : Thread nD τ) arg10 fullShare X10)

theorem sound_trip1 (c : Dev nD) (i : grid0.Coords) (arg4 : Memref sig .tc .vmem S1x16384x128 .fp8e4m3) (arg10 : Memref sig .tc .vmem S4096x256 .f32)
    (X4 : Vec F S1x16384x128 .fp8e4m3) (q : FVec F S256x128 .fp8e4m3) (k : Fin (k0_t1_loop i).trips) (acc : FVec F S8x256 .f32) :
    inv1 c i arg4 arg10 X4 q k.val acc
      ⊢ wp frame (wpE (defs₀ (F := F)) Variants.none c none) Set.univ (trip1 i arg4 arg10 q k acc) (inv1 c i arg4 arg10 X4 q (k.val + 1)) := by
  unfold inv1 trip1
  have hb : scores (ld X4 (Rect.unit (s := S1x16384x128) (k0_off3 i k) S1x256x128.size (k0_off3_inb i k))) q = sBlk i X4 q k.val := by
    unfold sBlk; rw [dif_pos (show k.val < nFull i from k.isLt)]
  iintro ⟨%hacc, H4, %X10, %hX, H10⟩
  iapply (wp_ld Variants.none (c : Thread nD τ) none Set.univ) $$ H4; iintro H4
  iapply (wp_ld Variants.none (c : Thread nD τ) none Set.univ) $$ H10; iintro H10
  iapply (wp_upd Variants.none (c : Thread nD τ) none Set.univ) $$ H10; iintro H10
  rw [wp_ret]; imodintro
  isplitr
  · ipureintro
    rw [hacc, hb]; rfl
  isplitl [H4]; · iexact H4
  iexists _; isplitr; swap; · iexact H10
  ipureintro
  refine ScoresAt.step k hX _ ?_
  rw [shapeCast_self]; exact hb

/-- The score loop: it leaves every block's scores in the scratch and carries the running maximum. -/
theorem sound_loop1 (c : Dev nD) (i : grid0.Coords) (arg4 : Memref sig .tc .vmem S1x16384x128 .fp8e4m3) (arg10 : Memref sig .tc .vmem S4096x256 .f32)
    (X4 : Vec F S1x16384x128 .fp8e4m3) (q : FVec F S256x128 .fp8e4m3) (X10 : Vec F S4096x256 .f32) (hX : ld X10 sRect0 = sDiag i X4 q)
    {β : Type} {kk : FVec F S8x256 .f32 → Prog (TpuEff nD τ sig (Elt F) Λ₀ .tc) β} {K : β → sProp 𝕄} :
    iprop(owns (c : Thread nD τ) arg4 fullShare X4 ∗ owns (c : Thread nD τ) arg10 fullShare X10)
      ⊢ iprop((∀ X10', ⌜ScoresAt i X4 q X10' (nFull i)⌝ -∗ owns (c : Thread nD τ) arg4 fullShare X4 -∗ owns (c : Thread nD τ) arg10 fullShare X10'
            -∗ wp frame (wpE (defs₀ (F := F)) Variants.none c none) Set.univ (kk (mxAt i X4 q (nFull i))) K)
        -∗ wp frame (wpE (defs₀ (F := F)) Variants.none c none) Set.univ
            (Scf.for (k0_t1_loop i).lb (k0_t1_loop i).ub (k0_t1_loop i).st (k0_t1_ok i) (mx0 (sDiag i X4 q)) (trip1 i arg4 arg10 q) >>= kk) K) := by
  iintro ⟨H4, H10⟩ Hk
  iapply (Scf.wp_for_bind frame (wpE (defs₀ (F := F)) Variants.none c none) Set.univ _ _ _ (k0_t1_ok i) _ _
    (inv1 c i arg4 arg10 X4 q) (sound_trip1 c i arg4 arg10 X4 q)) $$ [H4 H10]
  · unfold inv1
    isplitr; · ipureintro; rfl
    isplitl [H4]; · iexact H4
    iexists X10; isplitr; swap; · iexact H10
    ipureintro; exact ⟨hX, fun k hk => absurd hk (Nat.not_lt_zero _)⟩
  iintro %acc Hinv
  unfold inv1
  icases Hinv with ⟨%hacc, H4, %X', %hX', H10⟩
  rw [hacc]
  iapply Hk $$ %X' [] H4 H10
  ipureintro; exact hX'

/-! ## The value loop -/

/-- Before trip `n` of the value loop. -/
def inv3 (c : Dev nD) (i : grid0.Coords) (arg5 : Memref sig .tc .vmem S1x128x16384 .fp8e4m3) (arg10 : Memref sig .tc .vmem S4096x256 .f32)
    (arg11 : Memref sig .tc .vmem S128x256 .f32) (X4 : Vec F S1x16384x128 .fp8e4m3) (X5 : Vec F S1x128x16384 .fp8e4m3)
    (cv : FVec F S1x128 .f32) (q : FVec F S256x128 .fp8e4m3) (X10 : Vec F S4096x256 .f32) (n : Nat) (l : FVec F S8x256 .f32) : sProp 𝕄 :=
  iprop(⌜l = lAt i X4 cv q n⌝ ∗ owns (c : Thread nD τ) arg5 fullShare X5 ∗ owns (c : Thread nD τ) arg10 fullShare X10
    ∗ ∃ X11, ⌜X11 = accAt i X4 X5 cv q n⌝ ∗ owns (c : Thread nD τ) arg11 fullShare X11)

/-- The whole accumulator. -/
abbrev aRect : Rect S128x256 := Rect.unit (s := S128x256) ![0, 0] S128x256.size inb_S128x256_S128x256_0_0

theorem aRect_emb (j : S128x256.Idx) : aRect.emb j = j := by
  funext a; apply Fin.ext
  refine (ValueKit.rect_emb_unit_val _ _ _ _ _).trans ?_
  fin_cases a <;> exact Nat.zero_add _

theorem ld_aRect (X : Vec F S128x256 .f32) : ld X aRect = X := funext fun j => congrArg X (aRect_emb j)
theorem upd_aRect (X w : Vec F S128x256 .f32) : upd X aRect w = w := by
  funext j
  have := upd_emb X aRect w j
  rwa [aRect_emb] at this

theorem sound_trip3 (c : Dev nD) (i : grid0.Coords) (arg5 : Memref sig .tc .vmem S1x128x16384 .fp8e4m3) (arg10 : Memref sig .tc .vmem S4096x256 .f32)
    (arg11 : Memref sig .tc .vmem S128x256 .f32) (X4 : Vec F S1x16384x128 .fp8e4m3) (X5 : Vec F S1x128x16384 .fp8e4m3)
    (cv : FVec F S1x128 .f32) (q : FVec F S256x128 .fp8e4m3) (X10 : Vec F S4096x256 .f32) (hX : ScoresAt i X4 q X10 (nFull i))
    (k : Fin (k0_t3_loop i).trips) (l : FVec F S8x256 .f32) :
    inv3 c i arg5 arg10 arg11 X4 X5 cv q X10 k.val l
      ⊢ wp frame (wpE (defs₀ (F := F)) Variants.none c none) Set.univ (trip3 i arg5 arg10 arg11 (c2Vec cv) (mAll i X4 cv q) k l)
          (inv3 c i arg5 arg10 arg11 X4 X5 cv q X10 (k.val + 1)) := by
  unfold inv3 trip3
  have hs : ld X10 (Rect.unit (s := S4096x256) (k0_off9 i k) S256x256.size (k0_off9_inb i k)) = sBlk i X4 q k.val :=
    hX.2 k k.isLt
  have hp : pTile (c2Vec cv) (mAll i X4 cv q) (ld X10 (Rect.unit (s := S4096x256) (k0_off9 i k) S256x256.size (k0_off9_inb i k))) = pBlk i X4 cv q k.val := by
    rw [hs]; rfl
  have hv : ld X5 (Rect.unit (s := S1x128x16384) (k0_off10 i k) S1x128x256.size (k0_off10_inb i k)) = vBlk i X5 k.val := by
    unfold vBlk; rw [dif_pos (show k.val < nFull i from k.isLt)]
  iintro ⟨%hl, H5, H10, %X11, %h11, H11⟩
  iapply (wp_ld Variants.none (c : Thread nD τ) none Set.univ) $$ H10; iintro H10
  iapply (wp_ld Variants.none (c : Thread nD τ) none Set.univ) $$ H11; iintro H11
  iapply (wp_ld Variants.none (c : Thread nD τ) none Set.univ) $$ H5; iintro H5
  iapply (wp_ld Variants.none (c : Thread nD τ) none Set.univ) $$ H11; iintro H11
  iapply (wp_upd Variants.none (c : Thread nD τ) none Set.univ) $$ H11; iintro H11
  rw [wp_ret]; imodintro
  isplitr
  · ipureintro
    rw [hl, hp]; rfl
  isplitl [H5]; · iexact H5
  isplitl [H10]; · iexact H10
  iexists _; isplitr; swap; · iexact H11
  ipureintro
  rw [upd_aRect, ld_aRect, shapeCast_self, hp, hv, h11]; rfl

/-- The value loop: it accumulates every block's values and sums. -/
theorem sound_loop3 (c : Dev nD) (i : grid0.Coords) (arg5 : Memref sig .tc .vmem S1x128x16384 .fp8e4m3) (arg10 : Memref sig .tc .vmem S4096x256 .f32)
    (arg11 : Memref sig .tc .vmem S128x256 .f32) (X4 : Vec F S1x16384x128 .fp8e4m3) (X5 : Vec F S1x128x16384 .fp8e4m3)
    (cv : FVec F S1x128 .f32) (q : FVec F S256x128 .fp8e4m3) (X10 : Vec F S4096x256 .f32) (hX : ScoresAt i X4 q X10 (nFull i))
    {β : Type} {kk : FVec F S8x256 .f32 → Prog (TpuEff nD τ sig (Elt F) Λ₀ .tc) β} {K : β → sProp 𝕄} :
    iprop(owns (c : Thread nD τ) arg5 fullShare X5 ∗ owns (c : Thread nD τ) arg10 fullShare X10
        ∗ owns (c : Thread nD τ) arg11 fullShare (accAt i X4 X5 cv q 0))
      ⊢ iprop((owns (c : Thread nD τ) arg5 fullShare X5 -∗ owns (c : Thread nD τ) arg10 fullShare X10
            -∗ owns (c : Thread nD τ) arg11 fullShare (accAt i X4 X5 cv q (nFull i))
            -∗ wp frame (wpE (defs₀ (F := F)) Variants.none c none) Set.univ (kk (lAt i X4 cv q (nFull i))) K)
        -∗ wp frame (wpE (defs₀ (F := F)) Variants.none c none) Set.univ
            (Scf.for (k0_t3_loop i).lb (k0_t3_loop i).ub (k0_t3_loop i).st (k0_t3_ok i) (l0 i (pDiag i X4 cv q))
              (trip3 i arg5 arg10 arg11 (c2Vec cv) (mAll i X4 cv q)) >>= kk) K) := by
  iintro ⟨H5, H10, H11⟩ Hk
  iapply (Scf.wp_for_bind frame (wpE (defs₀ (F := F)) Variants.none c none) Set.univ _ _ _ (k0_t3_ok i) _ _
    (inv3 c i arg5 arg10 arg11 X4 X5 cv q X10) (sound_trip3 c i arg5 arg10 arg11 X4 X5 cv q X10 hX)) $$ [H5 H10 H11]
  · unfold inv3
    isplitr; · ipureintro; rfl
    isplitl [H5]; · iexact H5
    isplitl [H10]; · iexact H10
    iexists _; isplitr; swap; · iexact H11
    ipureintro; rfl
  iintro %l Hinv
  unfold inv3
  icases Hinv with ⟨%hl, H5, H10, %X', %hX', H11⟩
  have e : Scf.trips (k0_t3_loop i).lb (k0_t3_loop i).ub (k0_t3_loop i).st = nFull i := rfl
  rw [hl, hX', e]
  iapply Hk $$ H5 H10 H11

/-! ## The head -/

/-- The head's tile of the output block. -/
abbrev oRect (o : Nat) (h3 : ∀ a, (![0, 0, o] : Fin 3 → Nat) a + S1x256x128.size a ≤ S1x256x1024.size a) : Rect S1x256x1024 :=
  Rect.unit (s := S1x256x1024) ![0, 0, o] S1x256x128.size h3

/-- The output block after one head. -/
def headUpd (i : grid0.Coords) (X3 : Vec F S1x256x1024 .fp8e4m3) (X4 : Vec F S1x16384x128 .fp8e4m3) (X5 : Vec F S1x128x16384 .fp8e4m3)
    (X6 : Vec F S1x1024 .f32) (v13 v15 : Vec F S1x128 .f32) (o : Nat)
    (h6 : ∀ a, (![0, o] : Fin 2 → Nat) a + S1x128.size a ≤ S1x1024.size a)
    (h3 : ∀ a, (![0, 0, o] : Fin 3 → Nat) a + S1x256x128.size a ≤ S1x256x1024.size a) : FVec F S256x128 .bf16 :=
  headOut i X4 X5 (cVec v13 (ld X6 (Rect.unit (s := S1x1024) ![0, o] S1x128.size h6)))
    (qMat (cVec v13 (ld X6 (Rect.unit (s := S1x1024) ![0, o] S1x128.size h6))) (ld X3 (oRect o h3))) v15

theorem sound_head (c : Dev nD) (i : grid0.Coords) (arg3 : Memref sig .tc .vmem S1x256x1024 .fp8e4m3) (arg4 : Memref sig .tc .vmem S1x16384x128 .fp8e4m3)
    (arg5 : Memref sig .tc .vmem S1x128x16384 .fp8e4m3) (arg6 : Memref sig .tc .vmem S1x1024 .f32)
    (arg9 : Memref sig .tc .vmem S1x256x1024 .bf16) (harg9 : arg9.IsWhole)
    (arg10 : Memref sig .tc .vmem S4096x256 .f32) (arg11 : Memref sig .tc .vmem S128x256 .f32)
    (o : Nat) (h6 : ∀ a, (![0, o] : Fin 2 → Nat) a + S1x128.size a ≤ S1x1024.size a)
    (h3 : ∀ a, (![0, 0, o] : Fin 3 → Nat) a + S1x256x128.size a ≤ S1x256x1024.size a)
    (hp : (Rect.unit (s := S1x256x1024) ![0, 0, o] S1x256x128.size h3).PackedRows (EltTy.packing .bf16))
    (v13 v15 : Vec F S1x128 .f32)
    (X3 : Vec F S1x256x1024 .fp8e4m3) (X4 : Vec F S1x16384x128 .fp8e4m3) (X5 : Vec F S1x128x16384 .fp8e4m3) (X6 : Vec F S1x1024 .f32)
    (X9 : Vec F S1x256x1024 .bf16) (K : PUnit → sProp 𝕄) :
    iprop(owns (c : Thread nD τ) arg3 fullShare X3 ∗ owns (c : Thread nD τ) arg4 fullShare X4 ∗ owns (c : Thread nD τ) arg5 fullShare X5
        ∗ owns (c : Thread nD τ) arg6 fullShare X6 ∗ owns (c : Thread nD τ) arg9 fullShare X9
        ∗ (∃ d, owns (c : Thread nD τ) arg10 fullShare d) ∗ (∃ d, owns (c : Thread nD τ) arg11 fullShare d))
      ⊢ iprop((owns (c : Thread nD τ) arg3 fullShare X3 -∗ owns (c : Thread nD τ) arg4 fullShare X4 -∗ owns (c : Thread nD τ) arg5 fullShare X5
        -∗ owns (c : Thread nD τ) arg6 fullShare X6
        -∗ owns (c : Thread nD τ) arg9 fullShare (upd X9 (oRect o h3) (shapeCast S1x256x128 (headUpd i X3 X4 X5 X6 v13 v15 o h6 h3) shapeCasts_S256x128_S1x256x128))
        -∗ (∃ d, owns (c : Thread nD τ) arg10 fullShare d) -∗ (∃ d, owns (c : Thread nD τ) arg11 fullShare d) -∗ K ⟨⟩)
      -∗ wp frame (wpE (defs₀ (F := F)) Variants.none c none) Set.univ
          (headProg i arg3 arg4 arg5 arg6 arg9 harg9 arg10 arg11 o h6 h3 hp v13 v15) K) := by
  rw [headProg_eq]
  unfold headUpd headOut
  iintro ⟨H3, H4, H5, H6, H9, ⟨%X10, H10⟩, ⟨%X11, H11⟩⟩ Hk
  iapply (wp_ld Variants.none (c : Thread nD τ) none Set.univ) $$ H6; iintro H6
  iapply (wp_ld Variants.none (c : Thread nD τ) none Set.univ) $$ H3; iintro H3
  unfold coreProg
  iapply (wp_ld Variants.none (c : Thread nD τ) none Set.univ) $$ H4; iintro H4
  iapply (wp_ld Variants.none (c : Thread nD τ) none Set.univ) $$ H4; iintro H4
  iapply (wp_ld Variants.none (c : Thread nD τ) none Set.univ) $$ H10; iintro H10
  iapply (wp_upd Variants.none (c : Thread nD τ) none Set.univ) $$ H10; iintro H10
  iapply (sound_loop1 c i arg4 arg10 X4 (qMat (cVec v13 (ld X6 (Rect.unit (s := S1x1024) ![0, o] S1x128.size h6))) (ld X3 (oRect o h3)))
    (upd X10 sRect0 (shapeCast S256x256 (sDiag i X4 (qMat (cVec v13 (ld X6 (Rect.unit (s := S1x1024) ![0, o] S1x128.size h6))) (ld X3 (oRect o h3)))) shapeCasts_S256x256_S256x256))
    (by rw [ld_upd_self, shapeCast_self])) $$ [H4 H10]
  · isplitl [H4]
    · iexact H4
    · iexact H10
  iintro %X10' %hX H4 H10
  unfold midProg
  iapply (wp_ld Variants.none (c : Thread nD τ) none Set.univ) $$ H10; iintro H10
  iapply (wp_ld Variants.none (c : Thread nD τ) none Set.univ) $$ H5; iintro H5
  iapply (wp_ld Variants.none (c : Thread nD τ) none Set.univ) $$ H5; iintro H5
  iapply (wp_ld Variants.none (c : Thread nD τ) none Set.univ) $$ H11; iintro H11
  iapply (wp_upd Variants.none (c : Thread nD τ) none Set.univ) $$ H11; iintro H11
  have h0 : ld X10' sRect0 = _ := hX.1
  rw [upd_aRect, shapeCast_self, h0]
  iapply (sound_loop3 c i arg5 arg10 arg11 X4 X5 (cVec v13 (ld X6 (Rect.unit (s := S1x1024) ![0, o] S1x128.size h6)))
    (qMat (cVec v13 (ld X6 (Rect.unit (s := S1x1024) ![0, o] S1x128.size h6))) (ld X3 (oRect o h3))) X10' hX) $$ [H5 H10 H11]
  · isplitl [H5]; · iexact H5
    isplitl [H10]; · iexact H10
    iexact H11
  iintro H5 H10 H11
  unfold tailProg
  iapply (wp_ld Variants.none (c : Thread nD τ) none Set.univ) $$ H11; iintro H11
  iapply (wp_ld Variants.none (c : Thread nD τ) none Set.univ) $$ H9; iintro H9
  iapply (wp_upd Variants.none (c : Thread nD τ) none Set.univ) $$ H9; iintro H9
  rw [wp_ret]; imodintro
  rw [ld_aRect]
  iapply Hk $$ H3 H4 H5 H6 H9 [H10] [H11]
  · iexists _; iexact H10
  · iexists _; iexact H11

end Cert.KernelIdeal.Body

end
-- ==== Proof.KernelIdeal.BodyEq.lean ====
/-
  The printed kernel function is two scale loads followed by eight heads.
-/
module

public import proofs.«01_k».proof.Proof.KernelIdeal.Body

@[expose] public section

noncomputable section

namespace Cert.KernelIdeal.Body

open Idealize.ShloMosaic Idealize.SL.Sem Cert.KernelIdeal Cert.KernelIdeal.Gen

variable {F : FTy → Type} [FloatOps F] [Named F]

set_option maxRecDepth 65536 in
set_option maxHeartbeats 4000000 in
/-- The printed kernel function is the two scale loads and the eight heads. -/
theorem kernel_eq_heads (i : grid0.Coords) (arg3 : Memref sig .tc .vmem S1x256x1024 .fp8e4m3) (harg3 : arg3.IsWhole) (arg4 : Memref sig .tc .vmem S1x16384x128 .fp8e4m3) (harg4 : arg4.IsWhole)
    (arg5 : Memref sig .tc .vmem S1x128x16384 .fp8e4m3) (harg5 : arg5.IsWhole) (arg6 : Memref sig .tc .vmem S1x1024 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x256x1024 .bf16) (harg9 : arg9.IsWhole)
    (arg10 : Memref sig .tc .vmem S4096x256 .f32) (harg10 : arg10.IsWhole) (arg11 : Memref sig .tc .vmem S128x256 .f32) (harg11 : arg11.IsWhole) :
    cc0__attn_kernel (F := F) i arg3 harg3 arg4 harg4 arg5 harg5 arg6 harg6 arg7 harg7 arg8 harg8 arg9 harg9 arg10 harg10 arg11 harg11 =
      headsProg i arg3 arg4 arg5 arg6 arg7 arg8 arg9 harg9 arg10 arg11 := by
  rw [cc0__attn_kernel_eq_skeleton]
  simp only [cc0__attn_kernel_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_t1_body, k0_t2_body, k0_t3_body, k0_t4_body, k0_t5_body, k0_t6_body, k0_t7_body, k0_t8_body, k0_t9_body, k0_t10_body, k0_t11_body, k0_t12_body, k0_t13_body, k0_t14_body, k0_t15_body, k0_t16_body, k0_t17_body, k0_t18_body, k0_t19_body, k0_t20_body, k0_t21_body, k0_t22_body, k0_t23_body, k0_t24_body, k0_t25_body, k0_t26_body, k0_t27_body, k0_t28_body, k0_t29_body, k0_t30_body, k0_t31_body, k0_t32_body, headsProg, headProg, bind_assoc, pure_bind]
  rfl

end Cert.KernelIdeal.Body

end
-- ==== Proof.KernelIdeal.Run.lean ====
/-
  The kernel's body at every grid point, and the run of the whole program: the eight heads leave the block `outBlk` of the
  blocks they read; the launch terminates with every semaphore at zero, the arguments unchanged (`frame`) and the result
  array built from the blocks `outBlk` (`run_main`).
-/
module

public import proofs.«01_k».proof.Proof.KernelIdeal.Head
public import proofs.«01_k».proof.Proof.KernelIdeal.BodyEq
public import Idealize.ShloMosaic.Lib.ValueIdxCore
public import Idealize.ShloMosaic.Lib.Claim

@[expose] public section

noncomputable section

namespace Cert.KernelIdeal.Body

open Cert.KernelIdeal Cert.KernelIdeal.Gen Cert.Owned
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix3)
open Idealize.ShloMosaic.Pipeline (Dat BodyObligation)

variable {F : FTy → Type} [FloatOps F] [Named F]

local notation "𝕄" => MT nD τ sig Unit (Elt F) ℕ (UR sig nD τ) ℕ

/-! ## The eight heads -/

theorem lanes6 (g : Fin 8) : ∀ a, (![0, 128 * g.val] : Fin 2 → Nat) a + S1x128.size a ≤ S1x1024.size a := by
  have := g.isLt
  intro a; fin_cases a
  · show 0 + 1 ≤ 1; omega
  · show 128 * g.val + 128 ≤ 1024; omega
theorem lanes3 (g : Fin 8) : ∀ a, (![0, 0, 128 * g.val] : Fin 3 → Nat) a + S1x256x128.size a ≤ S1x256x1024.size a := by
  have := g.isLt
  intro a; fin_cases a
  · show 0 + 1 ≤ 1; omega
  · show 0 + 256 ≤ 256; omega
  · show 128 * g.val + 128 ≤ 1024; omega

section Out
variable (i : grid0.Coords) (X3 : Vec F S1x256x1024 .fp8e4m3) (X4 : Vec F S1x16384x128 .fp8e4m3) (X5 : Vec F S1x128x16384 .fp8e4m3)
  (X6 : Vec F S1x1024 .f32) (X7 X8 : Vec F S1x128 .f32)

/-- Head `g`'s output tile at a grid point, from the blocks the point reads. -/
def headTile (g : Fin 8) : FVec F S256x128 .bf16 :=
  headUpd i X3 X4 X5 X6 (ld X7 (Rect.unit (s := S1x128) ![0, 0] S1x128.size inb_S1x128_S1x128_0_0))
    (ld X8 (Rect.unit (s := S1x128) ![0, 0] S1x128.size inb_S1x128_S1x128_0_0)) (128 * g.val) (lanes6 g) (lanes3 g)

/-- The point's output block: lane `128 * g + d` is lane `d` of head `g`'s tile. -/
def outBlk : Vec F S1x256x1024 .bf16 := fun y =>
  shapeCast S1x256x128 (headTile i X3 X4 X5 X6 X7 X8 ⟨(y 2).val / 128, by have h : (y 2).val < 1024 := (y 2).isLt; omega⟩) shapeCasts_S256x128_S1x256x128
    (ix3 (n0 := 1) (n1 := 256) (n2 := 128) 0 (y 1) ⟨(y 2).val % 128, Nat.mod_lt _ (by omega)⟩)

/-- The first `n` heads' tiles are in the block. -/
def TilesAt (X : Vec F S1x256x1024 .bf16) (n : Nat) : Prop :=
  ∀ g : Fin 8, g.val < n → ld X (oRect (128 * g.val) (lanes3 g)) = shapeCast S1x256x128 (headTile i X3 X4 X5 X6 X7 X8 g) shapeCasts_S256x128_S1x256x128

theorem oRect_lane (o : Nat) (h3) (j : S1x256x128.Idx) : ((oRect o h3).emb j 2).val = o + (j 2).val :=
  ValueKit.rect_emb_unit_val (s := S1x256x1024) ![0, 0, o] S1x256x128.size h3 j 2
theorem oRect_row (o : Nat) (h3) (j : S1x256x128.Idx) : ((oRect o h3).emb j 1).val = (j 1).val :=
  (ValueKit.rect_emb_unit_val (s := S1x256x1024) ![0, 0, o] S1x256x128.size h3 j 1).trans (Nat.zero_add _)

variable {i X3 X4 X5 X6 X7 X8} in
theorem TilesAt.step {X : Vec F S1x256x1024 .bf16} (g : Fin 8) (h : TilesAt i X3 X4 X5 X6 X7 X8 X g.val) :
    TilesAt i X3 X4 X5 X6 X7 X8 (upd X (oRect (128 * g.val) (lanes3 g)) (shapeCast S1x256x128 (headTile i X3 X4 X5 X6 X7 X8 g) shapeCasts_S256x128_S1x256x128)) (g.val + 1) := by
  intro g' hg'
  by_cases e : g' = g
  · subst e; exact ld_upd_self _ _ _
  · have hlt : g'.val < g.val := by
      have : g'.val ≠ g.val := fun h => e (Fin.ext h)
      omega
    rw [← h g' hlt]
    refine ld_upd_of_disjoint _ _ _ _ fun j j' e => ?_
    have e0 := congrArg (fun x : S1x256x1024.Idx => (x 2).val) e
    simp only [oRect_lane] at e0
    have : (j 2).val < 128 := (j 2).isLt
    omega

variable {i X3 X4 X5 X6 X7 X8} in
theorem TilesAt.eq {X : Vec F S1x256x1024 .bf16} (h : TilesAt i X3 X4 X5 X6 X7 X8 X 8) : X = outBlk i X3 X4 X5 X6 X7 X8 := by
  funext y
  have h2 : (y 2).val < 1024 := (y 2).isLt
  unfold outBlk
  rw [← h ⟨(y 2).val / 128, by omega⟩ (by show (y 2).val / 128 < 8; omega)]
  unfold ld
  congr 1
  funext a; apply Fin.ext
  match a with
  | ⟨0, _⟩ =>
    have h0 : (y 0).val < 1 := (y 0).isLt
    refine Eq.trans (b := 0) (by show (y 0).val = 0; omega) ?_
    exact (Nat.lt_one_iff.mp ((oRect (128 * ((y 2).val / 128)) _).emb _ 0).isLt).symm
  | ⟨1, _⟩ =>
    refine Eq.trans (b := (ix3 (n0 := 1) (n1 := 256) (n2 := 128) 0 (y 1) ⟨(y 2).val % 128, Nat.mod_lt _ (by omega)⟩ 1).val) rfl ?_
    exact (oRect_row (128 * ((y 2).val / 128)) (lanes3 ⟨(y 2).val / 128, by omega⟩) (ix3 (n0 := 1) (n1 := 256) (n2 := 128) 0 (y 1) ⟨(y 2).val % 128, Nat.mod_lt _ (by omega)⟩)).symm
  | ⟨2, _⟩ =>
    refine Eq.trans ?_ (oRect_lane _ _ _).symm
    show (y 2).val = 128 * ((y 2).val / 128) + (y 2).val % 128
    omega

end Out

/-- What the heads are run in: the blocks, the output block with the first `n` tiles done, the scratch at anything. -/
def mid (c : Dev nD) (i : grid0.Coords) (arg3 : Memref sig .tc .vmem S1x256x1024 .fp8e4m3) (arg4 : Memref sig .tc .vmem S1x16384x128 .fp8e4m3)
    (arg5 : Memref sig .tc .vmem S1x128x16384 .fp8e4m3) (arg6 : Memref sig .tc .vmem S1x1024 .f32)
    (arg9 : Memref sig .tc .vmem S1x256x1024 .bf16)
    (arg10 : Memref sig .tc .vmem S4096x256 .f32) (arg11 : Memref sig .tc .vmem S128x256 .f32)
    (X3 : Vec F S1x256x1024 .fp8e4m3) (X4 : Vec F S1x16384x128 .fp8e4m3) (X5 : Vec F S1x128x16384 .fp8e4m3)
    (X6 : Vec F S1x1024 .f32) (X7 X8 : Vec F S1x128 .f32) (n : Nat) : sProp 𝕄 :=
  iprop(owns (c : Thread nD τ) arg3 fullShare X3 ∗ owns (c : Thread nD τ) arg4 fullShare X4 ∗ owns (c : Thread nD τ) arg5 fullShare X5
    ∗ owns (c : Thread nD τ) arg6 fullShare X6
    ∗ (∃ X9, ⌜TilesAt i X3 X4 X5 X6 X7 X8 X9 n⌝ ∗ owns (c : Thread nD τ) arg9 fullShare X9)
    ∗ (∃ d, owns (c : Thread nD τ) arg10 fullShare d) ∗ (∃ d, owns (c : Thread nD τ) arg11 fullShare d))

/-- Head `g` does tile `g`. -/
theorem sound_step (c : Dev nD) (i : grid0.Coords) (arg3 : Memref sig .tc .vmem S1x256x1024 .fp8e4m3) (arg4 : Memref sig .tc .vmem S1x16384x128 .fp8e4m3)
    (arg5 : Memref sig .tc .vmem S1x128x16384 .fp8e4m3) (arg6 : Memref sig .tc .vmem S1x1024 .f32)
    (arg9 : Memref sig .tc .vmem S1x256x1024 .bf16) (harg9 : arg9.IsWhole)
    (arg10 : Memref sig .tc .vmem S4096x256 .f32) (arg11 : Memref sig .tc .vmem S128x256 .f32)
    (X3 : Vec F S1x256x1024 .fp8e4m3) (X4 : Vec F S1x16384x128 .fp8e4m3) (X5 : Vec F S1x128x16384 .fp8e4m3)
    (X6 : Vec F S1x1024 .f32) (X7 X8 : Vec F S1x128 .f32) (g : Fin 8) (n n' o : Nat) (hn : n = g.val) (hn' : n' = g.val + 1) (ho : o = 128 * g.val)
    (h6 : ∀ a, (![0, o] : Fin 2 → Nat) a + S1x128.size a ≤ S1x1024.size a) (h3 : ∀ a, (![0, 0, o] : Fin 3 → Nat) a + S1x256x128.size a ≤ S1x256x1024.size a)
    (hp : (Rect.unit (s := S1x256x1024) ![0, 0, o] S1x256x128.size h3).PackedRows (EltTy.packing .bf16)) (K : PUnit → sProp 𝕄) :
    mid c i arg3 arg4 arg5 arg6 arg9 arg10 arg11 X3 X4 X5 X6 X7 X8 n
      ⊢ iprop((mid c i arg3 arg4 arg5 arg6 arg9 arg10 arg11 X3 X4 X5 X6 X7 X8 n' -∗ K ⟨⟩)
        -∗ wp frame (wpE (defs₀ (F := F)) Variants.none c none) Set.univ
            (headProg i arg3 arg4 arg5 arg6 arg9 harg9 arg10 arg11 o h6 h3 hp
              (ld X7 (Rect.unit (s := S1x128) ![0, 0] S1x128.size inb_S1x128_S1x128_0_0))
              (ld X8 (Rect.unit (s := S1x128) ![0, 0] S1x128.size inb_S1x128_S1x128_0_0))) K) := by
  subst hn hn' ho
  unfold mid
  iintro ⟨H3, H4, H5, H6, ⟨%X9, %hX, H9⟩, H10, H11⟩ Hk
  iapply (sound_head c i arg3 arg4 arg5 arg6 arg9 harg9 arg10 arg11 (128 * g.val) (lanes6 g) (lanes3 g) hp _ _ X3 X4 X5 X6 X9 K) $$ [H3 H4 H5 H6 H9 H10 H11]
  · isplitl [H3]; · iexact H3
    isplitl [H4]; · iexact H4
    isplitl [H5]; · iexact H5
    isplitl [H6]; · iexact H6
    isplitl [H9]; · iexact H9
    isplitl [H10]; · iexact H10
    iexact H11
  iintro H3 H4 H5 H6 H9 H10 H11
  iapply Hk
  isplitl [H3]; · iexact H3
  isplitl [H4]; · iexact H4
  isplitl [H5]; · iexact H5
  isplitl [H6]; · iexact H6
  isplitl [H9]
  · iexists _; isplitr; swap; · iexact H9
    ipureintro
    exact TilesAt.step g hX
  isplitl [H10]; · iexact H10
  iexact H11

/-- The body's triple: from its blocks, the output's memref and the two scratch arrays, the kernel function leaves `outBlk`. -/
theorem sound_kernel (c : Dev nD) (i : grid0.Coords) (arg3 : Memref sig .tc .vmem S1x256x1024 .fp8e4m3) (harg3 : arg3.IsWhole)
    (arg4 : Memref sig .tc .vmem S1x16384x128 .fp8e4m3) (harg4 : arg4.IsWhole)
    (arg5 : Memref sig .tc .vmem S1x128x16384 .fp8e4m3) (harg5 : arg5.IsWhole) (arg6 : Memref sig .tc .vmem S1x1024 .f32) (harg6 : arg6.IsWhole)
    (arg7 : Memref sig .tc .vmem S1x128 .f32) (harg7 : arg7.IsWhole) (arg8 : Memref sig .tc .vmem S1x128 .f32) (harg8 : arg8.IsWhole)
    (arg9 : Memref sig .tc .vmem S1x256x1024 .bf16) (harg9 : arg9.IsWhole)
    (arg10 : Memref sig .tc .vmem S4096x256 .f32) (harg10 : arg10.IsWhole) (arg11 : Memref sig .tc .vmem S128x256 .f32) (harg11 : arg11.IsWhole)
    (X3 : Vec F S1x256x1024 .fp8e4m3) (X4 : Vec F S1x16384x128 .fp8e4m3) (X5 : Vec F S1x128x16384 .fp8e4m3)
    (X6 : Vec F S1x1024 .f32) (X7 X8 : Vec F S1x128 .f32) (K : PUnit → sProp 𝕄) :
    iprop(owns (c : Thread nD τ) arg3 fullShare X3 ∗ owns (c : Thread nD τ) arg4 fullShare X4 ∗ owns (c : Thread nD τ) arg5 fullShare X5
        ∗ owns (c : Thread nD τ) arg6 fullShare X6 ∗ owns (c : Thread nD τ) arg7 fullShare X7 ∗ owns (c : Thread nD τ) arg8 fullShare X8
        ∗ (∃ d, owns (c : Thread nD τ) arg9 fullShare d)
        ∗ (∃ d, owns (c : Thread nD τ) arg10 fullShare d) ∗ (∃ d, owns (c : Thread nD τ) arg11 fullShare d)
        ∗ (owns (c : Thread nD τ) arg3 fullShare X3 -∗ owns (c : Thread nD τ) arg4 fullShare X4 -∗ owns (c : Thread nD τ) arg5 fullShare X5
          -∗ owns (c : Thread nD τ) arg6 fullShare X6 -∗ owns (c : Thread nD τ) arg7 fullShare X7 -∗ owns (c : Thread nD τ) arg8 fullShare X8
          -∗ owns (c : Thread nD τ) arg9 fullShare (outBlk i X3 X4 X5 X6 X7 X8)
          -∗ (∃ d, owns (c : Thread nD τ) arg10 fullShare d) -∗ (∃ d, owns (c : Thread nD τ) arg11 fullShare d) -∗ K ⟨⟩))
      ⊢ wp frame (wpE (defs₀ (F := F)) Variants.none c none) Set.univ
          (cc0__attn_kernel i arg3 harg3 arg4 harg4 arg5 harg5 arg6 harg6 arg7 harg7 arg8 harg8 arg9 harg9 arg10 harg10 arg11 harg11) K := by
  rw [kernel_eq_heads]
  unfold headsProg
  simp only [Prog.lift, Prog.bind_op, Prog.bind_ret]
  iintro ⟨H3, H4, H5, H6, H7, H8, ⟨%X9, H9⟩, H10, H11, Hk⟩
  iapply (wp_ld Variants.none (c : Thread nD τ) none Set.univ) $$ H7; iintro H7
  iapply (wp_ld Variants.none (c : Thread nD τ) none Set.univ) $$ H8; iintro H8
  ihave Hm : mid c i arg3 arg4 arg5 arg6 arg9 arg10 arg11 X3 X4 X5 X6 X7 X8 0 $$ [H3 H4 H5 H6 H9 H10 H11]
  · unfold mid
    isplitl [H3]; · iexact H3
    isplitl [H4]; · iexact H4
    isplitl [H5]; · iexact H5
    isplitl [H6]; · iexact H6
    isplitl [H9]
    · iexists X9; isplitr; swap; · iexact H9
      ipureintro; exact fun g hg => absurd hg (Nat.not_lt_zero _)
    isplitl [H10]; · iexact H10
    iexact H11
  rw [wp_bind]
  iapply (sound_step c i arg3 arg4 arg5 arg6 arg9 harg9 arg10 arg11 X3 X4 X5 X6 X7 X8 0 0 1 0 rfl rfl rfl inb_S1x1024_S1x128_0_0 inb_S1x256x1024_S1x256x128_0_0_0 packedbf16_S1x256x1024_S1x256x128_0_0_0 _) $$ Hm; iintro Hm
  rw [wp_bind]
  iapply (sound_step c i arg3 arg4 arg5 arg6 arg9 harg9 arg10 arg11 X3 X4 X5 X6 X7 X8 1 1 2 128 rfl rfl rfl inb_S1x1024_S1x128_0_128 inb_S1x256x1024_S1x256x128_0_0_128 packedbf16_S1x256x1024_S1x256x128_0_0_128 _) $$ Hm; iintro Hm
  rw [wp_bind]
  iapply (sound_step c i arg3 arg4 arg5 arg6 arg9 harg9 arg10 arg11 X3 X4 X5 X6 X7 X8 2 2 3 256 rfl rfl rfl inb_S1x1024_S1x128_0_256 inb_S1x256x1024_S1x256x128_0_0_256 packedbf16_S1x256x1024_S1x256x128_0_0_256 _) $$ Hm; iintro Hm
  rw [wp_bind]
  iapply (sound_step c i arg3 arg4 arg5 arg6 arg9 harg9 arg10 arg11 X3 X4 X5 X6 X7 X8 3 3 4 384 rfl rfl rfl inb_S1x1024_S1x128_0_384 inb_S1x256x1024_S1x256x128_0_0_384 packedbf16_S1x256x1024_S1x256x128_0_0_384 _) $$ Hm; iintro Hm
  rw [wp_bind]
  iapply (sound_step c i arg3 arg4 arg5 arg6 arg9 harg9 arg10 arg11 X3 X4 X5 X6 X7 X8 4 4 5 512 rfl rfl rfl inb_S1x1024_S1x128_0_512 inb_S1x256x1024_S1x256x128_0_0_512 packedbf16_S1x256x1024_S1x256x128_0_0_512 _) $$ Hm; iintro Hm
  rw [wp_bind]
  iapply (sound_step c i arg3 arg4 arg5 arg6 arg9 harg9 arg10 arg11 X3 X4 X5 X6 X7 X8 5 5 6 640 rfl rfl rfl inb_S1x1024_S1x128_0_640 inb_S1x256x1024_S1x256x128_0_0_640 packedbf16_S1x256x1024_S1x256x128_0_0_640 _) $$ Hm; iintro Hm
  rw [wp_bind]
  iapply (sound_step c i arg3 arg4 arg5 arg6 arg9 harg9 arg10 arg11 X3 X4 X5 X6 X7 X8 6 6 7 768 rfl rfl rfl inb_S1x1024_S1x128_0_768 inb_S1x256x1024_S1x256x128_0_0_768 packedbf16_S1x256x1024_S1x256x128_0_0_768 _) $$ Hm; iintro Hm
  iapply (sound_step c i arg3 arg4 arg5 arg6 arg9 harg9 arg10 arg11 X3 X4 X5 X6 X7 X8 7 7 8 896 rfl rfl rfl inb_S1x1024_S1x128_0_896 inb_S1x256x1024_S1x256x128_0_0_896 packedbf16_S1x256x1024_S1x256x128_0_0_896 _) $$ Hm; iintro Hm
  unfold mid
  icases Hm with ⟨H3, H4, H5, H6, ⟨%Y, %hY, H9⟩, H10, H11⟩
  have e := TilesAt.eq (i := i) (X3 := X3) (X4 := X4) (X5 := X5) (X6 := X6) (X7 := X7) (X8 := X8) hY
  rw [e]
  iapply Hk $$ H3 H4 H5 H6 H7 H8 H9 H10 H11

/-! ## The proof data and the body obligation -/

variable (m : (ℓ : Loc nD τ sig) → Buf (Elt F) ℓ) (ρ : Dev nD → PrngReg)

/-- The output block of point `t`: `outBlk` of the point's input blocks. -/
def blkAt (c : Dev nD) (t : Fin cfg0.N) : Vec F S1x256x1024 .bf16 :=
  outBlk (grid0.coords t) (iblk m c 0 t) (iblk m c 1 t) (iblk m c 2 t) (iblk m c 3 t) (iblk m c 4 t) (iblk m c 5 t)

/-- What each window's memref holds after point `t`: an input its block, the output `blkAt`. -/
def afterW (c : Dev nD) (w : Fin cfg0.W) (t : Fin cfg0.N) : ((cfg0.win w).block).Idx → Elt F (cfg0.win w).elt :=
  match w with
  | ⟨0, _⟩ => iblk m c 0 t
  | ⟨1, _⟩ => iblk m c 1 t
  | ⟨2, _⟩ => iblk m c 2 t
  | ⟨3, _⟩ => iblk m c 3 t
  | ⟨4, _⟩ => iblk m c 4 t
  | ⟨5, _⟩ => iblk m c 5 t
  | ⟨6, _⟩ => blkAt m c t

/-- The proof data on core `c`: the arrays as the region finds them, the blocks `afterW`, the scratch at anything. -/
def dats (_ : Fin 1) (c : Dev nD) : Dat τ (Elt F) Unit ℕ (UR sig nD τ) ℕ cfg0 c where
  A w := V m c (Pipeline.arrRef spec0 w)
  after w t := afterW m c w t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]; rfl
theorem after0_1 (c : Dev nD) (t : Fin cfg0.N) : (dats m 0 c).after 1 t = iblk m c 1 t := by dsimp only [dats]; rfl
theorem after0_2 (c : Dev nD) (t : Fin cfg0.N) : (dats m 0 c).after 2 t = iblk m c 2 t := by dsimp only [dats]; rfl
theorem after0_3 (c : Dev nD) (t : Fin cfg0.N) : (dats m 0 c).after 3 t = iblk m c 3 t := by dsimp only [dats]; rfl
theorem after0_4 (c : Dev nD) (t : Fin cfg0.N) : (dats m 0 c).after 4 t = iblk m c 4 t := by dsimp only [dats]; rfl
theorem after0_5 (c : Dev nD) (t : Fin cfg0.N) : (dats m 0 c).after 5 t = iblk m c 5 t := by dsimp only [dats]; rfl
theorem after0_6 (c : Dev nD) (t : Fin cfg0.N) : (dats m 0 c).after 6 t = blkAt m c t := by dsimp only [dats]; rfl

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t))

/-- The invariant between points: the two scratch arrays at some contents, and what else the region holds. -/
theorem Phi_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d))
          ∗ (∃ r, prngReg c r)) := by
  unfold Pipeline.ΦA
  rw [scopedRest0_eq]; simp only [owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, after0_4, after0_5, after0_6, Phi_eq]
  unfold blkAt
  iintro ⟨⟨⟨HS, HA⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]; · iexact HS
  isplitl [HA]; · iexact HA
  iintro H0 H1 H2 H3 H4 H5 H6 HS HA
  isplitl [HS HA Hr]
  · isplitl [HS HA]
    · isplitl [HS]; · iexact HS
      iexact HA
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- Every weakly fair execution terminates; at the end the arrays are what the pipeline computes from the proof data, and
    every semaphore counter is zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.1) (run_main m ρ))

/-- THE FRAME: the program terminates, its arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main m ρ))

end Cert.KernelIdeal.Body

end
-- ==== Proof.Math.lean ====
/-
  One query of the attention, over the extended reals: the kernel's powers of two, taken from the unscaled scores, against the
  reference's exponentials of the scaled scores.
-/
module

public import Idealize.ShloMosaic.PureOps.Ideal

@[expose] public section

noncomputable section

namespace Cert.Math

open Idealize.ShloMosaic

/-! ## One power -/

/-- `2 ^ (a / log 2 - (b / log 2 - 8)) = exp (a - b) * 256` for `a ≤ b`, infinities included. -/
theorem exp2_shift (a b : EReal) (h : a ≤ b) :
    Ideal.exp2 (a * (((Real.log 2)⁻¹ : ℝ) : EReal) - (b * (((Real.log 2)⁻¹ : ℝ) : EReal) - ((8 : ℝ) : EReal)))
      = Ideal.exp (a - b) * ((256 : ℝ) : EReal) := by
  have hl : (0 : ℝ) < Real.log 2 := Real.log_pos (by norm_num)
  have hk : (0 : ℝ) < (Real.log 2)⁻¹ := inv_pos.mpr hl
  induction b with
  | bot =>
    obtain rfl : a = ⊥ := le_bot_iff.mp h
    rw [EReal.bot_mul_coe_of_pos hk, EReal.bot_sub, EReal.bot_sub]
    show (0 : EReal) = 0 * _
    rw [zero_mul]
  | top =>
    rw [EReal.top_mul_coe_of_pos hk, EReal.top_sub_coe, EReal.sub_top, EReal.sub_top]
    show (0 : EReal) = 0 * _
    rw [zero_mul]
  | coe b =>
    induction a with
    | bot =>
      rw [EReal.bot_mul_coe_of_pos hk, EReal.bot_sub, EReal.bot_sub]
      show (0 : EReal) = 0 * _
      rw [zero_mul]
    | top => exact absurd h (by simp)
    | coe a =>
      rw [← EReal.coe_mul, ← EReal.coe_mul, ← EReal.coe_sub, ← EReal.coe_sub, ← EReal.coe_sub]
      show ((Real.rpow 2 _ : ℝ) : EReal) = ((Real.exp _ : ℝ) : EReal) * _
      rw [← EReal.coe_mul]
      congr 1
      show (2 : ℝ) ^ (_ : ℝ) = _
      have e8 : (256 : ℝ) = (2 : ℝ) ^ ((8 : ℕ) : ℝ) := by rw [Real.rpow_natCast]; norm_num
      rw [e8, Real.rpow_def_of_pos (by norm_num), Real.rpow_def_of_pos (by norm_num), ← Real.exp_add]
      congr 1
      field_simp
      push_cast
      ring

theorem exp_nonneg (x : EReal) : 0 ≤ Ideal.exp x := by
  induction x with
  | bot => exact le_refl _
  | top => exact le_top
  | coe r => exact EReal.coe_nonneg.mpr (Real.exp_pos r).le

/-- A sum of non-negative terms times a real. -/
theorem sum_mul_real {ι : Type*} (s : Finset ι) (f : ι → EReal) (hf : ∀ i, 0 ≤ f i) (r : EReal) :
    (∑ i ∈ s, f i) * r = ∑ i ∈ s, f i * r := by
  classical
  induction s using Finset.induction_on with
  | empty => simp
  | insert a s ha ih =>
    rw [Finset.sum_insert ha, Finset.sum_insert ha, EReal.right_distrib_of_nonneg (hf a) (Finset.sum_nonneg fun i _ => hf i), ih]

/-! ## One query -/

/-- The kernel's clip. -/
def clip (x : EReal) : EReal := min ((448 : ℝ) : EReal) (max ((-448 : ℝ) : EReal) x)

theorem clip_zero : clip 0 = 0 := by
  unfold clip
  rw [show (0 : EReal) = ((0 : ℝ) : EReal) from rfl, max_eq_right (EReal.coe_le_coe_iff.mpr (by norm_num)),
    min_eq_right (EReal.coe_le_coe_iff.mpr (by norm_num))]

section Query
variable {J : Type*} [Fintype J] (A : J → Prop) [DecidablePred A] (T V : J → EReal) (c w M m : EReal)

/-- The kernel's power of a score, from the scale `c` and the scores' maximum `M`. -/
def power (c M t : EReal) : EReal :=
  Ideal.exp2 (t * (max c (-c) * (((Real.log 2)⁻¹ : ℝ) : EReal)) - (M * (max c (-c) * (((Real.log 2)⁻¹ : ℝ) : EReal)) - ((8 : ℝ) : EReal)))

/-- The kernel's value of a query: the allowed keys `A`, the scores `T`, the values `V`, the scale `c`, the maximum `M`, the value scale `w`. -/
def kernelRow : EReal :=
  Ideal.div ((∑ j, if A j then V j * clip (power c M (T j)) else 0) * w)
    ((∑ j, if A j then power c M (T j) else 0) * (((256 : ℝ)⁻¹ : ℝ) : EReal))

/-- The reference's weight of key `j`. -/
def weight (j : J) : EReal := Ideal.exp ((if A j then T j * c else ⊥) - m)

/-- The reference's value of a query, with the maximum `m` of the masked scaled scores. -/
def referenceRow : EReal :=
  Ideal.div ((∑ j, V j * clip (weight A T c m j * ((256 : ℝ) : EReal))) * w) (∑ j, weight A T c m j)

variable {A T c M m}

/-- The maximum of the masked scaled scores is the scaled maximum of the allowed scores. -/
theorem max_scaled (hA : ∃ j, A j) (hc : 0 ≤ c) (hM : ∀ u, M ≤ u ↔ ∀ j, A j → T j ≤ u)
    (hm : ∀ u, m ≤ u ↔ ∀ j, (if A j then T j * c else ⊥) ≤ u) : m = M * c := by
  obtain ⟨j0, h0⟩ := hA
  obtain ⟨j1, h1, hmax⟩ := Finset.exists_max_image (Finset.univ.filter A) T ⟨j0, by simpa using h0⟩
  simp only [Finset.mem_filter, Finset.mem_univ, true_and] at h1 hmax
  have e : M = T j1 := le_antisymm ((hM _).mpr fun j hj => hmax j hj) ((hM M).mp le_rfl j1 h1)
  subst e
  apply le_antisymm
  · refine (hm _).mpr fun j => ?_
    by_cases hj : A j
    · rw [if_pos hj]; exact mul_le_mul_of_nonneg_right (hmax j hj) hc
    · rw [if_neg hj]; exact bot_le
  · have := (hm m).mp le_rfl j1
    rwa [if_pos h1] at this

theorem power_eq (hc : 0 ≤ c) {t : EReal} (ht : t ≤ M) : power c M t = Ideal.exp (t * c - M * c) * ((256 : ℝ) : EReal) := by
  unfold power
  have e : max c (-c) = c := max_eq_left (le_trans (EReal.neg_le_neg_iff.mpr hc |>.trans (by simp)) hc)
  rw [e, ← mul_assoc, ← mul_assoc]
  exact exp2_shift _ _ (mul_le_mul_of_nonneg_right ht hc)

/-- The two values of a query agree when the scale is not negative. -/
theorem kernelRow_eq (hA : ∃ j, A j) (hc : 0 ≤ c) (hM : ∀ u, M ≤ u ↔ ∀ j, A j → T j ≤ u)
    (hm : ∀ u, m ≤ u ↔ ∀ j, (if A j then T j * c else ⊥) ≤ u) : kernelRow A T V c w M = referenceRow A T V c w m := by
  have em := max_scaled hA hc hM hm
  have hle : ∀ j, A j → T j ≤ M := (hM M).mp le_rfl
  have hw0 : ∀ j, ¬ A j → weight A T c m j = 0 := fun j hj => by
    unfold weight; rw [if_neg hj, EReal.bot_sub]; rfl
  have hw1 : ∀ j, A j → power c M (T j) = weight A T c m j * ((256 : ℝ) : EReal) := fun j hj => by
    unfold weight; rw [if_pos hj, em, power_eq hc (hle j hj)]
  have e1 : (∑ j, if A j then V j * clip (power c M (T j)) else 0) = ∑ j, V j * clip (weight A T c m j * ((256 : ℝ) : EReal)) :=
    Finset.sum_congr rfl fun j _ => by
      by_cases hj : A j
      · rw [if_pos hj, hw1 j hj]
      · rw [if_neg hj, hw0 j hj, zero_mul, clip_zero, mul_zero]
  have e2 : (∑ j, if A j then power c M (T j) else 0) = ∑ j, weight A T c m j * ((256 : ℝ) : EReal) :=
    Finset.sum_congr rfl fun j _ => by
      by_cases hj : A j
      · rw [if_pos hj, hw1 j hj]
      · rw [if_neg hj, hw0 j hj, zero_mul]
  have e3 : (∑ j, weight A T c m j * ((256 : ℝ) : EReal)) * (((256 : ℝ)⁻¹ : ℝ) : EReal) = ∑ j, weight A T c m j := by
    rw [← sum_mul_real _ (fun j => weight A T c m j) (fun j => exp_nonneg _), mul_assoc, ← EReal.coe_mul, mul_inv_cancel₀ (by norm_num), EReal.coe_one, mul_one]
  unfold kernelRow referenceRow
  rw [e1, e2, e3]

end Query

/-! ## The blocks of keys -/

/-- A sum over the 16384 keys, block by block. -/
theorem sum_keys {M : Type*} [AddCommMonoid M] (f : ℕ → M) : ∑ j : Fin 16384, f j.val = ∑ b ∈ Finset.range 64, ∑ t ∈ Finset.range 256, f (256 * b + t) := by
  rw [Fin.sum_univ_eq_sum_range (fun j => f j) 16384]
  have : ∀ n, ∑ j ∈ Finset.range (256 * n), f j = ∑ b ∈ Finset.range n, ∑ t ∈ Finset.range 256, f (256 * b + t) := fun n => by
    induction n with
    | zero => simp
    | succ n ih => rw [Finset.sum_range_succ, ← ih, Nat.mul_succ, Finset.sum_range_add]
  exact this 64

/-- Key `k` is allowed for query `r`: at or before it, fewer than 4096 positions back. -/
abbrev allowed (r k : ℕ) : Prop := k ≤ r ∧ r < k + 4096

/-- The allowed keys of query `256 * i + t` are those of its own block up to `t`, those after `t` of the block sixteen before, and
    all of the blocks between. -/
theorem sum_allowed {M : Type*} [AddCommMonoid M] (f : ℕ → M) (i t : ℕ) (hi : i < 64) (ht : t < 256) :
    (∑ j : Fin 16384, if allowed (256 * i + t) j.val then f j.val else 0)
      = (∑ k ∈ Finset.range 256, if k ≤ t then f (256 * i + k) else 0)
        + (∑ k ∈ Finset.range 256, if t < k ∧ 16 ≤ i then f (256 * (i - 16) + k) else 0)
        + ∑ n ∈ Finset.range (min i 15), ∑ k ∈ Finset.range 256, f (256 * (i - min i 15 + n) + k) := by
  rw [sum_keys (fun j => if allowed (256 * i + t) j then f j else 0)]
  have hb : ∀ b ∈ Finset.range 64, (∑ k ∈ Finset.range 256, if allowed (256 * i + t) (256 * b + k) then f (256 * b + k) else 0)
      = (if b = i then ∑ k ∈ Finset.range 256, (if k ≤ t then f (256 * b + k) else 0) else 0)
        + (if b + 16 = i then ∑ k ∈ Finset.range 256, (if t < k then f (256 * b + k) else 0) else 0)
        + (if i < b + 16 ∧ b < i then ∑ k ∈ Finset.range 256, f (256 * b + k) else 0) := by
    intro b _
    by_cases h1 : b = i
    · subst h1
      rw [if_pos rfl, if_neg (by omega), if_neg (by omega), add_zero, add_zero]
      refine Finset.sum_congr rfl fun k hk => ?_
      have := Finset.mem_range.mp hk
      exact if_congr (by unfold allowed; omega) rfl rfl
    · rw [if_neg h1, zero_add]
      by_cases h2 : b + 16 = i
      · rw [if_pos h2, if_neg (by omega), add_zero]
        refine Finset.sum_congr rfl fun k hk => ?_
        have := Finset.mem_range.mp hk
        exact if_congr (by unfold allowed; omega) rfl rfl
      · rw [if_neg h2, zero_add]
        by_cases h3 : i < b + 16 ∧ b < i
        · rw [if_pos h3]
          refine Finset.sum_congr rfl fun k hk => ?_
          have := Finset.mem_range.mp hk
          exact if_pos (by unfold allowed; omega)
        · rw [if_neg h3]
          refine Finset.sum_eq_zero fun k hk => ?_
          have := Finset.mem_range.mp hk
          exact if_neg (by unfold allowed; omega)
  rw [Finset.sum_congr rfl hb, Finset.sum_add_distrib, Finset.sum_add_distrib]
  congr 1
  · congr 1
    · rw [Finset.sum_ite_eq' (Finset.range 64) i, if_pos (Finset.mem_range.mpr hi)]
    · by_cases h16 : 16 ≤ i
      · rw [Finset.sum_eq_single (i - 16) (fun b _ hne => if_neg (by omega)) (fun h => absurd (Finset.mem_range.mpr (by omega)) h),
          if_pos (by omega)]
        exact Finset.sum_congr rfl fun k _ => if_congr (by simp [h16]) rfl rfl
      · rw [Finset.sum_eq_zero fun b _ => if_neg (by omega)]
        exact (Finset.sum_eq_zero fun k _ => if_neg (by omega)).symm
  · rw [← Finset.sum_filter]
    have : (Finset.range 64).filter (fun b => i < b + 16 ∧ b < i) = Finset.Ico (i - min i 15) i := by
      ext b; simp only [Finset.mem_filter, Finset.mem_range, Finset.mem_Ico]; omega
    rw [this, Finset.sum_Ico_eq_sum_range]
    rw [show i - (i - min i 15) = min i 15 by omega]

/-- The same for a property of every allowed key. -/
theorem forall_allowed (p : ℕ → Prop) (i t : ℕ) (hi : i < 64) (ht : t < 256) :
    (∀ j : Fin 16384, allowed (256 * i + t) j.val → p j.val)
      ↔ (∀ k, k < 256 → k ≤ t → p (256 * i + k)) ∧ (∀ k, k < 256 → t < k → 16 ≤ i → p (256 * (i - 16) + k))
        ∧ ∀ n, n < min i 15 → ∀ k, k < 256 → p (256 * (i - min i 15 + n) + k) := by
  constructor
  · intro h
    refine ⟨fun k hk hkt => h ⟨256 * i + k, by omega⟩ ⟨?_, ?_⟩, fun k hk hkt h16 => h ⟨256 * (i - 16) + k, by omega⟩ ⟨?_, ?_⟩,
      fun n hn k hk => h ⟨256 * (i - min i 15 + n) + k, by omega⟩ ⟨?_, ?_⟩⟩ <;> (dsimp only; omega)
  · rintro ⟨h1, h2, h3⟩ ⟨j, hj⟩ ⟨ha, hb⟩
    dsimp only at ha hb ⊢
    rcases Nat.lt_trichotomy (j / 256) i with h | h | h
    · by_cases h16 : j / 256 + 16 = i
      · have := h2 (j % 256) (Nat.mod_lt _ (by omega)) (by omega) (by omega)
        rwa [show 256 * (i - 16) + j % 256 = j by omega] at this
      · have := h3 (j / 256 - (i - min i 15)) (by omega) (j % 256) (Nat.mod_lt _ (by omega))
        rwa [show 256 * (i - min i 15 + (j / 256 - (i - min i 15))) + j % 256 = j by omega] at this
    · have := h1 (j % 256) (Nat.mod_lt _ (by omega)) (by omega)
      rwa [show 256 * i + j % 256 = j by omega] at this
    · omega

end Cert.Math

end
-- ==== Proof.Spec.lean ====
/-
  The words both programs spell the same way: the constants at the ideal instance, the mask of a query and a key, and the score,
  the scale and the value of one element of the result.
-/
module

public import proofs.«01_k».proof.Proof.Math
public import Idealize.ShloMosaic.Lib.Pointwise
public import Idealize.ShloMosaic.Lib.Tactic.WordOmega

@[expose] public section

noncomputable section

namespace Cert.Spec

open Idealize.ShloMosaic
open Cert.Math

theorem ofBits_448 : Ideal.ofBits .f32 0x43E00000#32 = ((448 : ℝ) : EReal) := by
  simp [Ideal.ofBits, Ideal.ieee, -EReal.coe_mul]; norm_num
theorem ofBits_neg448 : Ideal.ofBits .f32 0xC3E00000#32 = ((-448 : ℝ) : EReal) := by
  simp [Ideal.ofBits, Ideal.ieee, -EReal.coe_mul]; norm_num
theorem ofBits_256 : Ideal.ofBits .f32 0x43800000#32 = ((256 : ℝ) : EReal) := by
  simp [Ideal.ofBits, Ideal.ieee, -EReal.coe_mul]; norm_num
theorem ofBits_inv256 : Ideal.ofBits .f32 0x3B800000#32 = (((256 : ℝ)⁻¹ : ℝ) : EReal) := by
  simp [Ideal.ofBits, Ideal.ieee, -EReal.coe_mul]; norm_num
theorem ofBits_8 : Ideal.ofBits .f32 0x41000000#32 = ((8 : ℝ) : EReal) := by
  simp [Ideal.ofBits, Ideal.ieee, -EReal.coe_mul]; norm_num
theorem ofBits_bot : Ideal.ofBits .f32 0xFF800000#32 = (⊥ : EReal) := by
  simp [Ideal.ofBits, Ideal.ieee]

/-- The constant `1 / sqrt 128` as both programs spell it. -/
abbrev rsqrt128 : EReal := Ideal.ofBits .f32 0x3DB504F3#32

theorem rsqrt128_nonneg : 0 ≤ rsqrt128 := by
  simp [Ideal.ofBits, Ideal.ieee, -EReal.coe_mul]

theorem select_if {α : Type} (p : Prop) [Decidable p] (x y : α) : Scalar.select (BitVec.ofBool (decide p)) x y = if p then x else y := by
  by_cases h : p <;> simp [h, Scalar.select]

/-- The reference's mask word of query `r` and key `j`. -/
theorem mask_word (r j : ℕ) (hr : r < 16384) (hj : j < 16384) :
    IntOp.andi (IntOp.cmpi CmpIPredicate.sge (IntOp.subi (BitVec.ofNat 32 r) (BitVec.ofNat 32 j)) 0#32)
      (IntOp.cmpi CmpIPredicate.slt (IntOp.subi (BitVec.ofNat 32 r) (BitVec.ofNat 32 j)) 4096#32) = BitVec.ofBool (decide (allowed r j)) := by
  have e : (IntOp.subi (BitVec.ofNat 32 r) (BitVec.ofNat 32 j) : BitVec 32).toInt = (r : Int) - j := by
    unfold IntOp.subi
    rw [BitVec.toInt_sub, BitVec.toInt_eq_toNat_bmod, BitVec.toInt_eq_toNat_bmod, BitVec.toNat_ofNat, BitVec.toNat_ofNat]
    simp only [Int.bmod_def]; omega
  have e1 : (IntOp.cmpi CmpIPredicate.sge (IntOp.subi (BitVec.ofNat 32 r) (BitVec.ofNat 32 j)) 0#32) = BitVec.ofBool (decide (j ≤ r)) := by
    show BitVec.ofBool (BitVec.sle _ _) = _
    rw [BitVec.sle, e]; congr 1; simp
  have e2 : (IntOp.cmpi CmpIPredicate.slt (IntOp.subi (BitVec.ofNat 32 r) (BitVec.ofNat 32 j)) 4096#32) = BitVec.ofBool (decide (r < j + 4096)) := by
    show BitVec.ofBool (BitVec.slt _ _) = _
    rw [BitVec.slt, e]; congr 1
    rw [show (4096#32 : BitVec 32).toInt = 4096 from rfl]
    rw [decide_eq_decide]; omega
  rw [e1, e2]
  show BitVec.ofBool _ &&& BitVec.ofBool _ = _
  by_cases h1 : j ≤ r <;> by_cases h2 : r < j + 4096 <;> simp [h1, h2, allowed]

variable (x : Vec Ideal ⟨3, ![4, 16384, 2048]⟩ .fp8e4m3) (k v : Vec Ideal ⟨3, ![4, 16384, 256]⟩ .fp8e4m3)
  (qs : Vec Ideal ⟨1, ![16]⟩ .f32) (ks vs : Vec Ideal ⟨1, ![2]⟩ .f32)
  (b : Fin 4) (h : Fin 2) (g : Fin 8) (r : Fin 16384) (d : Fin 128)

/-- The unscaled score of query `r` (head `g` of key head `h`) against key `j`. -/
def score (j : Fin 16384) : EReal :=
  ∑ d : Fin 128, k (ix3 b j ⟨h.val * 128 + d.val, by omega⟩) * x (ix3 b r ⟨h.val * 1024 + g.val * 128 + d.val, by omega⟩)

/-- The score scale of head `g` of key head `h`. -/
def scale : EReal := qs (ix1 ⟨h.val * 8 + g.val, by omega⟩) * ks (ix1 h) * rsqrt128

/-- The value scale of key head `h`. -/
def vscale : EReal := vs (ix1 h) * Ideal.ofBits .f32 0x3B800000#32

/-- The values of lane `d` of key head `h`. -/
def value (j : Fin 16384) : EReal := v (ix3 b j ⟨h.val * 128 + d.val, by omega⟩)

end Cert.Spec

end
-- ==== Proof.KernelIdeal.TileVal.lean ====
/-
  The kernel's tile operations at the ideal instance, element by element.
-/
module

public import proofs.«01_k».proof.Proof.Spec
public import proofs.«01_k».proof.Proof.KernelIdeal.HeadVal

@[expose] public section

noncomputable section

namespace Cert.KernelIdeal.Body

open Cert.KernelIdeal Cert.KernelIdeal.Gen Cert.Owned Idealize.ShloMosaic
open Cert.Math Cert.Spec

/-! ## Folds over a tile's rows -/

theorem foldMax_apply (acc : FVec Ideal S8x256 .f32) (t : FVec Ideal S256x256 .f32) (s : Fin 8) (q : Fin 256) (u : EReal) :
    foldMax acc t (ix2 s q) ≤ u ↔ acc (ix2 s q) ≤ u ∧ ∀ n : Fin 32, t (ix2 ⟨8 * n.val + s.val, by omega⟩ q) ≤ u := by
  pointwise [foldMax]
  simp only [max_le_iff, and_assoc]
  constructor
  · rintro ⟨h, h0, h1, h2, h3, h4, h5, h6, h7, h8, h9, h10, h11, h12, h13, h14, h15, h16, h17, h18, h19, h20, h21, h22, h23, h24, h25, h26, h27, h28, h29, h30, h31⟩
    refine ⟨h, fun n => ?_⟩
    rcases n with ⟨n, hn⟩
    interval_cases n
    · simpa using h0
    all_goals assumption
  · rintro ⟨h, hn⟩
    have h0 := hn 0
    refine ⟨h, by simpa using h0, hn 1, hn 2, hn 3, hn 4, hn 5, hn 6, hn 7, hn 8, hn 9, hn 10, hn 11, hn 12, hn 13, hn 14, hn 15, hn 16, hn 17, hn 18, hn 19,
      hn 20, hn 21, hn 22, hn 23, hn 24, hn 25, hn 26, hn 27, hn 28, hn 29, hn 30, hn 31⟩

/-- The eight rows of a folded maximum are below a bound exactly when the rows before and the tile are. -/
theorem foldMax_le (acc : FVec Ideal S8x256 .f32) (t : FVec Ideal S256x256 .f32) (q : Fin 256) (u : EReal) :
    (∀ s : Fin 8, foldMax acc t (ix2 s q) ≤ u) ↔ (∀ s : Fin 8, acc (ix2 s q) ≤ u) ∧ ∀ k : Fin 256, t (ix2 k q) ≤ u := by
  simp only [foldMax_apply]
  constructor
  · intro h
    refine ⟨fun s => (h s).1, fun k => ?_⟩
    have := (h ⟨k.val % 8, Nat.mod_lt _ (by omega)⟩).2 ⟨k.val / 8, by omega⟩
    have e : (⟨8 * (k.val / 8) + k.val % 8, by omega⟩ : Fin 256) = k := Fin.ext (by show 8 * (k.val / 8) + k.val % 8 = k.val; omega)
    dsimp only at this
    rwa [e] at this
  · rintro ⟨h1, h2⟩ s
    exact ⟨h1 s, fun n => h2 _⟩

theorem foldAdd_apply (acc : FVec Ideal S8x256 .f32) (t : FVec Ideal S256x256 .f32) (s : Fin 8) (q : Fin 256) :
    foldAdd acc t (ix2 s q) = acc (ix2 s q) + ∑ n : Fin 32, t (ix2 ⟨8 * n.val + s.val, by omega⟩ q) := by
  pointwise [foldAdd]
  simp only [Fin.sum_univ_castSucc, Fin.sum_univ_zero, zero_add, ← add_assoc]
  have e : (⟨8 * 0 + s.val, by omega⟩ : Fin 256) = ⟨s.val, by omega⟩ := Fin.ext (by simp)
  rw [← e]
  rfl

/-- The eight rows of a folded sum add up to those before and the tile's. -/
theorem foldAdd_sum (acc : FVec Ideal S8x256 .f32) (t : FVec Ideal S256x256 .f32) (q : Fin 256) :
    (∑ s : Fin 8, foldAdd acc t (ix2 s q)) = (∑ s : Fin 8, acc (ix2 s q)) + ∑ k : Fin 256, t (ix2 k q) := by
  simp only [foldAdd_apply]
  rw [Finset.sum_add_distrib]
  congr 1
  rw [Finset.sum_comm, ← Fintype.sum_prod_type' (f := fun (n : Fin 32) (s : Fin 8) => t (ix2 ⟨8 * n.val + s.val, by omega⟩ q))]
  refine Fintype.sum_equiv (finProdFinEquiv : Fin 32 × Fin 8 ≃ Fin 256) _ _ fun x => ?_
  congr 2
  apply Fin.ext
  show 8 * x.1.val + x.2.val = x.2.val + 8 * x.1.val
  omega

/-! ## The masks -/

theorem toInt_small (n : ℕ) (hn : n < 2 ^ 31) : (BitVec.ofNat 32 n).toInt = (n : Int) := by
  rw [BitVec.toInt_eq_toNat_bmod, BitVec.toNat_ofNat]
  simp only [Int.bmod_def]; omega

theorem sle_small (a b : ℕ) (ha : a < 2 ^ 31) (hb : b < 2 ^ 31) :
    IntOp.cmpi CmpIPredicate.sle (BitVec.ofNat 32 a) (BitVec.ofNat 32 b) = BitVec.ofBool (decide (a ≤ b)) := by
  show BitVec.ofBool (BitVec.sle _ _) = _
  rw [BitVec.sle, toInt_small a ha, toInt_small b hb]; congr 1; simp

theorem mDiag_apply (k q : Fin 256) : mDiag (ix2 k q) = BitVec.ofBool (decide (k.val ≤ q.val)) := by
  pointwise [mDiag]
  exact sle_small _ _ (by omega) (by omega)

theorem mOld_apply (i : grid0.Coords) (k q : Fin 256) : mOld i (ix2 k q) = BitVec.ofBool (decide (q.val < k.val ∧ 16 ≤ (i 2).val)) := by
  have h2 : (i 2).val < 64 := (i 2).isLt
  pointwise [mOld, mDiag]
  rw [sle_small _ _ (by omega) (by omega)]
  have e : (Scalar.cmpi CmpIPredicate.sge (BitVec.ofNat 32 (i 2).val) 16#32) = BitVec.ofBool (decide (16 ≤ (i 2).val)) := by
    show BitVec.ofBool (BitVec.sle _ _) = _
    rw [BitVec.sle, toInt_small (i 2).val (by omega)]
    congr 1; rw [decide_eq_decide]
    show (16 : Int) ≤ _ ↔ _
    omega
  rw [e]
  show (BitVec.ofBool _ ^^^ 1#1) &&& BitVec.ofBool _ = _
  by_cases h1 : k.val ≤ q.val
  · have : ¬ q.val < k.val := by omega
    simp [h1, this]
  · have : q.val < k.val := by omega
    by_cases h3 : 16 ≤ (i 2).val <;> simp [h1, this, h3]

/-! ## The scale -/

section Scale
variable (v13 v17 : Vec Ideal S1x128 .f32) (c : FVec Ideal S1x128 .f32) (cc : EReal)

theorem cVec_apply (l : Fin 128) : cVec v13 v17 (ix2 0 l) = v17 (ix2 0 l) * v13 (ix2 0 l) * rsqrt128 := by
  pointwise [cVec]

theorem c2Vec_apply (hc : ∀ l : Fin 128, c (ix2 0 l) = cc) (q : Fin 256) :
    c2Vec c (ix2 0 q) = max cc (-cc) * (((Real.log 2)⁻¹ : ℝ) : EReal) := by
  have e : (Named.named κ "log2e" 0x3FB8AA3B#32 : Ideal .f32) = (((Real.log 2)⁻¹ : ℝ) : EReal) :=
    IdealRules.named_const.ideal_named_scalar _ _ _ _ rfl
  pointwise [c2Vec, c2Half]
  simp only [hc, e]
  split <;> rfl

theorem qMat_apply (hc : ∀ l : Fin 128, c (ix2 0 l) = cc) (h0 : 0 ≤ cc) (x : Vec Ideal S1x256x128 .fp8e4m3) (q : Fin 256) (d : Fin 128) :
    qMat c x (ix2 q d) = x (ix3 0 q d) := by
  pointwise [qMat, sgnVec]
  rw [hc, if_neg (not_lt.mpr h0), mul_one]
end Scale

/-! ## Scores, powers, values -/

theorem scores_apply (kb : Vec Ideal S1x256x128 .fp8e4m3) (q : FVec Ideal S256x128 .fp8e4m3) (k r : Fin 256) :
    scores kb q (ix2 k r) = ∑ d : Fin 128, kb (ix3 0 k d) * q (ix2 r d) := by
  pointwise [scores]

theorem sTile_apply (i : grid0.Coords) (kd ko : Vec Ideal S1x256x128 .fp8e4m3) (q : FVec Ideal S256x128 .fp8e4m3) (k r : Fin 256) :
    sTile i kd ko q (ix2 k r) = if k.val ≤ r.val then scores kd q (ix2 k r) else if r.val < k.val ∧ 16 ≤ (i 2).val then scores ko q (ix2 k r) else ⊥ := by
  pointwise [sTile]
  rw [mDiag_apply, mOld_apply, select_if, select_if, ofBits_bot]

theorem mRow_apply (c2 : FVec Ideal S1x256 .f32) (mx : FVec Ideal S8x256 .f32) (q : Fin 256) :
    mRow c2 mx (ix2 0 q) = Finset.univ.fold max ⊥ (fun s : Fin 8 => mx (ix2 s q)) * c2 (ix2 0 q) - ((8 : ℝ) : EReal) := by
  pointwise [mRow]
  rw [ofBits_bot, ofBits_8]

theorem pTile_apply (c2 m : FVec Ideal S1x256 .f32) (s : FVec Ideal S256x256 .f32) (k q : Fin 256) :
    pTile c2 m s (ix2 k q) = Ideal.exp2 (s (ix2 k q) * c2 (ix2 0 q) - m (ix2 0 q)) := by
  pointwise [pTile]
  rfl

theorem maskZero_apply (b : IVec S256x256 1) (p : FVec Ideal S256x256 .f32) (k q : Fin 256) :
    maskZero b p (ix2 k q) = Scalar.select (b (ix2 k q)) (p (ix2 k q)) 0 := by
  pointwise [maskZero]

theorem pv_apply (vb : Vec Ideal S1x128x256 .fp8e4m3) (p : FVec Ideal S256x256 .f32) (d : Fin 128) (q : Fin 256) :
    pv vb p (ix2 d q) = ∑ k : Fin 256, vb (ix3 0 d k) * clip (p (ix2 k q)) := by
  pointwise [pv, codes]
  rw [ofBits_448, ofBits_neg448]
  rfl

theorem outTile_apply (l : FVec Ideal S8x256 .f32) (acc : FVec Ideal S128x256 .f32) (v15 : Vec Ideal S1x128 .f32) (q : Fin 256) (d : Fin 128) :
    outTile l acc v15 (ix2 q d)
      = Ideal.div (acc (ix2 d q) * (v15 (ix2 0 0) * Ideal.ofBits .f32 0x3B800000#32)) ((∑ s : Fin 8, l (ix2 s q)) * (((256 : ℝ)⁻¹ : ℝ) : EReal)) := by
  pointwise [outTile]
  rw [← ofBits_inv256]

end Cert.KernelIdeal.Body

end
-- ==== Proof.KernelIdeal.Geo.lean ====
/-
  Where each grid point reads: the block offsets of the partly masked blocks and of the full blocks, and the number of full blocks.
-/
module

public import proofs.«01_k».proof.Proof.KernelIdeal.HeadVal

@[expose] public section

noncomputable section

namespace Cert.KernelIdeal.Body

open Cert.KernelIdeal Cert.KernelIdeal.Gen Idealize.ShloMosaic

/-- The number of full blocks of point `t`. -/
theorem nFull_eq (t : Fin grid0.N) : nFull (grid0.coords t) = min (grid0.coords t 2).val 15 :=
  (by decide +kernel : ∀ t : Fin grid0.N, (k0_t1_loop (grid0.coords t)).trips = min (grid0.coords t 2).val 15) t

theorem off2_eq (t : Fin grid0.N) : k0_off2 (grid0.coords t) = ![0, 256 * ((grid0.coords t 2).val - 16), 0] :=
  (by decide +kernel : ∀ t : Fin grid0.N, k0_off2 (grid0.coords t) = ![0, 256 * ((grid0.coords t 2).val - 16), 0]) t

theorem off8_eq (t : Fin grid0.N) : k0_off8 (grid0.coords t) = ![0, 0, 256 * ((grid0.coords t 2).val - 16)] :=
  (by decide +kernel : ∀ t : Fin grid0.N, k0_off8 (grid0.coords t) = ![0, 0, 256 * ((grid0.coords t 2).val - 16)]) t

theorem off3_eq (t : Fin grid0.N) (n : Fin (k0_t1_loop (grid0.coords t)).trips) :
    k0_off3 (grid0.coords t) n = ![0, 256 * ((grid0.coords t 2).val - min (grid0.coords t 2).val 15 + n.val), 0] :=
  (by decide +kernel : ∀ t : Fin grid0.N, ∀ n : Fin (k0_t1_loop (grid0.coords t)).trips,
    k0_off3 (grid0.coords t) n = ![0, 256 * ((grid0.coords t 2).val - min (grid0.coords t 2).val 15 + n.val), 0]) t n

theorem off10_eq (t : Fin grid0.N) (n : Fin (k0_t3_loop (grid0.coords t)).trips) :
    k0_off10 (grid0.coords t) n = ![0, 0, 256 * ((grid0.coords t 2).val - min (grid0.coords t 2).val 15 + n.val)] :=
  (by decide +kernel : ∀ t : Fin grid0.N, ∀ n : Fin (k0_t3_loop (grid0.coords t)).trips,
    k0_off10 (grid0.coords t) n = ![0, 0, 256 * ((grid0.coords t 2).val - min (grid0.coords t 2).val 15 + n.val)]) t n

end Cert.KernelIdeal.Body

end
-- ==== Proof.KernelIdeal.HeadIdeal.lean ====
/-
  One head's output tile at the ideal instance: element `(r, d)` is `kernelRow` of the keys allowed for query `r` of the
  point's block.
-/
module

public import proofs.«01_k».proof.Proof.KernelIdeal.TileVal
public import proofs.«01_k».proof.Proof.KernelIdeal.Geo
public import Idealize.ShloMosaic.Lib.Pipeline.ValueKit.Geometry

@[expose] public section

noncomputable section

namespace Cert.KernelIdeal.Body

open Cert.KernelIdeal Cert.KernelIdeal.Gen Cert.Owned Idealize.ShloMosaic
open Cert.Math Cert.Spec

/-! ## Loads -/

theorem ldK_apply (X4 : Vec Ideal S1x16384x128 .fp8e4m3) (off : Fin 3 → ℕ) (inb) (o : ℕ) (ho : off = ![0, o, 0]) (k : Fin 256) (d : Fin 128)
    (hlt : o + k.val < 16384) :
    ld X4 (Rect.unit (s := S1x16384x128) off S1x256x128.size inb) (ix3 (n0 := 1) 0 k d) = X4 (ix3 (n0 := 1) 0 ⟨o + k.val, hlt⟩ d) := by
  subst ho
  unfold ld
  congr 1
  funext a; apply Fin.ext
  refine (ValueKit.rect_emb_unit_val (s := S1x16384x128) ![0, o, 0] S1x256x128.size inb (ix3 (n0 := 1) 0 k d) a).trans ?_
  match a with
  | ⟨0, _⟩ => rfl
  | ⟨1, _⟩ => rfl
  | ⟨2, _⟩ => exact Nat.zero_add _

theorem ldV_apply (X5 : Vec Ideal S1x128x16384 .fp8e4m3) (off : Fin 3 → ℕ) (inb) (o : ℕ) (ho : off = ![0, 0, o]) (d : Fin 128) (k : Fin 256)
    (hlt : o + k.val < 16384) :
    ld X5 (Rect.unit (s := S1x128x16384) off S1x128x256.size inb) (ix3 (n0 := 1) 0 d k) = X5 (ix3 (n0 := 1) 0 d ⟨o + k.val, hlt⟩) := by
  subst ho
  unfold ld
  congr 1
  funext a; apply Fin.ext
  refine (ValueKit.rect_emb_unit_val (s := S1x128x16384) ![0, 0, o] S1x128x256.size inb (ix3 (n0 := 1) 0 d k) a).trans ?_
  match a with
  | ⟨0, _⟩ => rfl
  | ⟨1, _⟩ => exact Nat.zero_add _
  | ⟨2, _⟩ => rfl

/-- A masked product with a clipped power. -/
theorem mul_clip_ite (p : Prop) [Decidable p] (v x : EReal) : v * clip (if p then x else 0) = if p then v * clip x else 0 := by
  split
  · rfl
  · rw [clip_zero, mul_zero]

section Row

variable (t : Fin grid0.N) (X4 : Vec Ideal S1x16384x128 .fp8e4m3) (X5 : Vec Ideal S1x128x16384 .fp8e4m3)
  (c : FVec Ideal S1x128 .f32) (qm : FVec Ideal S256x128 .fp8e4m3) (cc : EReal) (hc : ∀ l : Fin 128, c (ix2 0 l) = cc)
  (r : Fin 256) (d : Fin 128)
  (T : ℕ → EReal) (hT : ∀ j : Fin 16384, T j.val = ∑ d : Fin 128, X4 (ix3 (n0 := 1) 0 j d) * qm (ix2 r d))
  (Y : ℕ → EReal) (hY : ∀ j : Fin 16384, Y j.val = X5 (ix3 (n0 := 1) 0 d j))

theorem row_lt : (grid0.coords t 2).val < 64 := ((grid0.coords t) 2).isLt

include hT in
theorem scores_ld (off : Fin 3 → ℕ) (inb) (o : ℕ) (ho : off = ![0, o, 0]) (k : Fin 256) (hlt : o + k.val < 16384) :
    scores (ld X4 (Rect.unit (s := S1x16384x128) off S1x256x128.size inb)) qm (ix2 k r) = T (o + k.val) := by
  rw [scores_apply, hT ⟨o + k.val, hlt⟩]
  exact Finset.sum_congr rfl fun d _ => by rw [ldK_apply X4 off inb o ho k d hlt]

include hT in
theorem sDiag_apply (k : Fin 256) : sDiag (grid0.coords t) X4 qm (ix2 k r)
    = if k.val ≤ r.val then T (256 * (grid0.coords t 2).val + k.val) else if r.val < k.val ∧ 16 ≤ (grid0.coords t 2).val then T (256 * ((grid0.coords t 2).val - 16) + k.val) else ⊥ := by
  have he := row_lt t
  unfold sDiag
  rw [sTile_apply, scores_ld X4 qm r T hT _ _ _ (k0_off1_eq (grid0.coords t)) k (by omega), scores_ld X4 qm r T hT _ _ _ (off2_eq t) k (by omega)]

include hT in
theorem sBlk_apply (n : ℕ) (hn : n < min (grid0.coords t 2).val 15) (k : Fin 256) : sBlk (grid0.coords t) X4 qm n (ix2 k r) = T (256 * ((grid0.coords t 2).val - min (grid0.coords t 2).val 15 + n) + k.val) := by
  have he := row_lt t
  have h : n < nFull (grid0.coords t) := by rw [nFull_eq]; exact hn
  unfold sBlk
  rw [dif_pos h, scores_ld X4 qm r T hT _ _ _ (off3_eq t ⟨n, h⟩) k (by dsimp only; omega)]

/-! ## The maximum -/

theorem mxAt_le (n : ℕ) (u : EReal) : (∀ s : Fin 8, mxAt (grid0.coords t) X4 qm n (ix2 s r) ≤ u)
    ↔ (∀ k : Fin 256, sDiag (grid0.coords t) X4 qm (ix2 k r) ≤ u) ∧ ∀ j, j < n → ∀ k : Fin 256, sBlk (grid0.coords t) X4 qm j (ix2 k r) ≤ u := by
  induction n with
  | zero =>
    unfold mxAt mx0
    rw [foldMax_le]
    constructor
    · intro h; exact ⟨h.2, fun j hj => absurd hj (Nat.not_lt_zero _)⟩
    · intro h
      refine ⟨fun s => ?_, h.1⟩
      exact le_trans (le_of_eq ofBits_bot) bot_le
  | succ n ih =>
    unfold mxAt
    rw [foldMax_le, ih]
    constructor
    · rintro ⟨⟨h1, h2⟩, h3⟩
      refine ⟨h1, fun j hj => ?_⟩
      rcases Nat.lt_succ_iff_lt_or_eq.mp hj with h | rfl
      · exact h2 j h
      · exact h3
    · rintro ⟨h1, h2⟩
      exact ⟨⟨h1, fun j hj => h2 j (by omega)⟩, h2 n (by omega)⟩

/-- The maximum of the query's scores. -/
def colMax : EReal := Finset.univ.fold max ⊥ (fun s : Fin 8 => mxAt (grid0.coords t) X4 qm (nFull (grid0.coords t)) (ix2 s r))

include hT in
theorem colMax_le (u : EReal) : colMax t X4 qm r ≤ u ↔ ∀ j : Fin 16384, allowed (256 * (grid0.coords t 2).val + r.val) j.val → T j.val ≤ u := by
  have he := row_lt t
  unfold colMax
  rw [Finset.fold_max_le, forall_allowed (fun n => T n ≤ u) (grid0.coords t 2).val r.val he r.isLt]
  simp only [bot_le, true_and, Finset.mem_univ, forall_true_left]
  rw [mxAt_le, nFull_eq]
  constructor
  · rintro ⟨h1, h2⟩
    refine ⟨fun k hk hkr => ?_, fun k hk hrk h16 => ?_, fun n hn k hk => ?_⟩
    · have := h1 ⟨k, hk⟩
      rwa [sDiag_apply t X4 qm r T hT, if_pos hkr] at this
    · have := h1 ⟨k, hk⟩
      rwa [sDiag_apply t X4 qm r T hT, if_neg (by dsimp only; omega), if_pos ⟨hrk, h16⟩] at this
    · have := h2 n hn ⟨k, hk⟩
      rwa [sBlk_apply t X4 qm r T hT n hn] at this
  · rintro ⟨h1, h2, h3⟩
    refine ⟨fun k => ?_, fun n hn k => ?_⟩
    · rw [sDiag_apply t X4 qm r T hT]
      split
      · exact h1 _ k.isLt (by assumption)
      · split
        · rename_i h; exact h2 _ k.isLt h.1 h.2
        · exact bot_le
    · rw [sBlk_apply t X4 qm r T hT n hn]; exact h3 n hn _ k.isLt

/-! ## Powers -/

include hc in
theorem power_apply (s : FVec Ideal S256x256 .f32) (k : Fin 256) :
    pTile (c2Vec c) (mAll (grid0.coords t) X4 c qm) s (ix2 k r) = power cc (colMax t X4 qm r) (s (ix2 k r)) := by
  rw [pTile_apply]
  unfold mAll
  rw [mRow_apply, c2Vec_apply c cc hc]
  rfl

include hc hT in
theorem pDiag_own (k : Fin 256) : maskZero mDiag (pDiag (grid0.coords t) X4 c qm) (ix2 k r) = if k.val ≤ r.val then power cc (colMax t X4 qm r) (T (256 * (grid0.coords t 2).val + k.val)) else 0 := by
  unfold pDiag
  rw [maskZero_apply, mDiag_apply, select_if, power_apply t X4 c qm cc hc r, sDiag_apply t X4 qm r T hT]
  split <;> rfl

include hc hT in
theorem pDiag_old (k : Fin 256) : maskZero (mOld (grid0.coords t)) (pDiag (grid0.coords t) X4 c qm) (ix2 k r)
    = if r.val < k.val ∧ 16 ≤ (grid0.coords t 2).val then power cc (colMax t X4 qm r) (T (256 * ((grid0.coords t 2).val - 16) + k.val)) else 0 := by
  unfold pDiag
  rw [maskZero_apply, mOld_apply, select_if, power_apply t X4 c qm cc hc r, sDiag_apply t X4 qm r T hT]
  split
  · rename_i h; rw [if_neg (by omega)]
  · rfl

include hc hT in
theorem pBlk_apply (n : ℕ) (hn : n < min (grid0.coords t 2).val 15) (k : Fin 256) : pBlk (grid0.coords t) X4 c qm n (ix2 k r) = power cc (colMax t X4 qm r) (T (256 * ((grid0.coords t 2).val - min (grid0.coords t 2).val 15 + n) + k.val)) := by
  unfold pBlk
  rw [power_apply t X4 c qm cc hc r, sBlk_apply t X4 qm r T hT n hn]

/-! ## The sums -/

include hc hT in
theorem lAt_sum (n : ℕ) (hn : n ≤ min (grid0.coords t 2).val 15) : (∑ s : Fin 8, lAt (grid0.coords t) X4 c qm n (ix2 s r))
    = (∑ k ∈ Finset.range 256, if k ≤ r.val then power cc (colMax t X4 qm r) (T (256 * (grid0.coords t 2).val + k)) else 0)
      + (∑ k ∈ Finset.range 256, if r.val < k ∧ 16 ≤ (grid0.coords t 2).val then power cc (colMax t X4 qm r) (T (256 * ((grid0.coords t 2).val - 16) + k)) else 0)
      + ∑ j ∈ Finset.range n, ∑ k ∈ Finset.range 256, power cc (colMax t X4 qm r) (T (256 * ((grid0.coords t 2).val - min (grid0.coords t 2).val 15 + j) + k)) := by
  induction n with
  | zero =>
    unfold lAt l0
    rw [foldAdd_sum]
    refine (congrArg (· + _) (Finset.sum_eq_zero fun s _ => Ideal.ofBits_zero_f32)).trans ?_
    dsimp only
    rw [zero_add, Finset.sum_range_zero, add_zero, Finset.sum_range,
      Finset.sum_range, ← Finset.sum_add_distrib]
    refine Finset.sum_congr rfl fun k _ => ?_
    show _ + _ = _
    rw [pDiag_own t X4 c qm cc hc r T hT, pDiag_old t X4 c qm cc hc r T hT]
  | succ n ih =>
    unfold lAt
    have h : (∑ k : Fin 256, pBlk (grid0.coords t) X4 c qm n (ix2 k r)) = ∑ k ∈ Finset.range 256, power cc (colMax t X4 qm r) (T (256 * ((grid0.coords t 2).val - min (grid0.coords t 2).val 15 + n) + k)) := by
      rw [Finset.sum_range]
      exact Finset.sum_congr rfl fun k _ => pBlk_apply t X4 c qm cc hc r T hT n (by omega) k
    rw [foldAdd_sum, ih (by omega), Finset.sum_range_succ _ n, h, ← add_assoc]

include hY in
theorem pv_ld (off : Fin 3 → ℕ) (inb) (o : ℕ) (ho : off = ![0, 0, o]) (hlt : o + 256 ≤ 16384) (p : FVec Ideal S256x256 .f32) (g : ℕ → EReal)
    (hg : ∀ k : Fin 256, p (ix2 k r) = g k.val) :
    pv (ld X5 (Rect.unit (s := S1x128x16384) off S1x128x256.size inb)) p (ix2 d r) = ∑ k ∈ Finset.range 256, Y (o + k) * clip (g k) := by
  rw [pv_apply, Finset.sum_range]
  refine Finset.sum_congr rfl fun k _ => ?_
  rw [ldV_apply X5 off inb o ho d k (by omega), hg, hY ⟨o + k.val, by omega⟩]

include hc hT hY in
theorem accAt_eq (n : ℕ) (hn : n ≤ min (grid0.coords t 2).val 15) : accAt (grid0.coords t) X4 X5 c qm n (ix2 d r)
    = (∑ k ∈ Finset.range 256, if k ≤ r.val then Y (256 * (grid0.coords t 2).val + k) * clip (power cc (colMax t X4 qm r) (T (256 * (grid0.coords t 2).val + k))) else 0)
      + (∑ k ∈ Finset.range 256, if r.val < k ∧ 16 ≤ (grid0.coords t 2).val then Y (256 * ((grid0.coords t 2).val - 16) + k) * clip (power cc (colMax t X4 qm r) (T (256 * ((grid0.coords t 2).val - 16) + k))) else 0)
      + ∑ j ∈ Finset.range n, ∑ k ∈ Finset.range 256, Y (256 * ((grid0.coords t 2).val - min (grid0.coords t 2).val 15 + j) + k) * clip (power cc (colMax t X4 qm r) (T (256 * ((grid0.coords t 2).val - min (grid0.coords t 2).val 15 + j) + k))) := by
  have he := row_lt t
  induction n with
  | zero =>
    unfold accAt
    rw [Finset.sum_range_zero, add_zero]
    show _ + _ = _
    rw [pv_ld X5 r d Y hY _ _ (256 * (grid0.coords t 2).val) (k0_off7_eq (grid0.coords t)) (by omega) _ (fun k => if k ≤ r.val then power cc (colMax t X4 qm r) (T (256 * (grid0.coords t 2).val + k)) else 0)
        (pDiag_own t X4 c qm cc hc r T hT),
      pv_ld X5 r d Y hY _ _ (256 * ((grid0.coords t 2).val - 16)) (off8_eq t) (by omega) _ (fun k => if r.val < k ∧ 16 ≤ (grid0.coords t 2).val then power cc (colMax t X4 qm r) (T (256 * ((grid0.coords t 2).val - 16) + k)) else 0)
        (pDiag_old t X4 c qm cc hc r T hT)]
    simp only [mul_clip_ite]
  | succ n ih =>
    have h : n < nFull (grid0.coords t) := by rw [nFull_eq]; omega
    unfold accAt
    show _ + _ = _
    have hv : pv (vBlk (grid0.coords t) X5 n) (pBlk (grid0.coords t) X4 c qm n) (ix2 d r)
        = ∑ k ∈ Finset.range 256, Y (256 * ((grid0.coords t 2).val - min (grid0.coords t 2).val 15 + n) + k) * clip (power cc (colMax t X4 qm r) (T (256 * ((grid0.coords t 2).val - min (grid0.coords t 2).val 15 + n) + k))) := by
      unfold vBlk
      rw [dif_pos h]
      exact pv_ld X5 r d Y hY _ _ _ (off10_eq t ⟨n, h⟩) (by dsimp only; omega) _ (fun k => power cc (colMax t X4 qm r) (T (256 * ((grid0.coords t 2).val - min (grid0.coords t 2).val 15 + n) + k)))
        (pBlk_apply t X4 c qm cc hc r T hT n (by omega))
    rw [ih (by omega), Finset.sum_range_succ _ n, hv, ← add_assoc]

include hc hT hY in
/-- The head's value of query `r`, lane `d`. -/
theorem headOut_apply (v15 : Vec Ideal S1x128 .f32) : headOut (grid0.coords t) X4 X5 c qm v15 (ix2 r d)
    = kernelRow (fun j : Fin 16384 => allowed (256 * (grid0.coords t 2).val + r.val) j.val) (fun j => T j.val) (fun j => Y j.val) cc
        (v15 (ix2 0 0) * Ideal.ofBits .f32 0x3B800000#32) (colMax t X4 qm r) := by
  have he := row_lt t
  unfold headOut kernelRow
  rw [outTile_apply, nFull_eq, lAt_sum t X4 c qm cc hc r T hT _ le_rfl, accAt_eq t X4 X5 c qm cc hc r d T hT Y hY _ le_rfl,
    ← sum_allowed (fun n => power cc (colMax t X4 qm r) (T n)) (grid0.coords t 2).val r.val he r.isLt, ← sum_allowed (fun n => Y n * clip (power cc (colMax t X4 qm r) (T n))) (grid0.coords t 2).val r.val he r.isLt]

end Row

end Cert.KernelIdeal.Body

end
-- ==== Proof.KernelIdeal.Block.lean ====
/-
  A grid point's output block at the ideal instance, from blocks that are the point's parts of the argument arrays: each
  element is the reference's row of its query, head and lane.
-/
module

public import proofs.«01_k».proof.Proof.KernelIdeal.HeadIdeal
public import proofs.«01_k».proof.Proof.KernelIdeal.Run

@[expose] public section

noncomputable section

namespace Cert.KernelIdeal.Body

open Cert.KernelIdeal Cert.KernelIdeal.Gen Cert.Owned Idealize.ShloMosaic
open Cert.Math Cert.Spec

theorem ldX_apply (X3 : Vec Ideal S1x256x1024 .fp8e4m3) (o : ℕ) (h3) (q : Fin 256) (d : Fin 128) (hlt : o + d.val < 1024) :
    ld X3 (oRect o h3) (ix3 (n0 := 1) 0 q d) = X3 (ix3 (n0 := 1) 0 q ⟨o + d.val, hlt⟩) := by
  unfold ld
  congr 1
  funext a; apply Fin.ext
  refine (ValueKit.rect_emb_unit_val (s := S1x256x1024) ![0, 0, o] S1x256x128.size h3 (ix3 (n0 := 1) 0 q d) a).trans ?_
  match a with
  | ⟨0, _⟩ => rfl
  | ⟨1, _⟩ => exact Nat.zero_add _
  | ⟨2, _⟩ => rfl

theorem ldQ_apply (X6 : Vec Ideal S1x1024 .f32) (o : ℕ) (h6) (l : Fin 128) (hlt : o + l.val < 1024) :
    ld X6 (Rect.unit (s := S1x1024) ![0, o] S1x128.size h6) (ix2 (n0 := 1) 0 l) = X6 (ix2 (n0 := 1) 0 ⟨o + l.val, hlt⟩) := by
  unfold ld
  congr 1
  funext a; apply Fin.ext
  refine (ValueKit.rect_emb_unit_val (s := S1x1024) ![0, o] S1x128.size h6 (ix2 (n0 := 1) 0 l) a).trans ?_
  match a with
  | ⟨0, _⟩ => rfl
  | ⟨1, _⟩ => rfl

theorem ldS_apply (X7 : Vec Ideal S1x128 .f32) (inb) (l : Fin 128) :
    ld X7 (Rect.unit (s := S1x128) ![0, 0] S1x128.size inb) (ix2 (n0 := 1) 0 l) = X7 (ix2 (n0 := 1) 0 l) := by
  unfold ld
  congr 1
  funext a; apply Fin.ext
  refine (ValueKit.rect_emb_unit_val (s := S1x128) ![0, 0] S1x128.size inb (ix2 (n0 := 1) 0 l) a).trans ?_
  match a with
  | ⟨0, _⟩ => rfl
  | ⟨1, _⟩ => exact Nat.zero_add _

section Head

variable (t : Fin grid0.N) (X3 : Vec Ideal S1x256x1024 .fp8e4m3) (X4 : Vec Ideal S1x16384x128 .fp8e4m3) (X5 : Vec Ideal S1x128x16384 .fp8e4m3)
  (X6 : Vec Ideal S1x1024 .f32) (X7 X8 : Vec Ideal S1x128 .f32)
  (x : Vec Ideal S4x16384x2048 .fp8e4m3) (k v : Vec Ideal S4x16384x256 .fp8e4m3) (qs : Vec Ideal S16 .f32) (ks vs : Vec Ideal S2 .f32)
  (b : Fin 4) (h : Fin 2)
  (hx : ∀ (r : Fin 256) (l : Fin 1024) (hr : 256 * (grid0.coords t 2).val + r.val < 16384) (hl : h.val * 1024 + l.val < 2048),
    X3 (ix3 (n0 := 1) 0 r l) = x (ix3 b ⟨256 * (grid0.coords t 2).val + r.val, hr⟩ ⟨h.val * 1024 + l.val, hl⟩))
  (hk : ∀ (j : Fin 16384) (d : Fin 128) (hd : h.val * 128 + d.val < 256), X4 (ix3 (n0 := 1) 0 j d) = k (ix3 b j ⟨h.val * 128 + d.val, hd⟩))
  (hv : ∀ (j : Fin 16384) (d : Fin 128) (hd : h.val * 128 + d.val < 256), X5 (ix3 (n0 := 1) 0 d j) = v (ix3 b j ⟨h.val * 128 + d.val, hd⟩))
  (hqs : ∀ (l : Fin 1024) (hl : h.val * 8 + l.val / 128 < 16), X6 (ix2 (n0 := 1) 0 l) = qs (ix1 ⟨h.val * 8 + l.val / 128, hl⟩))
  (hks : ∀ l : Fin 128, X7 (ix2 (n0 := 1) 0 l) = ks (ix1 h)) (hvs : ∀ l : Fin 128, X8 (ix2 (n0 := 1) 0 l) = vs (ix1 h))
  (hpos : ∀ g : Fin 8, 0 ≤ scale qs ks h g)

include hx hk hv hqs hks hvs hpos in
/-- Head `g`'s tile at query `r`, lane `d`. -/
theorem headTile_apply (g : Fin 8) (r : Fin 256) (d : Fin 128) (hr : 256 * (grid0.coords t 2).val + r.val < 16384) (m : EReal)
    (hm : ∀ u, m ≤ u ↔ ∀ j : Fin 16384, (if allowed (256 * (grid0.coords t 2).val + r.val) j.val
      then score x k b h g ⟨256 * (grid0.coords t 2).val + r.val, hr⟩ j * scale qs ks h g else ⊥) ≤ u) :
    headTile (grid0.coords t) X3 X4 X5 X6 X7 X8 g (ix2 r d)
      = referenceRow (fun j : Fin 16384 => allowed (256 * (grid0.coords t 2).val + r.val) j.val)
          (score x k b h g ⟨256 * (grid0.coords t 2).val + r.val, hr⟩) (value v b h d) (scale qs ks h g) (vscale vs h) m := by
  have hh := h.isLt
  have hg := g.isLt
  unfold headTile headUpd
  set cv := cVec (ld X7 (Rect.unit (s := S1x128) ![0, 0] S1x128.size inb_S1x128_S1x128_0_0))
    (ld X6 (Rect.unit (s := S1x1024) ![0, 128 * g.val] S1x128.size (lanes6 g))) with ecv
  have hc : ∀ l : Fin 128, cv (ix2 0 l) = scale qs ks h g := fun l => by
    rw [ecv, cVec_apply, ldS_apply, ldQ_apply X6 _ _ l (by omega), hks, hqs _ (by dsimp only; omega)]
    unfold scale
    congr 3
    congr 1
    apply Fin.ext
    show h.val * 8 + (128 * g.val + l.val) / 128 = h.val * 8 + g.val
    omega
  set qm := qMat cv (ld X3 (oRect (128 * g.val) (lanes3 g))) with eqm
  have hq : ∀ d : Fin 128, qm (ix2 r d) = x (ix3 b ⟨256 * (grid0.coords t 2).val + r.val, hr⟩ ⟨h.val * 1024 + g.val * 128 + d.val, by omega⟩) := fun d => by
    rw [eqm, qMat_apply cv _ hc (hpos g), ldX_apply X3 _ _ r d (by omega), hx _ _ hr (by dsimp only; omega)]
    congr 2
    apply Fin.ext
    show h.val * 1024 + (128 * g.val + d.val) = h.val * 1024 + g.val * 128 + d.val
    omega
  let T : ℕ → EReal := fun n => if hn : n < 16384 then score x k b h g ⟨256 * (grid0.coords t 2).val + r.val, hr⟩ ⟨n, hn⟩ else 0
  let Y : ℕ → EReal := fun n => if hn : n < 16384 then value v b h d ⟨n, hn⟩ else 0
  have eT : ∀ j : Fin 16384, T j.val = score x k b h g ⟨256 * (grid0.coords t 2).val + r.val, hr⟩ j := fun j => dif_pos j.isLt
  have eY : ∀ j : Fin 16384, Y j.val = value v b h d j := fun j => dif_pos j.isLt
  have hT : ∀ j : Fin 16384, T j.val = ∑ d : Fin 128, X4 (ix3 (n0 := 1) 0 j d) * qm (ix2 r d) := fun j => by
    rw [eT]
    unfold score
    exact Finset.sum_congr rfl fun d _ => by rw [hq, hk j d (by omega)]
  have hY : ∀ j : Fin 16384, Y j.val = X5 (ix3 (n0 := 1) 0 d j) := fun j => by
    rw [eY, hv j d (by omega)]
    rfl
  rw [headOut_apply t X4 X5 cv qm _ hc r d T hT Y hY, ldS_apply, hvs]
  simp only [eT, eY]
  have hM : ∀ u, colMax t X4 qm r ≤ u ↔ ∀ j : Fin 16384, allowed (256 * (grid0.coords t 2).val + r.val) j.val
      → score x k b h g ⟨256 * (grid0.coords t 2).val + r.val, hr⟩ j ≤ u := fun u => by
    rw [colMax_le t X4 qm r T hT]
    simp only [eT]
  have hA : ∃ j : Fin 16384, allowed (256 * (grid0.coords t 2).val + r.val) j.val :=
    ⟨⟨256 * (grid0.coords t 2).val + r.val, hr⟩, le_rfl, by dsimp only; omega⟩
  exact kernelRow_eq _ _ hA (hpos g) hM hm

end Head

/-- The block at query `r`, lane `l`: head `l / 128`'s tile. -/
theorem outBlk_apply (i : grid0.Coords) (X3 : Vec Ideal S1x256x1024 .fp8e4m3) (X4 : Vec Ideal S1x16384x128 .fp8e4m3) (X5 : Vec Ideal S1x128x16384 .fp8e4m3)
    (X6 : Vec Ideal S1x1024 .f32) (X7 X8 : Vec Ideal S1x128 .f32) (r : Fin 256) (l : Fin 1024) :
    outBlk i X3 X4 X5 X6 X7 X8 (ix3 (n0 := 1) 0 r l) = headTile i X3 X4 X5 X6 X7 X8 ⟨l.val / 128, by omega⟩ (ix2 r ⟨l.val % 128, by omega⟩) := by
  have e : ∀ T : FVec Ideal S256x128 .bf16, shapeCast S1x256x128 T shapeCasts_S256x128_S1x256x128 (ix3 (n0 := 1) 0 r ⟨l.val % 128, by omega⟩)
      = T (ix2 r ⟨l.val % 128, by omega⟩) := fun T => by
    pointwise []
  exact e _

end Cert.KernelIdeal.Body

end
-- ==== Proof.KernelIdeal.Win.lean ====
/-
  The blocks a grid point reads, element by element, as parts of the argument arrays, and where its output block lies.
-/
module

public import proofs.«01_k».proof.Proof.KernelIdeal.Run
public import Idealize.ShloMosaic.Lib.StableHlo.ReadAt
public import Idealize.ShloMosaic.Lib.Pointwise

@[expose] public section

noncomputable section

namespace Cert.KernelIdeal.Body

open Cert.KernelIdeal Cert.KernelIdeal.Gen Cert.Owned Idealize.ShloMosaic Idealize.ShloMosaic.TcCoe Idealize.SL.Sem

variable (m : (ℓ : Loc nD τ sig) → Buf (Elt Ideal) ℓ) (c : Dev nD)

/-! ## The arrays the host operations make -/

theorem V_v0 (b : Fin 4) (ch : Fin 256) (j : Fin 16384) :
    V m c main_v0 (ix3 b ch j) = m ((c : Thread nD τ).loc main_arg2) (ix3 b j ch) := by
  after_reads_at
theorem V_v3 (l : Fin 2048) :
    V m c main_v3 (ix2 (n0 := 1) 0 l) = m ((c : Thread nD τ).loc main_arg3) (ix1 ⟨l.val / 128, by omega⟩) := by
  after_reads_at
theorem V_v6 (l : Fin 256) :
    V m c main_v6 (ix2 (n0 := 1) 0 l) = m ((c : Thread nD τ).loc main_arg4) (ix1 ⟨l.val / 128, by omega⟩) := by
  after_reads_at
theorem V_v9 (l : Fin 256) :
    V m c main_v9 (ix2 (n0 := 1) 0 l) = m ((c : Thread nD τ).loc main_arg5) (ix1 ⟨l.val / 128, by omega⟩) := by
  after_reads_at

/-! ## The block indices -/

theorem index0_eq : ∀ t : Fin grid0.N, win0_0.index t = ![(grid0.coords t 0).val, (grid0.coords t 2).val, (grid0.coords t 1).val] := by decide +kernel
theorem index1_eq : ∀ t : Fin grid0.N, win0_1.index t = ![(grid0.coords t 0).val, 0, (grid0.coords t 1).val] := by decide +kernel
theorem index2_eq : ∀ t : Fin grid0.N, win0_2.index t = ![(grid0.coords t 0).val, (grid0.coords t 1).val, 0] := by decide +kernel
theorem index3_eq : ∀ t : Fin grid0.N, win0_3.index t = ![0, (grid0.coords t 1).val] := by decide +kernel
theorem index4_eq : ∀ t : Fin grid0.N, win0_4.index t = ![0, (grid0.coords t 1).val] := by decide +kernel
theorem index5_eq : ∀ t : Fin grid0.N, win0_5.index t = ![0, (grid0.coords t 1).val] := by decide +kernel
theorem index6_eq : ∀ t : Fin grid0.N, win0_6.index t = ![(grid0.coords t 0).val, (grid0.coords t 2).val, (grid0.coords t 1).val] := by decide +kernel

/-- Point `t`'s batch, -/
def bIx (t : Fin grid0.N) : Fin 4 := grid0.coords t 0
/-- and its key head. -/
def hIx (t : Fin grid0.N) : Fin 2 := grid0.coords t 1

variable (t : Fin cfg0.N)

theorem iblk0_apply (r : Fin 256) (l : Fin 1024) (hr : 256 * (grid0.coords t 2).val + r.val < 16384) (hl : (hIx t).val * 1024 + l.val < 2048) :
    iblk m c 0 t (ix3 (n0 := 1) 0 r l)
      = m ((c : Thread nD τ).loc main_arg0) (ix3 (bIx t) ⟨256 * (grid0.coords t 2).val + r.val, hr⟩ ⟨(hIx t).val * 1024 + l.val, hl⟩) := by
  rw [← V_main_arg0 m c]
  have e := index0_eq t
  have e0 := congrFun e 0; have e1 := congrFun e 1; have e2 := congrFun e 2
  show V m c main_arg0 (((cfg0.win 0).blk t).view.emb _) = _
  congr 1
  funext a; apply Fin.ext
  match a with
  | ⟨0, _⟩ => show win0_0.index t (0 : Fin 3) * 1 + 1 * 0 = _; rw [e0]; exact Nat.mul_one _
  | ⟨1, _⟩ => show win0_0.index t (1 : Fin 3) * 256 + 1 * r.val = 256 * _ + r.val; rw [e1]; show (grid0.coords t 2).val * 256 + _ = _; omega
  | ⟨2, _⟩ => show win0_0.index t (2 : Fin 3) * 1024 + 1 * l.val = _ * 1024 + l.val; rw [e2]; show (hIx t).val * 1024 + _ = _; omega

theorem iblk1_apply (j : Fin 16384) (d : Fin 128) (hd : (hIx t).val * 128 + d.val < 256) :
    iblk m c 1 t (ix3 (n0 := 1) 0 j d) = m ((c : Thread nD τ).loc main_arg1) (ix3 (bIx t) j ⟨(hIx t).val * 128 + d.val, hd⟩) := by
  rw [← V_main_arg1 m c]
  have e := index1_eq t
  have e0 := congrFun e 0; have e1 := congrFun e 1; have e2 := congrFun e 2
  show V m c main_arg1 (((cfg0.win 1).blk t).view.emb _) = _
  congr 1
  funext a; apply Fin.ext
  match a with
  | ⟨0, _⟩ => show win0_1.index t (0 : Fin 3) * 1 + 1 * 0 = _; rw [e0]; exact Nat.mul_one _
  | ⟨1, _⟩ => show win0_1.index t (1 : Fin 3) * 16384 + 1 * j.val = j.val; rw [e1]; show 0 * 16384 + _ = _; omega
  | ⟨2, _⟩ => show win0_1.index t (2 : Fin 3) * 128 + 1 * d.val = _ * 128 + d.val; rw [e2]; show (hIx t).val * 128 + _ = _; omega

theorem iblk2_apply (j : Fin 16384) (d : Fin 128) (hd : (hIx t).val * 128 + d.val < 256) :
    iblk m c 2 t (ix3 (n0 := 1) 0 d j) = m ((c : Thread nD τ).loc main_arg2) (ix3 (bIx t) j ⟨(hIx t).val * 128 + d.val, hd⟩) := by
  rw [← V_v0 m c (bIx t) ⟨(hIx t).val * 128 + d.val, hd⟩ j]
  have e := index2_eq t
  have e0 := congrFun e 0; have e1 := congrFun e 1; have e2 := congrFun e 2
  show V m c main_v0 (((cfg0.win 2).blk t).view.emb _) = _
  congr 1
  funext a; apply Fin.ext
  match a with
  | ⟨0, _⟩ => show win0_2.index t (0 : Fin 3) * 1 + 1 * 0 = _; rw [e0]; exact Nat.mul_one _
  | ⟨1, _⟩ => show win0_2.index t (1 : Fin 3) * 128 + 1 * d.val = _ * 128 + d.val; rw [e1]; show (hIx t).val * 128 + _ = _; omega
  | ⟨2, _⟩ => show win0_2.index t (2 : Fin 3) * 16384 + 1 * j.val = j.val; rw [e2]; show 0 * 16384 + _ = _; omega

theorem iblk3_apply (l : Fin 1024) (hl : (hIx t).val * 8 + l.val / 128 < 16) :
    iblk m c 3 t (ix2 (n0 := 1) 0 l) = m ((c : Thread nD τ).loc main_arg3) (ix1 ⟨(hIx t).val * 8 + l.val / 128, hl⟩) := by
  have h1 := (hIx t).isLt
  have e := index3_eq t
  have e0 := congrFun e 0; have e1 := congrFun e 1
  refine Eq.trans (b := V m c main_v3 (ix2 (n0 := 1) 0 ⟨(hIx t).val * 1024 + l.val, by omega⟩)) ?_ ?_
  · show V m c main_v3 (((cfg0.win 3).blk t).view.emb _) = _
    congr 1
    funext a; apply Fin.ext
    match a with
    | ⟨0, _⟩ => show win0_3.index t (0 : Fin 2) * 1 + 1 * 0 = 0; rw [e0]; rfl
    | ⟨1, _⟩ => show win0_3.index t (1 : Fin 2) * 1024 + 1 * l.val = _ * 1024 + l.val; rw [e1]; show (hIx t).val * 1024 + _ = _; omega
  · rw [V_v3]
    congr 2
    apply Fin.ext
    show ((hIx t).val * 1024 + l.val) / 128 = (hIx t).val * 8 + l.val / 128
    omega

theorem iblk4_apply (l : Fin 128) : iblk m c 4 t (ix2 (n0 := 1) 0 l) = m ((c : Thread nD τ).loc main_arg4) (ix1 (hIx t)) := by
  have h1 := (hIx t).isLt
  have e := index4_eq t
  have e0 := congrFun e 0; have e1 := congrFun e 1
  refine Eq.trans (b := V m c main_v6 (ix2 (n0 := 1) 0 ⟨(hIx t).val * 128 + l.val, by omega⟩)) ?_ ?_
  · show V m c main_v6 (((cfg0.win 4).blk t).view.emb _) = _
    congr 1
    funext a; apply Fin.ext
    match a with
    | ⟨0, _⟩ => show win0_4.index t (0 : Fin 2) * 1 + 1 * 0 = 0; rw [e0]; rfl
    | ⟨1, _⟩ => show win0_4.index t (1 : Fin 2) * 128 + 1 * l.val = _ * 128 + l.val; rw [e1]; show (hIx t).val * 128 + _ = _; omega
  · rw [V_v6]
    congr 2
    apply Fin.ext
    show ((hIx t).val * 128 + l.val) / 128 = (hIx t).val
    omega

theorem iblk5_apply (l : Fin 128) : iblk m c 5 t (ix2 (n0 := 1) 0 l) = m ((c : Thread nD τ).loc main_arg5) (ix1 (hIx t)) := by
  have h1 := (hIx t).isLt
  have e := index5_eq t
  have e0 := congrFun e 0; have e1 := congrFun e 1
  refine Eq.trans (b := V m c main_v9 (ix2 (n0 := 1) 0 ⟨(hIx t).val * 128 + l.val, by omega⟩)) ?_ ?_
  · show V m c main_v9 (((cfg0.win 5).blk t).view.emb _) = _
    congr 1
    funext a; apply Fin.ext
    match a with
    | ⟨0, _⟩ => show win0_5.index t (0 : Fin 2) * 1 + 1 * 0 = 0; rw [e0]; rfl
    | ⟨1, _⟩ => show win0_5.index t (1 : Fin 2) * 128 + 1 * l.val = _ * 128 + l.val; rw [e1]; show (hIx t).val * 128 + _ = _; omega
  · rw [V_v9]
    congr 2
    apply Fin.ext
    show ((hIx t).val * 128 + l.val) / 128 = (hIx t).val
    omega

/-- Where element `(r, l)` of point `t`'s output block lies. -/
theorem emb6_apply (r : Fin 256) (l : Fin 1024) (hr : 256 * (grid0.coords t 2).val + r.val < 16384) (hl : (hIx t).val * 1024 + l.val < 2048) :
    ((cfg0.win 6).blk t).view.emb (ix3 (n0 := 1) 0 r l)
      = (ix3 (bIx t) ⟨256 * (grid0.coords t 2).val + r.val, hr⟩ ⟨(hIx t).val * 1024 + l.val, hl⟩ : S4x16384x2048.Idx) := by
  have e := index6_eq t
  have e0 := congrFun e 0; have e1 := congrFun e 1; have e2 := congrFun e 2
  funext a; apply Fin.ext
  match a with
  | ⟨0, _⟩ => show win0_6.index t (0 : Fin 3) * 1 + 1 * 0 = _; rw [e0]; exact Nat.mul_one _
  | ⟨1, _⟩ => show win0_6.index t (1 : Fin 3) * 256 + 1 * r.val = 256 * _ + r.val; rw [e1]; show (grid0.coords t 2).val * 256 + _ = _; omega
  | ⟨2, _⟩ => show win0_6.index t (2 : Fin 3) * 1024 + 1 * l.val = _ * 1024 + l.val; rw [e2]; show (hIx t).val * 1024 + _ = _; omega

end Cert.KernelIdeal.Body

end
-- ==== Proof.RefVal.lean ====
/-
  The reference's result, element by element: every query head's row is `referenceRow` of its scores, values and scales.
-/
module

public import proofs.«01_k».proof.Proof.Spec
public import proofs.«01_k».proof.Proof.Gen.ReferenceIdeal.Value

@[expose] public section

noncomputable section

namespace Cert.ReferenceIdeal.Val

open Cert.ReferenceIdeal Cert.ReferenceIdeal.Gen Idealize.ShloMosaic
open Cert.Math

open Cert.Spec

variable (x : Vec Ideal S4x16384x2048 .fp8e4m3) (k v : Vec Ideal S4x16384x256 .fp8e4m3) (qs : Vec Ideal S16 .f32) (ks vs : Vec Ideal S2 .f32)

/-- The reference's maximum of the masked scaled scores of a query. -/
def rowMax (b : Fin 4) (h : Fin 2) (g : Fin 8) (r : Fin 16384) : EReal :=
  Finset.fold max (⊥ : EReal) (fun j : Fin 16384 => if allowed r.val j.val then score x k b h g r j * scale qs ks h g else ⊥) Finset.univ

theorem rowMax_le (b : Fin 4) (h : Fin 2) (g : Fin 8) (r : Fin 16384) (u : EReal) :
    rowMax x k qs ks b h g r ≤ u ↔ ∀ j : Fin 16384, (if allowed r.val j.val then score x k b h g r j * scale qs ks h g else ⊥) ≤ u := by
  unfold rowMax
  rw [Finset.fold_max_le]
  simp

theorem pay3_apply (b : Fin 4) (h : Fin 2) (g : Fin 8) (r j : Fin 16384) :
    k0_pay3 (F := Ideal) x k qs ks (ix5 b h g r j)
      = weight (fun j : Fin 16384 => allowed r.val j.val) (score x k b h g r) (scale qs ks h g) (rowMax x k qs ks b h g r) j := by
  pointwise [k0_pay3]
  simp only [mask_word _ _ r.isLt (Fin.isLt _), select_if, ofBits_bot]
  rfl

/-- The reference's result at batch `b`, query `r`, lane `l`. -/
theorem G6_apply (b : Fin 4) (r : Fin 16384) (l : Fin 2048) :
    Value.G6 (F := Ideal) x k v qs ks vs (ix3 b r l)
      = referenceRow (fun j : Fin 16384 => allowed r.val j.val) (score x k b ⟨l.val / 1024, by omega⟩ ⟨l.val / 128 % 8, by omega⟩ r)
          (value v b ⟨l.val / 1024, by omega⟩ ⟨l.val % 128, by omega⟩) (scale qs ks ⟨l.val / 1024, by omega⟩ ⟨l.val / 128 % 8, by omega⟩)
          (vscale vs ⟨l.val / 1024, by omega⟩) (rowMax x k qs ks b ⟨l.val / 1024, by omega⟩ ⟨l.val / 128 % 8, by omega⟩ r) := by
  pointwise [Value.G6, k0_pay1, k0_pay2, k0_pay4, k0_pay5]
  simp only [pay3_apply, ofBits_448, ofBits_neg448, ofBits_256]
  rfl

end Cert.ReferenceIdeal.Val

end
-- ==== Proof.KernelIdeal.Final.lean ====
/-
  The kernel's result array at the ideal instance is the reference's function of the argument arrays, when no score scale
  is negative.
-/
module

public import proofs.«01_k».proof.Proof.KernelIdeal.Block
public import proofs.«01_k».proof.Proof.KernelIdeal.Win
public import proofs.«01_k».proof.Proof.RefVal

@[expose] public section

noncomputable section

namespace Cert.KernelIdeal.Body

open Cert.KernelIdeal Cert.KernelIdeal.Gen Cert.Owned Idealize.ShloMosaic Idealize.ShloMosaic.TcCoe Idealize.SL.Sem
open Cert.Math Cert.Spec

variable (m : (ℓ : Loc nD τ sig) → Buf (Elt Ideal) ℓ) (c : Dev nD)

/-- The reference's function of the argument arrays as launched. -/
def G : Vec Ideal S4x16384x2048 .bf16 :=
  Cert.ReferenceIdeal.Value.G6 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

variable (hpos : ∀ (h : Fin 2) (g : Fin 8), 0 ≤ scale (m ((c : Thread nD τ).loc main_arg3)) (m ((c : Thread nD τ).loc main_arg4)) h g)

include hpos in
/-- Element `(r, l)` of point `t`'s block. -/
theorem blkAt_apply (t : Fin cfg0.N) (r : Fin 256) (l : Fin 1024) (hr : 256 * (grid0.coords t 2).val + r.val < 16384)
    (hl : (hIx t).val * 1024 + l.val < 2048) :
    blkAt m c t (ix3 (n0 := 1) 0 r l) = G m c (ix3 (bIx t) ⟨256 * (grid0.coords t 2).val + r.val, hr⟩ ⟨(hIx t).val * 1024 + l.val, hl⟩) := by
  unfold blkAt G
  rw [outBlk_apply, Cert.ReferenceIdeal.Val.G6_apply]
  have eh : (⟨((hIx t).val * 1024 + l.val) / 1024, by omega⟩ : Fin 2) = hIx t := Fin.ext (by show ((hIx t).val * 1024 + l.val) / 1024 = (hIx t).val; omega)
  have eg : (⟨((hIx t).val * 1024 + l.val) / 128 % 8, by omega⟩ : Fin 8) = ⟨l.val / 128, by omega⟩ :=
    Fin.ext (by show ((hIx t).val * 1024 + l.val) / 128 % 8 = l.val / 128; omega)
  have ed : (⟨((hIx t).val * 1024 + l.val) % 128, by omega⟩ : Fin 128) = ⟨l.val % 128, by omega⟩ :=
    Fin.ext (by show ((hIx t).val * 1024 + l.val) % 128 = l.val % 128; omega)
  dsimp only
  rw [eh, eg, ed]
  exact headTile_apply t _ _ _ _ _ _ _ _ _ _ _ _ (bIx t) (hIx t) (iblk0_apply m c t) (iblk1_apply m c t) (iblk2_apply m c t)
    (iblk3_apply m c t) (iblk4_apply m c t) (iblk5_apply m c t) (hpos (hIx t)) _ r _ hr _
    (Cert.ReferenceIdeal.Val.rowMax_le _ _ _ _ _ _ _ _)

/-- A block's contents are a window of an array when its elements are the array's at the block's place. -/
theorem cut6_eq (t : Fin cfg0.N) (X : Vec Ideal S1x256x1024 .bf16) (Y : Vec Ideal S4x16384x2048 .bf16)
    (h : ∀ (r : Fin 256) (l : Fin 1024) (hr : 256 * (grid0.coords t 2).val + r.val < 16384) (hl : (hIx t).val * 1024 + l.val < 2048),
      X (ix3 (n0 := 1) 0 r l) = Y (ix3 (bIx t) ⟨256 * (grid0.coords t 2).val + r.val, hr⟩ ⟨(hIx t).val * 1024 + l.val, hl⟩)) :
    (cfg0.win 6).cut (grid0.coords t) X = ((cfg0.win 6).blk t).view.read (Elt Ideal) Y := by
  have h1 := (hIx t).isLt
  have h2 : (grid0.coords t 2).val < 64 := (grid0.coords t 2).isLt
  funext j
  show X j = Y (((cfg0.win 6).blk t).view.emb j)
  have hj : ∃ (r : Fin 256) (l : Fin 1024), j = (ix3 (n0 := 1) 0 r l : S1x256x1024.Idx) := by
    refine ⟨j 1, j 2, ?_⟩
    funext a
    match a with
    | ⟨0, _⟩ => exact Subsingleton.elim (α := Fin 1) _ _
    | ⟨1, _⟩ => rfl
    | ⟨2, _⟩ => rfl
  obtain ⟨r, l, rfl⟩ := hj
  have hr : 256 * (grid0.coords t 2).val + r.val < 16384 := by omega
  have hl : (hIx t).val * 1024 + l.val < 2048 := by omega
  exact (h r l hr hl).trans (congrArg Y (emb6_apply t r l hr hl).symm)

include hpos in
/-- What point `t` writes back is its block of `G`. -/
theorem flushed6_eq (t : Fin cfg0.N) : (dats m 0 c).flushed 6 t = ((cfg0.win 6).blk t).view.read (Elt Ideal) (G m c) := by
  show (cfg0.win 6).cut (grid0.coords t) ((dats m 0 c).after 6 t) = _
  rw [after0_6]
  exact cut6_eq t _ _ (blkAt_apply m c hpos t)

/-- Every block index is some point's. -/
theorem point_exists : ∀ (b : Fin 4) (h : Fin 2) (e : Fin 64), ∃ t : Fin grid0.N,
    (grid0.coords t 0).val = b.val ∧ (grid0.coords t 1).val = h.val ∧ (grid0.coords t 2).val = e.val := by
  intro b h e
  refine ⟨⟨(b.val * 2 + h.val) * 64 + e.val, ?_⟩, ?_⟩
  · show _ < 512; omega
  · revert b h e; decide +kernel

/-- Every element of the result lies in some point's block. -/
theorem covered6 (i : S4x16384x2048.Idx) : ∃ t : Fin cfg0.N, (cfg0.win 6).flush t = true ∧ i ∈ ((cfg0.win 6).blk t).view.set := by
  have i1 : (i 1).val < 16384 := (i 1).isLt
  have i2 : (i 2).val < 2048 := (i 2).isLt
  obtain ⟨t, e0, e1, e2⟩ := point_exists (i 0) ⟨(i 2).val / 1024, by omega⟩ ⟨(i 1).val / 256, by omega⟩
  dsimp only at e0 e1 e2
  refine ⟨t, flush0_6 t, ?_⟩
  have h := ((cfg0.win 6).blk t).view.emb_mem_set (ix3 (n0 := 1) 0 (⟨(i 1).val % 256, by omega⟩ : Fin 256) (⟨(i 2).val % 1024, by omega⟩ : Fin 1024))
  have eh : (hIx t).val = (i 2).val / 1024 := e1
  rw [emb6_apply t _ _ (by dsimp only; omega) (by dsimp only; omega)] at h
  refine (congrArg (· ∈ ((cfg0.win 6).blk t).view.set) ?_).mpr h
  refine funext fun (a : Fin 3) => Fin.ext ?_
  match a with
  | ⟨0, _⟩ => exact e0.symm
  | ⟨1, _⟩ => show (i 1).val = 256 * (grid0.coords t 2).val + (i 1).val % 256; omega
  | ⟨2, _⟩ => show (i 2).val = (hIx t).val * 1024 + (i 2).val % 1024; omega

include hpos in
/-- The result array after the run. -/
theorem final6 : (dats m 0 c).arrAt 6 cfg0.N = G m c :=
  (dats m 0 c).arrAt_eq_of_cover 6 (G m c) (fun t _ => flushed6_eq m c hpos t) covered6

/-- The run: under non-negative scales the result is `G`, the arguments unchanged. -/
theorem run_value (ρ : Dev nD → PrngReg)
    (hpos : ∀ (c : Dev nD) (h : Fin 2) (g : Fin 8), 0 ≤ scale (m ((c : Thread nD τ).loc main_arg3)) (m ((c : Thread nD τ).loc main_arg4)) h g) :
    θ_run defs (onTc (τ := τ) (main (F := Ideal))) ⟨m, fun _ => 0, ρ⟩ (fun r => ∀ c : Dev nD,
      r.2.mem ((c.tc : Thread nD τ).loc main_v10) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.1.1 c).1 6).trans (final6 m c (hpos c)), h.2 c⟩)
    (θ_run_and (run_main m ρ) (unchanged m ρ))

end Cert.KernelIdeal.Body

end
-- ==== Proof.Scales.lean ====
/-
  The precondition: the side conditions of its operations, and what it says of the scales.
-/
module

public import proofs.«01_k».proof.Proof.Spec
public import proofs.«01_k».proof.Pre_scales_not_negative
public import Idealize.ShloMosaic.Lib.ReduceAll
public import Idealize.ShloMosaic.Lib.Pointwise

@[expose] public section

noncomputable section

namespace Cert.Pre_scales_not_negative

open Idealize.ShloMosaic Cert.Spec

theorem facts : Facts where
  shapeCasts_S16_S2x8 := by decide
  bcast_S2_S2x1_0 := by decide
  bcast_S2x1_S2x8_0_1 := by decide
  bcast_S_S2x8 := by decide
  reducesTo_S2x8_S_d0_1 := by decide
  h_S_ := by decide

variable [Facts]
open Facts

/-- Under the precondition no head's score scale is negative. -/
theorem scale_nonneg (x : FVec Ideal S4x16384x2048 .fp8e4m3) (k v : FVec Ideal S4x16384x256 .fp8e4m3) (qs : FVec Ideal S16 .f32) (ks vs : FVec Ideal S2 .f32)
    (hp : fn (F := Ideal) x k v qs ks vs = fun _ => 1#1) (h : Fin 2) (g : Fin 8) : 0 ≤ scale qs ks h g := by
  have e := congrFun hp (Shape.Idx.first h_S_)
  dsimp only [fn] at e
  have hs : Subsingleton S_.Idx := ⟨fun a b => funext fun x => x.elim0⟩
  have e1 := Host.reduce_andi_all _ _ _ _ _ e (ix2 h g)
  have e2 : (0 : EReal) ≤ qs (ix1 ⟨h.val * 8 + g.val, by omega⟩) * ks (ix1 h) := by
    revert e1
    pointwise []
    intro e1
    by_contra hn
    rw [decide_eq_false hn] at e1
    exact absurd e1 (by decide)
  exact mul_nonneg e2 rsqrt128_nonneg

end Cert.Pre_scales_not_negative

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.ReferenceIdeal.Value
public import proofs.«01_k».proof.Proof.Kernel.Run
public import proofs.«01_k».proof.Proof.KernelIdeal.Run
public import proofs.«01_k».proof.Proof.KernelIdeal.Final
public import proofs.«01_k».proof.Proof.Scales
public import Idealize.ShloMosaic.Adequacy
public import Idealize.ShloMosaic.Init

@[expose] public section

noncomputable section

namespace Cert.Proof

open Idealize.ShloMosaic Idealize.SL.Sem

/-- At the ideal instance kernel and reference end with equal results, when no score scale is negative. -/
theorem algebraic : Cert.algebraic_KernelIdeal_ReferenceIdeal_pre_scales_not_negative
    (hKernelIdeal := Cert.KernelIdeal.Gen.facts) (hReferenceIdeal := Cert.ReferenceIdeal.Gen.facts)
    (hPre_scales_not_negative := Cert.Pre_scales_not_negative.facts) := by
  intro m g m' g' hp he
  refine ⟨fun c => Cert.KernelIdeal.Body.G m c,
    Cert.KernelIdeal.Body.run_value m g fun c h k => @Cert.Pre_scales_not_negative.scale_nonneg Cert.Pre_scales_not_negative.facts _ _ _ _ _ _ (hp c) h k, ?_⟩
  refine (θ_run _ _ _).mono (fun r h c => ⟨(h c).1.trans ?_, (h c).2⟩) (Cert.ReferenceIdeal.Value.run m' g')
  obtain ⟨e0, e1, e2, e3, e4, e5⟩ := he c
  rw [e0, e1, e2, e3, e4, e5]
  rfl

theorem claim : Cert.Claim :=
  ⟨Cert.Kernel.Gen.facts, Cert.KernelIdeal.Gen.facts, Cert.ReferenceIdeal.Gen.facts, Cert.Pre_scales_not_negative.facts,
    fun m g _ => @Cert.Kernel.Body.frame Bits _ m g,
    fun m g _ => @Cert.KernelIdeal.Body.frame Ideal _ _ m g,
    fun m g _ => @Cert.KernelIdeal.Body.frame Ideal _ _ m g,
    fun m g _ => @Cert.ReferenceIdeal.Gen.frame Ideal _ m g,
    fun m g _ => @Cert.ReferenceIdeal.Gen.frame Ideal _ m g,
    IdealRules.named_const.statement Cert.KernelIdeal.κ "log2e" .f32 0x3FB8AA3B#32 _ rfl,
    algebraic⟩

end Cert.Proof

end
